-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastIdeal_finite [hPre_finite : Cert.Pre_finite.Facts] (m : (ℓ : Loc Cert.LastIdeal.nD Cert.LastIdeal.τ Cert.LastIdeal.sig) → Buf (Elt Ideal) ℓ) : Prop :=
  ∀ c : Dev Cert.LastIdeal.nD,
    (Cert.Pre_finite.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8)) (m ((c.tc : Thread Cert.LastIdeal.nD Cert.LastIdeal.τ).loc Cert.LastIdeal.main_arg9)) (m ((c.tc : Thread Cert.LastIdeal.nD Cert.LastIdeal.τ).loc Cert.LastIdeal.main_arg10))) = (fun _ => 1#1)

def Pre_LastReferenceIdeal (m : (ℓ : Loc Cert.LastReferenceIdeal.nD Cert.LastReferenceIdeal.τ Cert.LastReferenceIdeal.sig) → Buf (Elt Ideal) ℓ) : Prop :=
  True

def Pre_LastReferenceIdeal_finite [hPre_finite : Cert.Pre_finite.Facts] (m : (ℓ : Loc Cert.LastReferenceIdeal.nD Cert.LastReferenceIdeal.τ Cert.LastReferenceIdeal.sig) → Buf (Elt Ideal) ℓ) : Prop :=
  ∀ c : Dev Cert.LastReferenceIdeal.nD,
    (Cert.Pre_finite.fn (F := Ideal) (m ((c.tc : Thread Cert.LastReferenceIdeal.nD Cert.LastReferenceIdeal.τ).loc Cert.LastReferenceIdeal.main_arg0)) (m ((c.tc : Thread Cert.LastReferenceIdeal.nD Cert.LastReferenceIdeal.τ).loc Cert.LastReferenceIdeal.main_arg1)) (m ((c.tc : Thread Cert.LastReferenceIdeal.nD Cert.LastReferenceIdeal.τ).loc Cert.LastReferenceIdeal.main_arg2)) (m ((c.tc : Thread Cert.LastReferenceIdeal.nD Cert.LastReferenceIdeal.τ).loc Cert.LastReferenceIdeal.main_arg3)) (m ((c.tc : Thread Cert.LastReferenceIdeal.nD Cert.LastReferenceIdeal.τ).loc Cert.LastReferenceIdeal.main_arg4)) (m ((c.tc : Thread Cert.LastReferenceIdeal.nD Cert.LastReferenceIdeal.τ).loc Cert.LastReferenceIdeal.main_arg5)) (m ((c.tc : Thread Cert.LastReferenceIdeal.nD Cert.LastReferenceIdeal.τ).loc Cert.LastReferenceIdeal.main_arg6)) (m ((c.tc : Thread Cert.LastReferenceIdeal.nD Cert.LastReferenceIdeal.τ).loc Cert.LastReferenceIdeal.main_arg7)) (m ((c.tc : Thread Cert.LastReferenceIdeal.nD Cert.LastReferenceIdeal.τ).loc Cert.LastReferenceIdeal.main_arg8)) (m ((c.tc : Thread Cert.LastReferenceIdeal.nD Cert.LastReferenceIdeal.τ).loc Cert.LastReferenceIdeal.main_arg9)) (m ((c.tc : Thread Cert.LastReferenceIdeal.nD Cert.LastReferenceIdeal.τ).loc Cert.LastReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6)
      ∧ r.2.mem ((c.tc : Thread Cert.Shared.nD Cert.Shared.τ).loc Cert.Shared.main_arg7) = m ((c.tc : Thread Cert.Shared.nD Cert.Shared.τ).loc Cert.Shared.main_arg7)
      ∧ r.2.mem ((c.tc : Thread Cert.Shared.nD Cert.Shared.τ).loc Cert.Shared.main_arg8) = m ((c.tc : Thread Cert.Shared.nD Cert.Shared.τ).loc Cert.Shared.main_arg8)
      ∧ r.2.mem ((c.tc : Thread Cert.Shared.nD Cert.Shared.τ).loc Cert.Shared.main_arg9) = m ((c.tc : Thread Cert.Shared.nD Cert.Shared.τ).loc Cert.Shared.main_arg9)
      ∧ r.2.mem ((c.tc : Thread Cert.Shared.nD Cert.Shared.τ).loc Cert.Shared.main_arg10) = m ((c.tc : Thread Cert.Shared.nD Cert.Shared.τ).loc Cert.Shared.main_arg10)
      ∧ r.2.mem ((c.tc : Thread Cert.Shared.nD Cert.Shared.τ).loc Cert.Shared.main_arg11) = m ((c.tc : Thread Cert.Shared.nD Cert.Shared.τ).loc Cert.Shared.main_arg11)
      ∧ r.2.mem ((c.tc : Thread Cert.Shared.nD Cert.Shared.τ).loc Cert.Shared.main_arg12) = m ((c.tc : Thread Cert.Shared.nD Cert.Shared.τ).loc Cert.Shared.main_arg12))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
      ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
      ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8)
      ∧ r.2.mem ((c.tc : Thread Cert.SharedIdeal.nD Cert.SharedIdeal.τ).loc Cert.SharedIdeal.main_arg9) = m ((c.tc : Thread Cert.SharedIdeal.nD Cert.SharedIdeal.τ).loc Cert.SharedIdeal.main_arg9)
      ∧ r.2.mem ((c.tc : Thread Cert.SharedIdeal.nD Cert.SharedIdeal.τ).loc Cert.SharedIdeal.main_arg10) = m ((c.tc : Thread Cert.SharedIdeal.nD Cert.SharedIdeal.τ).loc Cert.SharedIdeal.main_arg10)
      ∧ r.2.mem ((c.tc : Thread Cert.SharedIdeal.nD Cert.SharedIdeal.τ).loc Cert.SharedIdeal.main_arg11) = m ((c.tc : Thread Cert.SharedIdeal.nD Cert.SharedIdeal.τ).loc Cert.SharedIdeal.main_arg11)
      ∧ r.2.mem ((c.tc : Thread Cert.SharedIdeal.nD Cert.SharedIdeal.τ).loc Cert.SharedIdeal.main_arg12) = m ((c.tc : Thread Cert.SharedIdeal.nD Cert.SharedIdeal.τ).loc Cert.SharedIdeal.main_arg12))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4)
      ∧ r.2.mem ((c.tc : Thread Cert.SharedReferenceIdeal.nD Cert.SharedReferenceIdeal.τ).loc Cert.SharedReferenceIdeal.main_arg5) = m ((c.tc : Thread Cert.SharedReferenceIdeal.nD Cert.SharedReferenceIdeal.τ).loc Cert.SharedReferenceIdeal.main_arg5)
      ∧ r.2.mem ((c.tc : Thread Cert.SharedReferenceIdeal.nD Cert.SharedReferenceIdeal.τ).loc Cert.SharedReferenceIdeal.main_arg6) = m ((c.tc : Thread Cert.SharedReferenceIdeal.nD Cert.SharedReferenceIdeal.τ).loc Cert.SharedReferenceIdeal.main_arg6)
      ∧ r.2.mem ((c.tc : Thread Cert.SharedReferenceIdeal.nD Cert.SharedReferenceIdeal.τ).loc Cert.SharedReferenceIdeal.main_arg7) = m ((c.tc : Thread Cert.SharedReferenceIdeal.nD Cert.SharedReferenceIdeal.τ).loc Cert.SharedReferenceIdeal.main_arg7)
      ∧ r.2.mem ((c.tc : Thread Cert.SharedReferenceIdeal.nD Cert.SharedReferenceIdeal.τ).loc Cert.SharedReferenceIdeal.main_arg8) = m ((c.tc : Thread Cert.SharedReferenceIdeal.nD Cert.SharedReferenceIdeal.τ).loc Cert.SharedReferenceIdeal.main_arg8)
      ∧ r.2.mem ((c.tc : Thread Cert.SharedReferenceIdeal.nD Cert.SharedReferenceIdeal.τ).loc Cert.SharedReferenceIdeal.main_arg9) = m ((c.tc : Thread Cert.SharedReferenceIdeal.nD Cert.SharedReferenceIdeal.τ).loc Cert.SharedReferenceIdeal.main_arg9)
      ∧ r.2.mem ((c.tc : Thread Cert.SharedReferenceIdeal.nD Cert.SharedReferenceIdeal.τ).loc Cert.SharedReferenceIdeal.main_arg10) = m ((c.tc : Thread Cert.SharedReferenceIdeal.nD Cert.SharedReferenceIdeal.τ).loc Cert.SharedReferenceIdeal.main_arg10)
      ∧ r.2.mem ((c.tc : Thread Cert.SharedReferenceIdeal.nD Cert.SharedReferenceIdeal.τ).loc Cert.SharedReferenceIdeal.main_arg11) = m ((c.tc : Thread Cert.SharedReferenceIdeal.nD Cert.SharedReferenceIdeal.τ).loc Cert.SharedReferenceIdeal.main_arg11)
      ∧ r.2.mem ((c.tc : Thread Cert.SharedReferenceIdeal.nD Cert.SharedReferenceIdeal.τ).loc Cert.SharedReferenceIdeal.main_arg12) = m ((c.tc : Thread Cert.SharedReferenceIdeal.nD Cert.SharedReferenceIdeal.τ).loc Cert.SharedReferenceIdeal.main_arg12))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8)
      ∧ r.2.mem ((c.tc : Thread Cert.Last.nD Cert.Last.τ).loc Cert.Last.main_arg9) = m ((c.tc : Thread Cert.Last.nD Cert.Last.τ).loc Cert.Last.main_arg9)
      ∧ r.2.mem ((c.tc : Thread Cert.Last.nD Cert.Last.τ).loc Cert.Last.main_arg10) = m ((c.tc : Thread Cert.Last.nD Cert.Last.τ).loc Cert.Last.main_arg10))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastIdeal_pre_finite [hLastIdeal : Cert.LastIdeal.Facts] [hPre_finite : Cert.Pre_finite.Facts] : Prop :=
  ∀ (m : (ℓ : Loc Cert.LastIdeal.nD Cert.LastIdeal.τ Cert.LastIdeal.sig) → Buf (Elt Ideal) ℓ) (g : Dev Cert.LastIdeal.nD → PrngReg), Pre_LastIdeal_finite m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
      ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
      ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9)
      ∧ r.2.mem ((c.tc : Thread Cert.LastReferenceIdeal.nD Cert.LastReferenceIdeal.τ).loc Cert.LastReferenceIdeal.main_arg10) = m ((c.tc : Thread Cert.LastReferenceIdeal.nD Cert.LastReferenceIdeal.τ).loc Cert.LastReferenceIdeal.main_arg10))
      ∧ r.2.sem = fun _ => 0)

def quiescent_LastReferenceIdeal_pre_finite [hLastReferenceIdeal : Cert.LastReferenceIdeal.Facts] [hPre_finite : Cert.Pre_finite.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal_finite m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5)
      ∧ r.2.mem ((c.tc : Thread Cert.LastReferenceIdeal.nD Cert.LastReferenceIdeal.τ).loc Cert.LastReferenceIdeal.main_arg6) = m ((c.tc : Thread Cert.LastReferenceIdeal.nD Cert.LastReferenceIdeal.τ).loc Cert.LastReferenceIdeal.main_arg6)
      ∧ r.2.mem ((c.tc : Thread Cert.LastReferenceIdeal.nD Cert.LastReferenceIdeal.τ).loc Cert.LastReferenceIdeal.main_arg7) = m ((c.tc : Thread Cert.LastReferenceIdeal.nD Cert.LastReferenceIdeal.τ).loc Cert.LastReferenceIdeal.main_arg7)
      ∧ r.2.mem ((c.tc : Thread Cert.LastReferenceIdeal.nD Cert.LastReferenceIdeal.τ).loc Cert.LastReferenceIdeal.main_arg8) = m ((c.tc : Thread Cert.LastReferenceIdeal.nD Cert.LastReferenceIdeal.τ).loc Cert.LastReferenceIdeal.main_arg8)
      ∧ r.2.mem ((c.tc : Thread Cert.LastReferenceIdeal.nD Cert.LastReferenceIdeal.τ).loc Cert.LastReferenceIdeal.main_arg9) = m ((c.tc : Thread Cert.LastReferenceIdeal.nD Cert.LastReferenceIdeal.τ).loc Cert.LastReferenceIdeal.main_arg9)
      ∧ r.2.mem ((c.tc : Thread Cert.LastReferenceIdeal.nD Cert.LastReferenceIdeal.τ).loc Cert.LastReferenceIdeal.main_arg10) = m ((c.tc : Thread Cert.LastReferenceIdeal.nD Cert.LastReferenceIdeal.τ).loc Cert.LastReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)
      ∧ m' ((c.tc : Thread Cert.SharedReferenceIdeal.nD Cert.SharedReferenceIdeal.τ).loc Cert.SharedReferenceIdeal.main_arg4) = m ((c.tc : Thread Cert.SharedIdeal.nD Cert.SharedIdeal.τ).loc Cert.SharedIdeal.main_arg4)
      ∧ m' ((c.tc : Thread Cert.SharedReferenceIdeal.nD Cert.SharedReferenceIdeal.τ).loc Cert.SharedReferenceIdeal.main_arg5) = m ((c.tc : Thread Cert.SharedIdeal.nD Cert.SharedIdeal.τ).loc Cert.SharedIdeal.main_arg5)
      ∧ m' ((c.tc : Thread Cert.SharedReferenceIdeal.nD Cert.SharedReferenceIdeal.τ).loc Cert.SharedReferenceIdeal.main_arg6) = m ((c.tc : Thread Cert.SharedIdeal.nD Cert.SharedIdeal.τ).loc Cert.SharedIdeal.main_arg6)
      ∧ m' ((c.tc : Thread Cert.SharedReferenceIdeal.nD Cert.SharedReferenceIdeal.τ).loc Cert.SharedReferenceIdeal.main_arg7) = m ((c.tc : Thread Cert.SharedIdeal.nD Cert.SharedIdeal.τ).loc Cert.SharedIdeal.main_arg7)
      ∧ m' ((c.tc : Thread Cert.SharedReferenceIdeal.nD Cert.SharedReferenceIdeal.τ).loc Cert.SharedReferenceIdeal.main_arg8) = m ((c.tc : Thread Cert.SharedIdeal.nD Cert.SharedIdeal.τ).loc Cert.SharedIdeal.main_arg8)
      ∧ m' ((c.tc : Thread Cert.SharedReferenceIdeal.nD Cert.SharedReferenceIdeal.τ).loc Cert.SharedReferenceIdeal.main_arg9) = m ((c.tc : Thread Cert.SharedIdeal.nD Cert.SharedIdeal.τ).loc Cert.SharedIdeal.main_arg9)
      ∧ m' ((c.tc : Thread Cert.SharedReferenceIdeal.nD Cert.SharedReferenceIdeal.τ).loc Cert.SharedReferenceIdeal.main_arg10) = m ((c.tc : Thread Cert.SharedIdeal.nD Cert.SharedIdeal.τ).loc Cert.SharedIdeal.main_arg10)
      ∧ m' ((c.tc : Thread Cert.SharedReferenceIdeal.nD Cert.SharedReferenceIdeal.τ).loc Cert.SharedReferenceIdeal.main_arg11) = m ((c.tc : Thread Cert.SharedIdeal.nD Cert.SharedIdeal.τ).loc Cert.SharedIdeal.main_arg11)
      ∧ m' ((c.tc : Thread Cert.SharedReferenceIdeal.nD Cert.SharedReferenceIdeal.τ).loc Cert.SharedReferenceIdeal.main_arg12) = m ((c.tc : Thread Cert.SharedIdeal.nD Cert.SharedIdeal.τ).loc Cert.SharedIdeal.main_arg12)) →
    ∃ (v0 : (c : Dev Cert.SharedIdeal.nD) → Buf (Elt Ideal) ((c.tc : Thread Cert.SharedIdeal.nD Cert.SharedIdeal.τ).loc Cert.SharedIdeal.main_v8_0)) (v1 : (c : Dev Cert.SharedIdeal.nD) → Buf (Elt Ideal) ((c.tc : Thread Cert.SharedIdeal.nD Cert.SharedIdeal.τ).loc Cert.SharedIdeal.main_v8_1)) (v2 : (c : Dev Cert.SharedIdeal.nD) → Buf (Elt Ideal) ((c.tc : Thread Cert.SharedIdeal.nD Cert.SharedIdeal.τ).loc Cert.SharedIdeal.main_v8_2)) (v3 : (c : Dev Cert.SharedIdeal.nD) → Buf (Elt Ideal) ((c.tc : Thread Cert.SharedIdeal.nD Cert.SharedIdeal.τ).loc Cert.SharedIdeal.main_v8_3)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v8_0) = v0 c
          ∧ r.2.mem ((c.tc : Thread Cert.SharedIdeal.nD Cert.SharedIdeal.τ).loc Cert.SharedIdeal.main_v8_1) = v1 c
          ∧ r.2.mem ((c.tc : Thread Cert.SharedIdeal.nD Cert.SharedIdeal.τ).loc Cert.SharedIdeal.main_v8_2) = v2 c
          ∧ r.2.mem ((c.tc : Thread Cert.SharedIdeal.nD Cert.SharedIdeal.τ).loc Cert.SharedIdeal.main_v8_3) = v3 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
          ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7)
          ∧ r.2.mem ((c.tc : Thread Cert.SharedIdeal.nD Cert.SharedIdeal.τ).loc Cert.SharedIdeal.main_arg8) = m ((c.tc : Thread Cert.SharedIdeal.nD Cert.SharedIdeal.τ).loc Cert.SharedIdeal.main_arg8)
          ∧ r.2.mem ((c.tc : Thread Cert.SharedIdeal.nD Cert.SharedIdeal.τ).loc Cert.SharedIdeal.main_arg9) = m ((c.tc : Thread Cert.SharedIdeal.nD Cert.SharedIdeal.τ).loc Cert.SharedIdeal.main_arg9)
          ∧ r.2.mem ((c.tc : Thread Cert.SharedIdeal.nD Cert.SharedIdeal.τ).loc Cert.SharedIdeal.main_arg10) = m ((c.tc : Thread Cert.SharedIdeal.nD Cert.SharedIdeal.τ).loc Cert.SharedIdeal.main_arg10)
          ∧ r.2.mem ((c.tc : Thread Cert.SharedIdeal.nD Cert.SharedIdeal.τ).loc Cert.SharedIdeal.main_arg11) = m ((c.tc : Thread Cert.SharedIdeal.nD Cert.SharedIdeal.τ).loc Cert.SharedIdeal.main_arg11)
          ∧ r.2.mem ((c.tc : Thread Cert.SharedIdeal.nD Cert.SharedIdeal.τ).loc Cert.SharedIdeal.main_arg12) = m ((c.tc : Thread Cert.SharedIdeal.nD Cert.SharedIdeal.τ).loc Cert.SharedIdeal.main_arg12))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v90) = v0 c
          ∧ r.2.mem ((c.tc : Thread Cert.SharedReferenceIdeal.nD Cert.SharedReferenceIdeal.τ).loc Cert.SharedReferenceIdeal.main_v91) = v1 c
          ∧ r.2.mem ((c.tc : Thread Cert.SharedReferenceIdeal.nD Cert.SharedReferenceIdeal.τ).loc Cert.SharedReferenceIdeal.main_v92) = v2 c
          ∧ r.2.mem ((c.tc : Thread Cert.SharedReferenceIdeal.nD Cert.SharedReferenceIdeal.τ).loc Cert.SharedReferenceIdeal.main_v93) = v3 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4)
          ∧ r.2.mem ((c.tc : Thread Cert.SharedReferenceIdeal.nD Cert.SharedReferenceIdeal.τ).loc Cert.SharedReferenceIdeal.main_arg5) = m' ((c.tc : Thread Cert.SharedReferenceIdeal.nD Cert.SharedReferenceIdeal.τ).loc Cert.SharedReferenceIdeal.main_arg5)
          ∧ r.2.mem ((c.tc : Thread Cert.SharedReferenceIdeal.nD Cert.SharedReferenceIdeal.τ).loc Cert.SharedReferenceIdeal.main_arg6) = m' ((c.tc : Thread Cert.SharedReferenceIdeal.nD Cert.SharedReferenceIdeal.τ).loc Cert.SharedReferenceIdeal.main_arg6)
          ∧ r.2.mem ((c.tc : Thread Cert.SharedReferenceIdeal.nD Cert.SharedReferenceIdeal.τ).loc Cert.SharedReferenceIdeal.main_arg7) = m' ((c.tc : Thread Cert.SharedReferenceIdeal.nD Cert.SharedReferenceIdeal.τ).loc Cert.SharedReferenceIdeal.main_arg7)
          ∧ r.2.mem ((c.tc : Thread Cert.SharedReferenceIdeal.nD Cert.SharedReferenceIdeal.τ).loc Cert.SharedReferenceIdeal.main_arg8) = m' ((c.tc : Thread Cert.SharedReferenceIdeal.nD Cert.SharedReferenceIdeal.τ).loc Cert.SharedReferenceIdeal.main_arg8)
          ∧ r.2.mem ((c.tc : Thread Cert.SharedReferenceIdeal.nD Cert.SharedReferenceIdeal.τ).loc Cert.SharedReferenceIdeal.main_arg9) = m' ((c.tc : Thread Cert.SharedReferenceIdeal.nD Cert.SharedReferenceIdeal.τ).loc Cert.SharedReferenceIdeal.main_arg9)
          ∧ r.2.mem ((c.tc : Thread Cert.SharedReferenceIdeal.nD Cert.SharedReferenceIdeal.τ).loc Cert.SharedReferenceIdeal.main_arg10) = m' ((c.tc : Thread Cert.SharedReferenceIdeal.nD Cert.SharedReferenceIdeal.τ).loc Cert.SharedReferenceIdeal.main_arg10)
          ∧ r.2.mem ((c.tc : Thread Cert.SharedReferenceIdeal.nD Cert.SharedReferenceIdeal.τ).loc Cert.SharedReferenceIdeal.main_arg11) = m' ((c.tc : Thread Cert.SharedReferenceIdeal.nD Cert.SharedReferenceIdeal.τ).loc Cert.SharedReferenceIdeal.main_arg11)
          ∧ r.2.mem ((c.tc : Thread Cert.SharedReferenceIdeal.nD Cert.SharedReferenceIdeal.τ).loc Cert.SharedReferenceIdeal.main_arg12) = m' ((c.tc : Thread Cert.SharedReferenceIdeal.nD Cert.SharedReferenceIdeal.τ).loc Cert.SharedReferenceIdeal.main_arg12))

def preserves_Last_LastIdeal : Prop :=
  True

def algebraic_LastIdeal_LastReferenceIdeal_pre_finite [hLastIdeal : Cert.LastIdeal.Facts] [hLastReferenceIdeal : Cert.LastReferenceIdeal.Facts] [hPre_finite : Cert.Pre_finite.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal_finite m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)
      ∧ m' ((c.tc : Thread Cert.LastReferenceIdeal.nD Cert.LastReferenceIdeal.τ).loc Cert.LastReferenceIdeal.main_arg6) = m ((c.tc : Thread Cert.LastIdeal.nD Cert.LastIdeal.τ).loc Cert.LastIdeal.main_arg6)
      ∧ m' ((c.tc : Thread Cert.LastReferenceIdeal.nD Cert.LastReferenceIdeal.τ).loc Cert.LastReferenceIdeal.main_arg7) = m ((c.tc : Thread Cert.LastIdeal.nD Cert.LastIdeal.τ).loc Cert.LastIdeal.main_arg7)
      ∧ m' ((c.tc : Thread Cert.LastReferenceIdeal.nD Cert.LastReferenceIdeal.τ).loc Cert.LastReferenceIdeal.main_arg8) = m ((c.tc : Thread Cert.LastIdeal.nD Cert.LastIdeal.τ).loc Cert.LastIdeal.main_arg8)
      ∧ m' ((c.tc : Thread Cert.LastReferenceIdeal.nD Cert.LastReferenceIdeal.τ).loc Cert.LastReferenceIdeal.main_arg9) = m ((c.tc : Thread Cert.LastIdeal.nD Cert.LastIdeal.τ).loc Cert.LastIdeal.main_arg9)
      ∧ m' ((c.tc : Thread Cert.LastReferenceIdeal.nD Cert.LastReferenceIdeal.τ).loc Cert.LastReferenceIdeal.main_arg10) = m ((c.tc : Thread Cert.LastIdeal.nD Cert.LastIdeal.τ).loc Cert.LastIdeal.main_arg10)) →
    ∃ (v0 : (c : Dev Cert.LastIdeal.nD) → Buf (Elt Ideal) ((c.tc : Thread Cert.LastIdeal.nD Cert.LastIdeal.τ).loc Cert.LastIdeal.main_v2_0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v2_0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8)
          ∧ r.2.mem ((c.tc : Thread Cert.LastIdeal.nD Cert.LastIdeal.τ).loc Cert.LastIdeal.main_arg9) = m ((c.tc : Thread Cert.LastIdeal.nD Cert.LastIdeal.τ).loc Cert.LastIdeal.main_arg9)
          ∧ r.2.mem ((c.tc : Thread Cert.LastIdeal.nD Cert.LastIdeal.τ).loc Cert.LastIdeal.main_arg10) = m ((c.tc : Thread Cert.LastIdeal.nD Cert.LastIdeal.τ).loc Cert.LastIdeal.main_arg10))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v41) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5)
          ∧ r.2.mem ((c.tc : Thread Cert.LastReferenceIdeal.nD Cert.LastReferenceIdeal.τ).loc Cert.LastReferenceIdeal.main_arg6) = m' ((c.tc : Thread Cert.LastReferenceIdeal.nD Cert.LastReferenceIdeal.τ).loc Cert.LastReferenceIdeal.main_arg6)
          ∧ r.2.mem ((c.tc : Thread Cert.LastReferenceIdeal.nD Cert.LastReferenceIdeal.τ).loc Cert.LastReferenceIdeal.main_arg7) = m' ((c.tc : Thread Cert.LastReferenceIdeal.nD Cert.LastReferenceIdeal.τ).loc Cert.LastReferenceIdeal.main_arg7)
          ∧ r.2.mem ((c.tc : Thread Cert.LastReferenceIdeal.nD Cert.LastReferenceIdeal.τ).loc Cert.LastReferenceIdeal.main_arg8) = m' ((c.tc : Thread Cert.LastReferenceIdeal.nD Cert.LastReferenceIdeal.τ).loc Cert.LastReferenceIdeal.main_arg8)
          ∧ r.2.mem ((c.tc : Thread Cert.LastReferenceIdeal.nD Cert.LastReferenceIdeal.τ).loc Cert.LastReferenceIdeal.main_arg9) = m' ((c.tc : Thread Cert.LastReferenceIdeal.nD Cert.LastReferenceIdeal.τ).loc Cert.LastReferenceIdeal.main_arg9)
          ∧ r.2.mem ((c.tc : Thread Cert.LastReferenceIdeal.nD Cert.LastReferenceIdeal.τ).loc Cert.LastReferenceIdeal.main_arg10) = m' ((c.tc : Thread Cert.LastReferenceIdeal.nD Cert.LastReferenceIdeal.τ).loc Cert.LastReferenceIdeal.main_arg10))

def Claim : Prop :=
  ∃ (hKernel : Cert.Kernel.Facts) (hKernelIdeal : Cert.KernelIdeal.Facts) (hReferenceIdeal : Cert.ReferenceIdeal.Facts) (hShared : Cert.Shared.Facts) (hSharedIdeal : Cert.SharedIdeal.Facts) (hSharedReferenceIdeal : Cert.SharedReferenceIdeal.Facts) (hLast : Cert.Last.Facts) (hLastIdeal : Cert.LastIdeal.Facts) (hLastReferenceIdeal : Cert.LastReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_Last (hLast := hLast)
    ∧ quiescent_LastIdeal (hLastIdeal := hLastIdeal)
    ∧ quiescent_LastIdeal_pre_finite (hLastIdeal := hLastIdeal) (hPre_finite := hPre_finite)
    ∧ quiescent_LastReferenceIdeal (hLastReferenceIdeal := hLastReferenceIdeal)
    ∧ quiescent_LastReferenceIdeal_pre_finite (hLastReferenceIdeal := hLastReferenceIdeal) (hPre_finite := hPre_finite)
    ∧ preserves_Kernel_KernelIdeal
    ∧ algebraic_KernelIdeal_ReferenceIdeal (hKernelIdeal := hKernelIdeal) (hReferenceIdeal := hReferenceIdeal)
    ∧ preserves_Shared_SharedIdeal
    ∧ algebraic_SharedIdeal_SharedReferenceIdeal (hSharedIdeal := hSharedIdeal) (hSharedReferenceIdeal := hSharedReferenceIdeal)
    ∧ preserves_Last_LastIdeal
    ∧ algebraic_LastIdeal_LastReferenceIdeal_pre_finite (hLastIdeal := hLastIdeal) (hLastReferenceIdeal := hLastReferenceIdeal) (hPre_finite := hPre_finite)
-- ==== Pre_finite.lean ====
abbrev S4096x1024 : Shape := ⟨2, ![4096, 1024]⟩
abbrev S4096x128 : Shape := ⟨2, ![4096, 128]⟩
abbrev S8x4096 : Shape := ⟨2, ![8, 4096]⟩
abbrev S128x1024 : Shape := ⟨2, ![128, 1024]⟩
abbrev S1024x128 : Shape := ⟨2, ![1024, 128]⟩
abbrev S8x128 : Shape := ⟨2, ![8, 128]⟩
abbrev S2x8x128 : Shape := ⟨3, ![2, 8, 128]⟩
abbrev S_ : Shape := ⟨0, ![]⟩

class Facts : Prop where
  bitsLt_bf16_f32 : FTy.bits .bf16 < FTy.bits .f32
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S4096x1024 .bf16) (main_arg1 : FVec F S4096x128 .bf16) (main_arg2 : FVec F S4096x128 .bf16) (main_arg3 : FVec F S4096x128 .bf16) (main_arg4 : FVec F S8x4096 .f32) (main_arg5 : FVec F S128x1024 .bf16) (main_arg6 : FVec F S1024x128 .bf16) (main_arg7 : FVec F S1024x128 .bf16) (main_arg8 : FVec F S8x128 .f32) (main_arg9 : FVec F S8x128 .f32) (main_arg10 : FVec F S2x8x128 .f32) : IVec S_ 1 :=
  let main_v0 : FVec F S4096x128 .f32 := (extf .f32 · bitsLt_bf16_f32) main_arg3
  let main_v1 : FVec F S4096x128 .f32 := Host.absf main_v0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  let main_c : IVec S_ 1 := constantI S_ 1 1#1
  let main_v4 : IVec S_ 1 := (fun x v => Host.reduce IntOp.andi x v reducesTo_S4096x128_S_d0_1 h_S_) main_v3 main_c
  let main_v5 : FVec F S128x1024 .f32 := (extf .f32 · bitsLt_bf16_f32) main_arg5
  let main_v6 : FVec F S128x1024 .f32 := Host.absf main_v5
  let main_cst_0 : FVec F S_ .f32 := constant S_ .f32 0x7F800000#32
  let main_v7 : FVec F S128x1024 .f32 := broadcastInDim S128x1024 ![] bcast_S_S128x1024 main_cst_0
  let main_v8 : IVec S128x1024 1 := cmpf .olt main_v6 main_v7
  let main_c_1 : IVec S_ 1 := constantI S_ 1 1#1
  let main_v9 : IVec S_ 1 := (fun x v => Host.reduce IntOp.andi x v reducesTo_S128x1024_S_d0_1 h_S_) main_v8 main_c_1
  let main_v10 : IVec S_ 1 := andi main_v4 main_v9
  main_v10
-- ==== Kernel.lean ====
abbrev S2x2048x1024 : Shape := ⟨3, ![2, 2048, 1024]⟩
abbrev S8x1024 : Shape := ⟨2, ![8, 1024]⟩
abbrev S8 : Shape := ⟨1, ![8]⟩
abbrev S_ : Shape := ⟨0, ![]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S128x1024 : Shape := ⟨2, ![128, 1024]⟩
abbrev S128 : Shape := ⟨1, ![128]⟩
abbrev S128x2048 : Shape := ⟨2, ![128, 2048]⟩
abbrev S2048x128 : Shape := ⟨2, ![2048, 128]⟩
abbrev S8x128x128 : Shape := ⟨3, ![8, 128, 128]⟩
abbrev S8x128 : Shape := ⟨2, ![8, 128]⟩
abbrev S4096x1024 : Shape := ⟨2, ![4096, 1024]⟩
abbrev S8x1 : Shape := ⟨2, ![8, 1]⟩
abbrev S1x1 : Shape := ⟨2, ![1, 1]⟩
abbrev S1024x128 : Shape := ⟨2, ![1024, 128]⟩
abbrev S8x4096 : Shape := ⟨2, ![8, 4096]⟩
abbrev S2x8x128 : Shape := ⟨3, ![2, 8, 128]⟩
abbrev S512x1024 : Shape := ⟨2, ![512, 1024]⟩
abbrev S256x2048 : Shape := ⟨2, ![256, 2048]⟩
abbrev S1024x1024 : Shape := ⟨2, ![1024, 1024]⟩
abbrev S256x128 : Shape := ⟨2, ![256, 128]⟩
abbrev S1x8x128 : Shape := ⟨3, ![1, 8, 128]⟩
abbrev S1x128x128 : Shape := ⟨3, ![1, 128, 128]⟩
abbrev S128x128 : Shape := ⟨2, ![128, 128]⟩
abbrev S1x1024 : Shape := ⟨2, ![1, 1024]⟩
abbrev S1x8x1024 : Shape := ⟨3, ![1, 8, 1024]⟩
abbrev S1 : Shape := ⟨1, ![1]⟩
abbrev S1x1x1 : Shape := ⟨3, ![1, 1, 1]⟩
abbrev S2 : Shape := ⟨1, ![2]⟩
abbrev S1x16 : Shape := ⟨2, ![1, 16]⟩
abbrev S1x2048 : Shape := ⟨2, ![1, 2048]⟩
abbrev S1x128 : Shape := ⟨2, ![1, 128]⟩
abbrev S4096x128 : Shape := ⟨2, ![4096, 128]⟩
abbrev S1024x1 : Shape := ⟨2, ![1024, 1]⟩
abbrev S1024x8 : Shape := ⟨2, ![1024, 8]⟩
abbrev S2x8x1 : Shape := ⟨3, ![2, 8, 1]⟩
abbrev S2x8 : Shape := ⟨2, ![2, 8]⟩
abbrev S2x1x1 : Shape := ⟨3, ![2, 1, 1]⟩
abbrev S1x2x1x1 : Shape := ⟨4, ![1, 2, 1, 1]⟩
abbrev S1x1x1x1 : Shape := ⟨4, ![1, 1, 1, 1]⟩
abbrev S1x2x8 : Shape := ⟨3, ![1, 2, 8]⟩

abbrev nBuf : Table → Nat
  | .hbm => 56
  | .local .tc .vmem => 80
  | .local .scVector .vmem => 2
  | _ => 0

abbrev bufTy : (tb : Table) → Fin (nBuf tb) → BufTy
  | .hbm, ⟨0, _⟩ => ⟨S2x2048x1024, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S2048x1024, .f32⟩
  | .hbm, ⟨6, _⟩ => ⟨S2048, .f32⟩
  | .hbm, ⟨7, _⟩ => ⟨S2048x1024, .f32⟩
  | .hbm, ⟨8, _⟩ => ⟨S2048, .f32⟩
  | .hbm, ⟨9, _⟩ => ⟨S1024x2048, .f32⟩
  | .hbm, ⟨10, _⟩ => ⟨S1024, .f32⟩
  | .hbm, ⟨11, _⟩ => ⟨S128x1024, .f32⟩
  | .hbm, ⟨12, _⟩ => ⟨S128, .f32⟩
  | .hbm, ⟨13, _⟩ => ⟨S128x2048, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S2048x128, .f32⟩
  | .hbm, ⟨18, _⟩ => ⟨S8x128x128, .f32⟩
  | .hbm, ⟨19, _⟩ => ⟨S8x128, .f32⟩
  | .hbm, ⟨20, _⟩ => ⟨S8x128, .f32⟩
  | .hbm, ⟨21, _⟩ => ⟨S2048x128, .f32⟩
  | .hbm, ⟨22, _⟩ => ⟨S1024x2048, .f32⟩
  | .hbm, ⟨23, _⟩ => ⟨S4096x1024, .f32⟩
  | .hbm, ⟨24, _⟩ => ⟨S8x1, .f32⟩
  | .hbm, ⟨25, _⟩ => ⟨S8x1, .f32⟩
  | .hbm, ⟨26, _⟩ => ⟨S1x1, .f32⟩
  | .hbm, ⟨27, _⟩ => ⟨S2048x1024, .bf16⟩
  | .hbm, ⟨28, _⟩ => ⟨S2048x1024, .bf16⟩
  | .hbm, ⟨29, _⟩ => ⟨S1024x2048, .bf16⟩
  | .hbm, ⟨30, _⟩ => ⟨S128x1024, .bf16⟩
  | .hbm, ⟨31, _⟩ => ⟨S128x2048, .bf16⟩
  | .hbm, ⟨32, _⟩ => ⟨S128x1024, .bf16⟩
  | .hbm, ⟨33, _⟩ => ⟨S1024x128, .bf16⟩
  | .hbm, ⟨34, _⟩ => ⟨S1024x128, .bf16⟩
  | .hbm, ⟨35, _⟩ => ⟨S8x4096, .f32⟩
  | .hbm, ⟨36, _⟩ => ⟨S2x8x128, .f32⟩
  | .hbm, ⟨37, _⟩ => ⟨S8x4096, .f32⟩
  | .hbm, ⟨38, _⟩ => ⟨S1x2048, .f32⟩
  | .hbm, ⟨39, _⟩ => ⟨S1x2048, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x1024, .f32⟩
  | .hbm, ⟨45, _⟩ => ⟨S4096x1024, .bf16⟩
  | .hbm, ⟨46, _⟩ => ⟨S4096x128, .bf16⟩
  | .hbm, ⟨47, _⟩ => ⟨S4096x128, .bf16⟩
  | .hbm, ⟨48, _⟩ => ⟨S4096x128, .bf16⟩
  | .hbm, ⟨49, _⟩ => ⟨S1x1024, .f32⟩
  | .hbm, ⟨50, _⟩ => ⟨S1x1024, .f32⟩
  | .hbm, ⟨51, _⟩ => ⟨S4096x1024, .f32⟩
  | .hbm, ⟨52, _⟩ => ⟨S1x128, .f32⟩
  | .hbm, ⟨53, _⟩ => ⟨S2x8x128, .f32⟩
  | .hbm, ⟨54, _⟩ => ⟨S1x1, .f32⟩
  | .hbm, ⟨55, _⟩ => ⟨S_, .f32⟩
  | .local .tc .vmem, ⟨0, _⟩ => ⟨S512x1024, .f32⟩
  | .local .tc .vmem, ⟨1, _⟩ => ⟨S512x1024, .f32⟩
  | .local .tc .vmem, ⟨2, _⟩ => ⟨S512x1024, .f32⟩
  | .local .tc .vmem, ⟨3, _⟩ => ⟨S512x1024, .f32⟩
  | .local .tc .vmem, ⟨4, _⟩ => ⟨S256x2048, .f32⟩
  | .local .tc .vmem, ⟨5, _⟩ => ⟨S256x2048, .f32⟩
  | .local .tc .vmem, ⟨6, _⟩ => ⟨S128x1024, .f32⟩
  | .local .tc .vmem, ⟨7, _⟩ => ⟨S128x2048, .f32⟩
  | .local .tc .vmem, ⟨8, _⟩ => ⟨S2048x128, .f32⟩
  | .local .tc .vmem, ⟨9, _⟩ => ⟨S8x128x128, .f32⟩
  | .local .tc .vmem, ⟨10, _⟩ => ⟨S256x2048, .f32⟩
  | .local .tc .vmem, ⟨11, _⟩ => ⟨S256x2048, .f32⟩
  | .local .tc .vmem, ⟨12, _⟩ => ⟨S2048x128, .f32⟩
  | .local .tc .vmem, ⟨13, _⟩ => ⟨S1024x1024, .f32⟩
  | .local .tc .vmem, ⟨14, _⟩ => ⟨S1024x1024, .f32⟩
  | .local .tc .vmem, ⟨15, _⟩ => ⟨S8x1024, .f32⟩
  | .local .tc .vmem, ⟨16, _⟩ => ⟨S8x1, .f32⟩
  | .local .tc .vmem, ⟨17, _⟩ => ⟨S8x1, .f32⟩
  | .local .tc .vmem, ⟨18, _⟩ => ⟨S1x1, .f32⟩
  | .local .tc .vmem, ⟨19, _⟩ => ⟨S512x1024, .bf16⟩
  | .local .tc .vmem, ⟨20, _⟩ => ⟨S512x1024, .bf16⟩
  | .local .tc .vmem, ⟨21, _⟩ => ⟨S512x1024, .bf16⟩
  | .local .tc .vmem, ⟨22, _⟩ => ⟨S512x1024, .bf16⟩
  | .local .tc .vmem, ⟨23, _⟩ => ⟨S256x2048, .bf16⟩
  | .local .tc .vmem, ⟨24, _⟩ => ⟨S256x2048, .bf16⟩
  | .local .tc .vmem, ⟨25, _⟩ => ⟨S128x1024, .bf16⟩
  | .local .tc .vmem, ⟨26, _⟩ => ⟨S128x2048, .bf16⟩
  | .local .tc .vmem, ⟨27, _⟩ => ⟨S128x1024, .bf16⟩
  | .local .tc .vmem, ⟨28, _⟩ => ⟨S256x128, .bf16⟩
  | .local .tc .vmem, ⟨29, _⟩ => ⟨S256x128, .bf16⟩
  | .local .tc .vmem, ⟨30, _⟩ => ⟨S256x128, .bf16⟩
  | .local .tc .vmem, ⟨31, _⟩ => ⟨S256x128, .bf16⟩
  | .local .tc .vmem, ⟨32, _⟩ => ⟨S8x1024, .f32⟩
  | .local .tc .vmem, ⟨33, _⟩ => ⟨S8x1024, .f32⟩
  | .local .tc .vmem, ⟨34, _⟩ => ⟨S1x8x128, .f32⟩
  | .local .tc .vmem, ⟨35, _⟩ => ⟨S1x8x128, .f32⟩
  | .local .tc .vmem, ⟨36, _⟩ => ⟨S1024x1024, .f32⟩
  | .local .tc .vmem, ⟨37, _⟩ => ⟨S1024x1024, .f32⟩
  | .local .tc .vmem, ⟨38, _⟩ => ⟨S2048x1024, .bf16⟩
  | .local .tc .vmem, ⟨39, _⟩ => ⟨S2048x1024, .bf16⟩
  | .local .tc .vmem, ⟨40, _⟩ => ⟨S128x1024, .bf16⟩
  | .local .tc .vmem, ⟨41, _⟩ => ⟨S128x2048, .bf16⟩
  | .local .tc .vmem, ⟨42, _⟩ => ⟨S1024x2048, .bf16⟩
  | .local .tc .vmem, ⟨43, _⟩ => ⟨S1x2048, .f32⟩
  | .local .tc .vmem, ⟨44, _⟩ => ⟨S1x2048, .f32⟩
  | .local .tc .vmem, ⟨45, _⟩ => ⟨S1x128, .f32⟩
  | .local .tc .vmem, ⟨46, _⟩ => ⟨S1x128, .f32⟩
  | .local .tc .vmem, ⟨47, _⟩ => ⟨S1x128, .f32⟩
  | .local .tc .vmem, ⟨48, _⟩ => ⟨S1x128, .f32⟩
  | .local .tc .vmem, ⟨49, _⟩ => ⟨S1x1024, .f32⟩
  | .local .tc .vmem, ⟨50, _⟩ => ⟨S1024x1024, .bf16⟩
  | .local .tc .vmem, ⟨51, _⟩ => ⟨S1024x1024, .bf16⟩
  | .local .tc .vmem, ⟨52, _⟩ => ⟨S1024x128, .bf16⟩
  | .local .tc .vmem, ⟨53, _⟩ => ⟨S1024x128, .bf16⟩
  | .local .tc .vmem, ⟨54, _⟩ => ⟨S1024x128, .bf16⟩
  | .local .tc .vmem, ⟨55, _⟩ => ⟨S1024x128, .bf16⟩
  | .local .tc .vmem, ⟨56, _⟩ => ⟨S1024x128, .bf16⟩
  | .local .tc .vmem, ⟨57, _⟩ => ⟨S1024x128, .bf16⟩
  | .local .tc .vmem, ⟨58, _⟩ => ⟨S1024x1024, .bf16⟩
  | .local .tc .vmem, ⟨59, _⟩ => ⟨S1024x1024, .bf16⟩
  | .local .tc .vmem, ⟨60, _⟩ => ⟨S2048x128, .bf16⟩
  | .local .tc .vmem, ⟨61, _⟩ => ⟨S2048x128, .bf16⟩
  | .local .tc .vmem, ⟨62, _⟩ => ⟨S2048x128, .bf16⟩
  | .local .tc .vmem, ⟨63, _⟩ => ⟨S2048x128, .bf16⟩
  | .local .tc .vmem, ⟨64, _⟩ => ⟨S1024x128, .bf16⟩
  | .local .tc .vmem, ⟨65, _⟩ => ⟨S1024x128, .bf16⟩
  | .local .tc .vmem, ⟨66, _⟩ => ⟨S1024x128, .bf16⟩
  | .local .tc .vmem, ⟨67, _⟩ => ⟨S1024x128, .bf16⟩
  | .local .tc .vmem, ⟨68, _⟩ => ⟨S8x1024, .f32⟩
  | .local .tc .vmem, ⟨69, _⟩ => ⟨S8x1024, .f32⟩
  | .local .tc .vmem, ⟨70, _⟩ => ⟨S128x1024, .bf16⟩
  | .local .tc .vmem, ⟨71, _⟩ => ⟨S1024x128, .bf16⟩
  | .local .tc .vmem, ⟨72, _⟩ => ⟨S1024x128, .bf16⟩
  | .local .tc .vmem, ⟨73, _⟩ => ⟨S1x1024, .f32⟩
  | .local .tc .vmem, ⟨74, _⟩ => ⟨S1x1024, .f32⟩
  | .local .tc .vmem, ⟨75, _⟩ => ⟨S2x8x128, .f32⟩
  | .local .tc .vmem, ⟨76, _⟩ => ⟨S1024x1024, .f32⟩
  | .local .tc .vmem, ⟨77, _⟩ => ⟨S1024x1024, .f32⟩
  | .local .tc .vmem, ⟨78, _⟩ => ⟨S1x128, .f32⟩
  | .local .tc .vmem, ⟨79, _⟩ => ⟨S2x8x128, .f32⟩
  | .local .scVector .vmem, ⟨0, _⟩ => ⟨S2x8x128, .f32⟩
  | .local .scVector .vmem, ⟨1, _⟩ => ⟨S2x8x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTables nBuf rfl bufTy 4 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4_0 : Ref sig .tc := ⟨.hbm, 27, rfl⟩
abbrev main_v4_1 : Ref sig .tc := ⟨.hbm, 28, rfl⟩
abbrev main_v4_2 : Ref sig .tc := ⟨.hbm, 29, rfl⟩
abbrev main_v4_3 : Ref sig .tc := ⟨.hbm, 30, rfl⟩
abbrev main_v4_4 : Ref sig .tc := ⟨.hbm, 31, rfl⟩
abbrev main_v4_5 : Ref sig .tc := ⟨.hbm, 32, rfl⟩
abbrev main_v4_6 : Ref sig .tc := ⟨.hbm, 33, rfl⟩
abbrev main_v4_7 : Ref sig .tc := ⟨.hbm, 34, rfl⟩
abbrev main_v4_8 : Ref sig .tc := ⟨.hbm, 35, rfl⟩
abbrev main_v4_9 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13_0 : Ref sig .tc := ⟨.hbm, 45, rfl⟩
abbrev main_v13_1 : Ref sig .tc := ⟨.hbm, 46, rfl⟩
abbrev main_v13_2 : Ref sig .tc := ⟨.hbm, 47, rfl⟩
abbrev main_v13_3 : Ref sig .tc := ⟨.hbm, 48, rfl⟩
abbrev main_v14 : Ref sig .tc := ⟨.hbm, 49, rfl⟩
abbrev main_v15 : Ref sig .tc := ⟨.hbm, 50, rfl⟩
abbrev main_v16_0 : Ref sig .tc := ⟨.hbm, 51, rfl⟩
abbrev main_v16_1 : Ref sig .tc := ⟨.hbm, 52, rfl⟩
abbrev main_v16_2 : Ref sig .tc := ⟨.hbm, 53, rfl⟩
abbrev main_v17 : Ref sig .tc := ⟨.hbm, 54, rfl⟩
abbrev main_v18 : Ref sig .tc := ⟨.hbm, 55, rfl⟩
abbrev main_v4_8_scv : Ref sig .scVector := ⟨.hbm, 35, rfl⟩
abbrev main_v5_scv : Ref sig .scVector := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg7_0 : Ref sig .tc := ⟨.vmem, 44, rfl⟩
abbrev cc2_stg8_0 : Ref sig .tc := ⟨.vmem, 45, rfl⟩
abbrev cc2_stg9_0 : Ref sig .tc := ⟨.vmem, 46, rfl⟩
abbrev cc2_stg10_0 : Ref sig .tc := ⟨.vmem, 47, rfl⟩
abbrev cc2_stg11_0 : Ref sig .tc := ⟨.vmem, 48, rfl⟩
abbrev cc2_stg12_0 : Ref sig .tc := ⟨.vmem, 49, rfl⟩
abbrev cc2_stg13_0 : Ref sig .tc := ⟨.vmem, 50, rfl⟩
abbrev cc2_stg13_1 : Ref sig .tc := ⟨.vmem, 51, rfl⟩
abbrev cc2_stg14_0 : Ref sig .tc := ⟨.vmem, 52, rfl⟩
abbrev cc2_stg14_1 : Ref sig .tc := ⟨.vmem, 53, rfl⟩
abbrev cc2_stg15_0 : Ref sig .tc := ⟨.vmem, 54, rfl⟩
abbrev cc2_stg15_1 : Ref sig .tc := ⟨.vmem, 55, rfl⟩
abbrev cc2_stg16_0 : Ref sig .tc := ⟨.vmem, 56, rfl⟩
abbrev cc2_stg16_1 : Ref sig .tc := ⟨.vmem, 57, rfl⟩
abbrev cc3_stg0_0 : Ref sig .tc := ⟨.vmem, 58, rfl⟩
abbrev cc3_stg0_1 : Ref sig .tc := ⟨.vmem, 59, rfl⟩
abbrev cc3_stg1_0 : Ref sig .tc := ⟨.vmem, 60, rfl⟩
abbrev cc3_stg1_1 : Ref sig .tc := ⟨.vmem, 61, rfl⟩
abbrev cc3_stg2_0 : Ref sig .tc := ⟨.vmem, 62, rfl⟩
abbrev cc3_stg2_1 : Ref sig .tc := ⟨.vmem, 63, rfl⟩
abbrev cc3_stg3_0 : Ref sig .tc := ⟨.vmem, 64, rfl⟩
abbrev cc3_stg3_1 : Ref sig .tc := ⟨.vmem, 65, rfl⟩
abbrev cc3_stg4_0 : Ref sig .tc := ⟨.vmem, 66, rfl⟩
abbrev cc3_stg4_1 : Ref sig .tc := ⟨.vmem, 67, rfl⟩
abbrev cc3_stg5_0 : Ref sig .tc := ⟨.vmem, 68, rfl⟩
abbrev cc3_stg5_1 : Ref sig .tc := ⟨.vmem, 69, rfl⟩
abbrev cc3_stg6_0 : Ref sig .tc := ⟨.vmem, 70, rfl⟩
abbrev cc3_stg7_0 : Ref sig .tc := ⟨.vmem, 71, rfl⟩
abbrev cc3_stg8_0 : Ref sig .tc := ⟨.vmem, 72, rfl⟩
abbrev cc3_stg9_0 : Ref sig .tc := ⟨.vmem, 73, rfl⟩
abbrev cc3_stg10_0 : Ref sig .tc := ⟨.vmem, 74, rfl⟩
abbrev cc3_stg11_0 : Ref sig .tc := ⟨.vmem, 75, rfl⟩
abbrev cc3_stg12_0 : Ref sig .tc := ⟨.vmem, 76, rfl⟩
abbrev cc3_stg12_1 : Ref sig .tc := ⟨.vmem, 77, rfl⟩
abbrev cc3_stg13_0 : Ref sig .tc := ⟨.vmem, 78, rfl⟩
abbrev cc3_stg14_0 : Ref sig .tc := ⟨.vmem, 79, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem18_0 : DmaSem sig := 26
abbrev cc0_sem19_0 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc2_sem0_0 : DmaSem sig := 40
abbrev cc2_sem0_1 : DmaSem sig := 41
abbrev cc2_sem1_0 : DmaSem sig := 42
abbrev cc2_sem2_0 : DmaSem sig := 43
abbrev cc2_sem3_0 : DmaSem sig := 44
abbrev cc2_sem4_0 : DmaSem sig := 45
abbrev cc2_sem5_0 : DmaSem sig := 46
abbrev cc2_sem6_0 : DmaSem sig := 47
abbrev cc2_sem7_0 : DmaSem sig := 48
abbrev cc2_sem8_0 : DmaSem sig := 49
abbrev cc2_sem9_0 : DmaSem sig := 50
abbrev cc2_sem10_0 : DmaSem sig := 51
abbrev cc2_sem11_0 : DmaSem sig := 52
abbrev cc2_sem12_0 : DmaSem sig := 53
abbrev cc2_sem13_0 : DmaSem sig := 54
abbrev cc2_sem13_1 : DmaSem sig := 55
abbrev cc2_sem14_0 : DmaSem sig := 56
abbrev cc2_sem14_1 : DmaSem sig := 57
abbrev cc2_sem15_0 : DmaSem sig := 58
abbrev cc2_sem15_1 : DmaSem sig := 59
abbrev cc2_sem16_0 : DmaSem sig := 60
abbrev cc2_sem16_1 : DmaSem sig := 61
abbrev cc3_sem0_0 : DmaSem sig := 62
abbrev cc3_sem0_1 : DmaSem sig := 63
abbrev cc3_sem1_0 : DmaSem sig := 64
abbrev cc3_sem1_1 : DmaSem sig := 65
abbrev cc3_sem2_0 : DmaSem sig := 66
abbrev cc3_sem2_1 : DmaSem sig := 67
abbrev cc3_sem3_0 : DmaSem sig := 68
abbrev cc3_sem3_1 : DmaSem sig := 69
abbrev cc3_sem4_0 : DmaSem sig := 70
abbrev cc3_sem4_1 : DmaSem sig := 71
abbrev cc3_sem5_0 : DmaSem sig := 72
abbrev cc3_sem5_1 : DmaSem sig := 73
abbrev cc3_sem6_0 : DmaSem sig := 74
abbrev cc3_sem7_0 : DmaSem sig := 75
abbrev cc3_sem8_0 : DmaSem sig := 76
abbrev cc3_sem9_0 : DmaSem sig := 77
abbrev cc3_sem10_0 : DmaSem sig := 78
abbrev cc3_sem11_0 : DmaSem sig := 79
abbrev cc3_sem12_0 : DmaSem sig := 80
abbrev cc3_sem12_1 : DmaSem sig := 81
abbrev cc3_sem13_0 : DmaSem sig := 82
abbrev cc3_sem14_0 : DmaSem sig := 83
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_23 : BitVec 32 := 0#32
  let v25 : BitVec 1 := Scalar.cmpi .ne v24 c0_i32_23
  v25

def k0_cond2 (i : grid0.Coords) : BitVec 1 :=
  let arg0 : BitVec 32 := BitVec.ofNat 32 (i 0).val
  let c2_i32 : BitVec 32 := 2#32
  let c0_i32_48 : BitVec 32 := 0#32
  let v89 : BitVec 1 := Scalar.cmpi .eq c2_i32 c0_i32_48
  let c1_i32_49 : BitVec 32 := 1#32
  let v90 : BitVec 32 := Scalar.select v89 c1_i32_49 c2_i32
  let v91 : BitVec 32 := Scalar.remsi arg0 v90
  let c0_i32_51 : BitVec 32 := 0#32
  let v93 : BitVec 1 := Scalar.cmpi .slt v91 c0_i32_51
  let c0_i32_52 : BitVec 32 := 0#32
  let v94 : BitVec 1 := Scalar.cmpi .slt v90 c0_i32_52
  let v95 : BitVec 1 := Scalar.xori v93 v94
  let c0_i32_50 : BitVec 32 := 0#32
  let v92 : BitVec 1 := Scalar.cmpi .ne v91 c0_i32_50
  let v96 : BitVec 1 := Scalar.andi v95 v92
  let v97 : BitVec 32 := Scalar.addi v91 v90
  let v98 : BitVec 32 := Scalar.select v96 v97 v91
  let c0_i32_53 : BitVec 32 := 0#32
  let v99 : BitVec 1 := Scalar.cmpi .eq v98 c0_i32_53
  let v100 : BitVec 32 := Scalar.extui v99
  let c0_i32_54 : BitVec 32 := 0#32
  let v101 : BitVec 1 := Scalar.cmpi .ne v100 c0_i32_54
  v101

def k0_cond3 (i : grid0.Coords) : BitVec 1 :=
  let arg0 : BitVec 32 := BitVec.ofNat 32 (i 0).val
  let c2_i32_55 : BitVec 32 := 2#32
  let c0_i32_56 : BitVec 32 := 0#32
  let v102 : BitVec 1 := Scalar.cmpi .eq c2_i32_55 c0_i32_56
  let c1_i32_57 : BitVec 32 := 1#32
  let v103 : BitVec 32 := Scalar.select v102 c1_i32_57 c2_i32_55
  let v104 : BitVec 32 := Scalar.remsi arg0 v103
  let c0_i32_59 : BitVec 32 := 0#32
  let v106 : BitVec 1 := Scalar.cmpi .slt v104 c0_i32_59
  let c0_i32_60 : BitVec 32 := 0#32
  let v107 : BitVec 1 := Scalar.cmpi .slt v103 c0_i32_60
  let v108 : BitVec 1 := Scalar.xori v106 v107
  let c0_i32_58 : BitVec 32 := 0#32
  let v105 : BitVec 1 := Scalar.cmpi .ne v104 c0_i32_58
  let v109 : BitVec 1 := Scalar.andi v108 v105
  let v110 : BitVec 32 := Scalar.addi v104 v103
  let v111 : BitVec 32 := Scalar.select v109 v110 v104
  let c0_i32_61 : BitVec 32 := 0#32
  let v112 : BitVec 1 := Scalar.cmpi .ne v111 c0_i32_61
  let v113 : BitVec 32 := Scalar.extui v112
  let c0_i32_62 : BitVec 32 := 0#32
  let v114 : BitVec 1 := Scalar.cmpi .ne v113 c0_i32_62
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S128x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x2048 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x8x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev grid1 : Pipeline.Grid := ⟨2, ![2, 16], ![false, false]⟩

def k1_off1 : Fin 3 → Nat :=
  let c0_i32_19_r0 : BitVec 32 := 0#32
  let c2_i32_r0 : BitVec 32 := 2#32
  let v20_r0 : BitVec 32 := Scalar.remui c0_i32_19_r0 c2_i32_r0
  let c0_i32_20_r0 : BitVec 32 := 0#32
  let c0_i32_21_r0 : BitVec 32 := 0#32
  ![v20_r0.toNat, 0, 0]
def k1_off2 (i : grid1.Coords) : Fin 2 → Nat :=
  let c0_i32_22_r0 : BitVec 32 := 0#32
  let c128_i32_r0 : BitVec 32 := 128#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v7_r0 : BitVec 32 := Scalar.addi c0_i32_2_r0 v4
  let v21_r0 : BitVec 32 := Scalar.muli c128_i32_r0 v7_r0
  ![0, v21_r0.toNat]
def k1_off3 : Fin 1 → Nat :=
  let c0_i32_19_r0 : BitVec 32 := 0#32
  let c2_i32_r0 : BitVec 32 := 2#32
  let v20_r0 : BitVec 32 := Scalar.remui c0_i32_19_r0 c2_i32_r0
  ![v20_r0.toNat]
def k1_cond1 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v46_r0 : BitVec 1 := Scalar.cmpi .ne v33_r0 v41_r0
  let c0_i32_32_r0 : BitVec 32 := 0#32
  let c0_i32_54_r0 : BitVec 32 := 0#32
  let v47_r0 : BitVec 1 := Scalar.cmpi .sge c0_i32_32_r0 c0_i32_54_r0
  let true_55_r0 : BitVec 1 := 1#1
  let v48_r0 : BitVec 1 := Scalar.xori v47_r0 true_55_r0
  let v49_r0 : BitVec 1 := Scalar.andi v46_r0 v48_r0
  let true_56_r0 : BitVec 1 := 1#1
  let v50_r0 : BitVec 1 := Scalar.andi v49_r0 true_56_r0
  let v51_r0 : BitVec 32 := Scalar.extui v50_r0
  let c0_i32_57_r0 : BitVec 32 := 0#32
  let v52_r0 : BitVec 1 := Scalar.cmpi .ne v51_r0 c0_i32_57_r0
  v52_r0

def k1_off4 : Fin 3 → Nat :=
  let c0_i32_26_r0 : BitVec 32 := 0#32
  let c1_i32_27_r0 : BitVec 32 := 1#32
  let v30_r0 : BitVec 32 := Scalar.addi c0_i32_26_r0 c1_i32_27_r0
  let c2_i32_121_r0 : BitVec 32 := 2#32
  let v135_r0 : BitVec 32 := Scalar.remui v30_r0 c2_i32_121_r0
  let c0_i32_123_r0 : BitVec 32 := 0#32
  let c0_i32_124_r0 : BitVec 32 := 0#32
  ![v135_r0.toNat, 0, 0]
def k1_off5 (i : grid1.Coords) : Fin 2 → Nat :=
  let c0_i32_125_r0 : BitVec 32 := 0#32
  let c128_i32_122_r0 : BitVec 32 := 128#32
  let c0_i32_47_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v41_r0 : BitVec 32 := Scalar.addi c0_i32_47_r0 v4
  let v136_r0 : BitVec 32 := Scalar.muli c128_i32_122_r0 v41_r0
  ![0, v136_r0.toNat]
def k1_off6 : Fin 1 → Nat :=
  let c0_i32_26_r0 : BitVec 32 := 0#32
  let c1_i32_27_r0 : BitVec 32 := 1#32
  let v30_r0 : BitVec 32 := Scalar.addi c0_i32_26_r0 c1_i32_27_r0
  let c2_i32_121_r0 : BitVec 32 := 2#32
  let v135_r0 : BitVec 32 := Scalar.remui v30_r0 c2_i32_121_r0
  ![v135_r0.toNat]
def k1_cond2 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v60_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let v61_r0 : BitVec 1 := Scalar.ori v60_r0 v31_r0
  let c0_i32_62_r0 : BitVec 32 := 0#32
  let v62_r0 : BitVec 1 := Scalar.cmpi .sge c0_i32_32_r0 c0_i32_62_r0
  let v63_r0 : BitVec 1 := Scalar.andi v61_r0 v62_r0
  let v64_r0 : BitVec 32 := Scalar.extui v63_r0
  let c0_i32_63_r0 : BitVec 32 := 0#32
  let v65_r0 : BitVec 1 := Scalar.cmpi .ne v64_r0 c0_i32_63_r0
  v65_r0

def k1_off7 : Fin 3 → Nat :=
  let c0_i32_28_r0 : BitVec 32 := 0#32
  let c2_i32_122_r0 : BitVec 32 := 2#32
  let v136_r0 : BitVec 32 := Scalar.remui c0_i32_28_r0 c2_i32_122_r0
  let c0_i32_123_r0 : BitVec 32 := 0#32
  let c0_i32_124_r0 : BitVec 32 := 0#32
  ![v136_r0.toNat, 0, 0]
def k1_off8 (i : grid1.Coords) : Fin 2 → Nat :=
  let c0_i32_125_r0 : BitVec 32 := 0#32
  let c128_i32_121_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v135_r0 : BitVec 32 := Scalar.muli c128_i32_121_r0 v33_r0
  ![0, v135_r0.toNat]
def k1_off9 : Fin 1 → Nat :=
  let c0_i32_28_r0 : BitVec 32 := 0#32
  let c2_i32_122_r0 : BitVec 32 := 2#32
  let v136_r0 : BitVec 32 := Scalar.remui c0_i32_28_r0 c2_i32_122_r0
  ![v136_r0.toNat]
@[reducible] def k1_t1_loop : Scf.Loop 32 :=
  let c0_i32_68_r0 : BitVec 32 := 0#32
  let c8_i32_r0 : BitVec 32 := 8#32
  let v74_r0 : BitVec 32 := Scalar.addi c0_i32_68_r0 c8_i32_r0
  let c1_i32_69_r0 : BitVec 32 := 1#32
  ⟨c0_i32_68_r0, v74_r0, c1_i32_69_r0⟩
def k1_off10 : Fin 3 → Nat :=
  let c0_i32_28_r0 : BitVec 32 := 0#32
  let c2_i32_66_r0 : BitVec 32 := 2#32
  let v72_r0 : BitVec 32 := Scalar.remui c0_i32_28_r0 c2_i32_66_r0
  let c0_i32_126_r0 : BitVec 32 := 0#32
  let c0_i32_127_r0 : BitVec 32 := 0#32
  ![v72_r0.toNat, 0, 0]
def k1_off11 (k1_t1 : Fin k1_t1_loop.trips) : Fin 2 → Nat :=
  let c0_r0 : Index := 0#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v143_r0 : Index := Scalar.indexCast v136_r0
  ![0, v143_r0.toNat]
def k1_off12 (k1_t1 : Fin k1_t1_loop.trips) : Fin 2 → Nat :=
  let c1_r0 : Index := 1#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v158_r0 : Index := Scalar.indexCast v136_r0
  ![1, v158_r0.toNat]
def k1_off13 (k1_t1 : Fin k1_t1_loop.trips) : Fin 2 → Nat :=
  let c2_r0 : Index := 2#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v173_r0 : Index := Scalar.indexCast v136_r0
  ![2, v173_r0.toNat]
def k1_off14 (k1_t1 : Fin k1_t1_loop.trips) : Fin 2 → Nat :=
  let c3_r0 : Index := 3#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v188_r0 : Index := Scalar.indexCast v136_r0
  ![3, v188_r0.toNat]
def k1_off15 (k1_t1 : Fin k1_t1_loop.trips) : Fin 2 → Nat :=
  let c4_r0 : Index := 4#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v203_r0 : Index := Scalar.indexCast v136_r0
  ![4, v203_r0.toNat]
def k1_off16 (k1_t1 : Fin k1_t1_loop.trips) : Fin 2 → Nat :=
  let c5_r0 : Index := 5#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v218_r0 : Index := Scalar.indexCast v136_r0
  ![5, v218_r0.toNat]
def k1_off17 (k1_t1 : Fin k1_t1_loop.trips) : Fin 2 → Nat :=
  let c6_r0 : Index := 6#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v233_r0 : Index := Scalar.indexCast v136_r0
  ![6, v233_r0.toNat]
def k1_off18 (k1_t1 : Fin k1_t1_loop.trips) : Fin 2 → Nat :=
  let c7_r0 : Index := 7#32
  let c0_i32_122_r0 : BitVec 32 := 0#32
  let c0_i32_68_r0 : BitVec 32 := 0#32
  let c1_i32_69_r0 : BitVec 32 := 1#32
  let arg4_r0 : BitVec 32 := Scf.iv c0_i32_68_r0 c1_i32_69_r0 k1_t1
  let c16_i32_121_r0 : BitVec 32 := 16#32
  let v135_r0 : BitVec 32 := Scalar.muli arg4_r0 c16_i32_121_r0
  let v136_r0 : BitVec 32 := Scalar.addi c0_i32_122_r0 v135_r0
  let v248_r0 : Index := Scalar.indexCast v136_r0
  ![7, v248_r0.toNat]
def k1_cond5 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_47_r0 : BitVec 32 := 0#32
  let v41_r0 : BitVec 32 := Scalar.addi c0_i32_47_r0 v4
  let v80_r0 : BitVec 1 := Scalar.cmpi .ne v33_r0 v41_r0
  let c0_i32_32_r0 : BitVec 32 := 0#32
  let c0_i32_34_r0 : BitVec 32 := 0#32
  let v32_r0 : BitVec 1 := Scalar.cmpi .eq c0_i32_32_r0 c0_i32_34_r0
  let v81_r0 : BitVec 1 := Scalar.ori v80_r0 v32_r0
  let v82_r0 : BitVec 32 := Scalar.extui v81_r0
  let c0_i32_72_r0 : BitVec 32 := 0#32
  let v83_r0 : BitVec 1 := Scalar.cmpi .ne v82_r0 c0_i32_72_r0
  v83_r0

def k1_off19 : Fin 3 → Nat :=
  let c0_i32_29_r0 : BitVec 32 := 0#32
  let c2_i32_121_r0 : BitVec 32 := 2#32
  let v135_r0 : BitVec 32 := Scalar.remui c0_i32_29_r0 c2_i32_121_r0
  let c0_i32_123_r0 : BitVec 32 := 0#32
  let c0_i32_124_r0 : BitVec 32 := 0#32
  ![v135_r0.toNat, 0, 0]
def k1_off20 (i : grid1.Coords) : Fin 2 → Nat :=
  let c0_i32_125_r0 : BitVec 32 := 0#32
  let c128_i32_122_r0 : BitVec 32 := 128#32
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let v136_r0 : BitVec 32 := Scalar.muli c128_i32_122_r0 v33_r0
  ![0, v136_r0.toNat]
def k1_off21 : Fin 1 → Nat :=
  let c0_i32_29_r0 : BitVec 32 := 0#32
  let c2_i32_121_r0 : BitVec 32 := 2#32
  let v135_r0 : BitVec 32 := Scalar.remui c0_i32_29_r0 c2_i32_121_r0
  ![v135_r0.toNat]
def k1_cond7 (i : grid1.Coords) : BitVec 1 :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_78_r0 : BitVec 1 := 1#1
  let v94_r0 : BitVec 1 := Scalar.xori v31_r0 true_78_r0
  let v95_r0 : BitVec 1 := Scalar.andi v93_r0 v94_r0
  let v96_r0 : BitVec 32 := Scalar.extui v95_r0
  let c0_i32_79_r0 : BitVec 32 := 0#32
  let v97_r0 : BitVec 1 := Scalar.cmpi .ne v96_r0 c0_i32_79_r0
  v97_r0

def k1_off22 : Fin 3 → Nat :=
  let c0_i32_30_r0 : BitVec 32 := 0#32
  let c2_i32_121_r0 : BitVec 32 := 2#32
  let v135_r0 : BitVec 32 := Scalar.remui c0_i32_30_r0 c2_i32_121_r0
  let c0_i32_123_r0 : BitVec 32 := 0#32
  let c0_i32_124_r0 : BitVec 32 := 0#32
  ![v135_r0.toNat, 0, 0]
def k1_off23 (i : grid1.Coords) : Fin 2 → Nat :=
  let c0_i32_125_r0 : BitVec 32 := 0#32
  let c128_i32_122_r0 : BitVec 32 := 128#32
  let c0_i32_41_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v37_r0 : BitVec 32 := Scalar.addi c0_i32_41_r0 v4
  let v136_r0 : BitVec 32 := Scalar.muli c128_i32_122_r0 v37_r0
  ![0, v136_r0.toNat]
def k1_off24 : Fin 1 → Nat :=
  let c0_i32_30_r0 : BitVec 32 := 0#32
  let c2_i32_121_r0 : BitVec 32 := 2#32
  let v135_r0 : BitVec 32 := Scalar.remui c0_i32_30_r0 c2_i32_121_r0
  ![v135_r0.toNat]
def k1_off25 (i : grid1.Coords) : Fin 3 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_78_r0 : BitVec 1 := 1#1
  let v94_r0 : BitVec 1 := Scalar.xori v31_r0 true_78_r0
  let v95_r0 : BitVec 1 := Scalar.andi v93_r0 v94_r0
  let true_80_r0 : BitVec 1 := 1#1
  let v98_r0 : BitVec 1 := Scalar.andi v95_r0 true_80_r0
  let c0_i32_30_r0 : BitVec 32 := 0#32
  let c1_i32_81_r0 : BitVec 32 := 1#32
  let v99_r0 : BitVec 32 := Scalar.addi c0_i32_30_r0 c1_i32_81_r0
  let v100_r0 : BitVec 32 := Scalar.select v98_r0 v99_r0 c0_i32_30_r0
  let c2_i32_113_r0 : BitVec 32 := 2#32
  let v125_r0 : BitVec 32 := Scalar.remui v100_r0 c2_i32_113_r0
  let c0_i32_115_r0 : BitVec 32 := 0#32
  let c0_i32_116_r0 : BitVec 32 := 0#32
  ![v125_r0.toNat, 0, 0]
def k1_off26 (i : grid1.Coords) : Fin 1 → Nat :=
  let c0_i32_35_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c1_i32_0 : BitVec 32 := 1#32
  let v4 : BitVec 32 := Scalar.muli v3 c1_i32_0
  let v33_r0 : BitVec 32 := Scalar.addi c0_i32_35_r0 v4
  let c0_i32_41_r0 : BitVec 32 := 0#32
  let v37_r0 : BitVec 32 := Scalar.addi c0_i32_41_r0 v4
  let v93_r0 : BitVec 1 := Scalar.cmpi .ne v33_r0 v37_r0
  let c0_i32_32_r0 : BitVec 32 := 0#32
  let c0_i32_33_r0 : BitVec 32 := 0#32
  let v31_r0 : BitVec 1 := Scalar.cmpi .eq c0_i32_32_r0 c0_i32_33_r0
  let true_78_r0 : BitVec 1 := 1#1
  let v94_r0 : BitVec 1 := Scalar.xori v31_r0 true_78_r0
  let v95_r0 : BitVec 1 := Scalar.andi v93_r0 v94_r0
  let true_80_r0 : BitVec 1 := 1#1
  let v98_r0 : BitVec 1 := Scalar.andi v95_r0 true_80_r0
  let c0_i32_30_r0 : BitVec 32 := 0#32
  let c1_i32_81_r0 : BitVec 32 := 1#32
  let v99_r0 : BitVec 32 := Scalar.addi c0_i32_30_r0 c1_i32_81_r0
  let v100_r0 : BitVec 32 := Scalar.select v98_r0 v99_r0 c0_i32_30_r0
  let c2_i32_113_r0 : BitVec 32 := 2#32
  let v125_r0 : BitVec 32 := Scalar.remui v100_r0 c2_i32_113_r0
  ![v125_r0.toNat]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S1024x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S1024x128 .bf16 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S1024x128 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S1024x128 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev grid3 : Pipeline.Grid := ⟨1, ![4], ![false]⟩

def k3_cond4 (i : grid3.Coords) : BitVec 1 :=
  let arg0 : BitVec 32 := BitVec.ofNat 32 (i 0).val
  let c3_i32 : BitVec 32 := 3#32
  let v170 : BitVec 1 := Scalar.cmpi .eq arg0 c3_i32
  let v171 : BitVec 32 := Scalar.extui v170
  let c0_i32_63 : BitVec 32 := 0#32
  let v172 : BitVec 1 := Scalar.cmpi .ne v171 c0_i32_63
  v172

def k3_cond1 (i : grid3.Coords) : BitVec 1 :=
  let arg0 : BitVec 32 := BitVec.ofNat 32 (i 0).val
  let c0_i32_58 : BitVec 32 := 0#32
  let v161 : BitVec 1 := Scalar.cmpi .eq arg0 c0_i32_58
  let v162 : BitVec 32 := Scalar.extui v161
  let c0_i32_59 : BitVec 32 := 0#32
  let v163 : BitVec 1 := Scalar.cmpi .ne v162 c0_i32_59
  v163

def k3_cond2 (i : grid3.Coords) : BitVec 1 :=
  let arg0 : BitVec 32 := BitVec.ofNat 32 (i 0).val
  let c2_i32 : BitVec 32 := 2#32
  let v164 : BitVec 1 := Scalar.cmpi .slt arg0 c2_i32
  let v165 : BitVec 32 := Scalar.extui v164
  let c0_i32_60 : BitVec 32 := 0#32
  let v166 : BitVec 1 := Scalar.cmpi .ne v165 c0_i32_60
  v166

def k3_cond3 (i : grid3.Coords) : BitVec 1 :=
  let arg0 : BitVec 32 := BitVec.ofNat 32 (i 0).val
  let c2_i32_61 : BitVec 32 := 2#32
  let v167 : BitVec 1 := Scalar.cmpi .sge arg0 c2_i32_61
  let v168 : BitVec 32 := Scalar.extui v167
  let c0_i32_62 : BitVec 32 := 0#32
  let v169 : BitVec 1 := Scalar.cmpi .ne v168 c0_i32_62
  v169

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc3_transform_2 (i : grid3.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S8x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S128x1024 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1024x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1024x128 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1024 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S2x8x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1024x1024 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S2x8x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x1024 : Shape := ⟨3, ![2, 2048, 1024]⟩
abbrev S8x1024 : Shape := ⟨2, ![8, 1024]⟩
abbrev S8 : Shape := ⟨1, ![8]⟩
abbrev S_ : Shape := ⟨0, ![]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S128x1024 : Shape := ⟨2, ![128, 1024]⟩
abbrev S128 : Shape := ⟨1, ![128]⟩
abbrev S128x2048 : Shape := ⟨2, ![128, 2048]⟩
abbrev S2048x128 : Shape := ⟨2, ![2048, 128]⟩
abbrev S8x128x128 : Shape := ⟨3, ![8, 128, 128]⟩
abbrev S8x128 : Shape := ⟨2, ![8, 128]⟩
abbrev S4096x1024 : Shape := ⟨2, ![4096, 1024]⟩
abbrev S1024x8 : Shape := ⟨2, ![1024, 8]⟩
abbrev S4096x8 : Shape := ⟨2, ![4096, 8]⟩
abbrev S4096 : Shape := ⟨1, ![4096]⟩
abbrev S4096x1 : Shape := ⟨2, ![4096, 1]⟩
abbrev S1x8 : Shape := ⟨2, ![1, 8]⟩
abbrev S4096x2 : Shape := ⟨2, ![4096, 2]⟩
abbrev S4096x2x1 : Shape := ⟨3, ![4096, 2, 1]⟩
abbrev S4096x2x2 : Shape := ⟨3, ![4096, 2, 2]⟩
abbrev S2x2048x8 : Shape := ⟨3, ![2, 2048, 8]⟩
abbrev S2x8 : Shape := ⟨2, ![2, 8]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S2x2048x1024, .f32⟩
  | 1 => ⟨S8x1024, .f32⟩
  | 2 => ⟨S8, .f32⟩
  | 3 => ⟨S8, .f32⟩
  | 4 => ⟨S_, .f32⟩
  | 5 => ⟨S2048x1024, .f32⟩
  | 6 => ⟨S2048, .f32⟩
  | 7 => ⟨S2048x1024, .f32⟩
  | 8 => ⟨S2048, .f32⟩
  | 9 => ⟨S1024x2048, .f32⟩
  | 10 => ⟨S1024, .f32⟩
  | 11 => ⟨S128x1024, .f32⟩
  | 12 => ⟨S128, .f32⟩
  | 13 => ⟨S128x2048, .f32⟩
  | 14 => ⟨S128, .f32⟩
  | 15 => ⟨S128, .f32⟩
  | 16 => ⟨S128, .f32⟩
  | 17 => ⟨S2048x128, .f32⟩
  | 18 => ⟨S8x128x128, .f32⟩
  | 19 => ⟨S8x128, .f32⟩
  | 20 => ⟨S8x128, .f32⟩
  | 21 => ⟨S2048x128, .f32⟩
  | 22 => ⟨S1024x2048, .f32⟩
  | 23 => ⟨S4096x1024, .f32⟩
  | 24 => ⟨S1024x8, .f32⟩
  | 25 => ⟨S4096x8, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .i32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S4096x8, .f32⟩
  | 40 => ⟨S4096x8, .f32⟩
  | 41 => ⟨S4096x8, .f32⟩
  | 42 => ⟨S_, .f32⟩
  | 43 => ⟨S_, .f32⟩
  | 44 => ⟨S_, .f32⟩
  | 45 => ⟨S_, .f32⟩
  | 46 => ⟨S4096, .f32⟩
  | 47 => ⟨S4096x1, .f32⟩
  | 48 => ⟨S4096x1, .f32⟩
  | 49 => ⟨S4096x1, .f32⟩
  | 50 => ⟨S_, .f32⟩
  | 51 => ⟨S_, .i1⟩
  | 52 => ⟨S_, .f32⟩
  | 53 => ⟨S_, .f32⟩
  | 54 => ⟨S4096x1, .f32⟩
  | 55 => ⟨S4096x1, .f32⟩
  | 56 => ⟨S4096x8, .f32⟩
  | 57 => ⟨S4096x8, .f32⟩
  | 58 => ⟨S_, .f32⟩
  | 59 => ⟨S4096x1, .f32⟩
  | 60 => ⟨S4096x1, .f32⟩
  | 61 => ⟨S4096x1, .f32⟩
  | 62 => ⟨S4096x8, .f32⟩
  | 63 => ⟨S4096x8, .f32⟩
  | 64 => ⟨S1x8, .f32⟩
  | 65 => ⟨S4096x8, .f32⟩
  | 66 => ⟨S4096x8, .f32⟩
  | 67 => ⟨S1x8, .f32⟩
  | 68 => ⟨S4096x8, .f32⟩
  | 69 => ⟨S4096x8, .f32⟩
  | 70 => ⟨S_, .f32⟩
  | 71 => ⟨S_, .f32⟩
  | 72 => ⟨S4096x8, .f32⟩
  | 73 => ⟨S4096x8, .f32⟩
  | 74 => ⟨S_, .f32⟩
  | 75 => ⟨S4096, .f32⟩
  | 76 => ⟨S_, .f32⟩
  | 77 => ⟨S4096, .f32⟩
  | 78 => ⟨S4096, .f32⟩
  | 79 => ⟨S4096x1, .f32⟩
  | 80 => ⟨S4096x8, .f32⟩
  | 81 => ⟨S4096x8, .f32⟩
  | 82 => ⟨S4096x8, .f32⟩
  | 83 => ⟨S_, .f32⟩
  | 84 => ⟨S4096, .f32⟩
  | 85 => ⟨S4096x1, .f32⟩
  | 86 => ⟨S4096x8, .f32⟩
  | 87 => ⟨S4096x8, .f32⟩
  | 88 => ⟨S4096x2, .f32⟩
  | 89 => ⟨S4096x2, .i32⟩
  | 90 => ⟨S_, .f32⟩
  | 91 => ⟨S4096x8, .f32⟩
  | 92 => ⟨S4096, .i32⟩
  | 93 => ⟨S4096x1, .i32⟩
  | 94 => ⟨S_, .i32⟩
  | 95 => ⟨S4096x1, .i32⟩
  | 96 => ⟨S4096x1, .i1⟩
  | 97 => ⟨S_, .i32⟩
  | 98 => ⟨S4096x1, .i32⟩
  | 99 => ⟨S4096x1, .i32⟩
  | 100 => ⟨S4096x1, .i32⟩
  | 101 => ⟨S_, .i32⟩
  | 102 => ⟨S4096x2, .i32⟩
  | 103 => ⟨S4096x2, .i1⟩
  | 104 => ⟨S_, .i32⟩
  | 105 => ⟨S4096x2, .i32⟩
  | 106 => ⟨S4096x2, .i32⟩
  | 107 => ⟨S4096x2, .i32⟩
  | 108 => ⟨S4096x2, .i32⟩
  | 109 => ⟨S4096x2x1, .i32⟩
  | 110 => ⟨S4096x2x1, .i32⟩
  | 111 => ⟨S4096x2x2, .i32⟩
  | 112 => ⟨S4096x8, .f32⟩
  | 113 => ⟨S2x2048x8, .f32⟩
  | 114 => ⟨S_, .f32⟩
  | 115 => ⟨S2x8, .f32⟩
  | 116 => ⟨S_, .f32⟩
  | 117 => ⟨S2x8, .f32⟩
  | 118 => ⟨S2x8, .f32⟩
  | 119 => ⟨S_, .i32⟩
  | 120 => ⟨S_, .f32⟩
  | 121 => ⟨S_, .f32⟩
  | 122 => ⟨S1x1, .f32⟩
  | 123 => ⟨S_, .f32⟩
  | 124 => ⟨S1x1, .f32⟩
  | 125 => ⟨S1x1, .f32⟩
  | 126 => ⟨S2x8, .f32⟩
  | 127 => ⟨S2x8, .f32⟩
  | _ => ⟨S2x2048x1024, .f32⟩

abbrev hbmTy0_1 (i : Nat) : BufTy := match i % 128 with
  | 0 => ⟨S2x8, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .i1⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S4096x8, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_1 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst_2 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_cst_3 : Ref sig .tc := ⟨.hbm, 74, rfl⟩
abbrev main_v24 : Ref sig .tc := ⟨.hbm, 75, rfl⟩
abbrev main_cst_4 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_5 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_values : Ref sig .tc := ⟨.hbm, 88, rfl⟩
abbrev main_indices : Ref sig .tc := ⟨.hbm, 89, rfl⟩
abbrev main_cst_6 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_c_7 : Ref sig .tc := ⟨.hbm, 94, rfl⟩
abbrev main_v38 : Ref sig .tc := ⟨.hbm, 95, rfl⟩
abbrev main_v39 : Ref sig .tc := ⟨.hbm, 96, rfl⟩
abbrev main_c_8 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_c_9 : Ref sig .tc := ⟨.hbm, 101, rfl⟩
abbrev main_v43 : Ref sig .tc := ⟨.hbm, 102, rfl⟩
abbrev main_v44 : Ref sig .tc := ⟨.hbm, 103, rfl⟩
abbrev main_c_10 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_cst_11 : Ref sig .tc := ⟨.hbm, 114, rfl⟩
abbrev main_v54 : Ref sig .tc := ⟨.hbm, 115, rfl⟩
abbrev main_cst_12 : Ref sig .tc := ⟨.hbm, 116, rfl⟩
abbrev main_v55 : Ref sig .tc := ⟨.hbm, 117, rfl⟩
abbrev main_v56 : Ref sig .tc := ⟨.hbm, 118, rfl⟩
abbrev main_c_13 : Ref sig .tc := ⟨.hbm, 119, rfl⟩
abbrev main_call1_call0_cst : Ref sig .tc := ⟨.hbm, 120, rfl⟩
abbrev main_call1_call0_v0 : Ref sig .tc := ⟨.hbm, 121, rfl⟩
abbrev main_call1_call0_v1 : Ref sig .tc := ⟨.hbm, 122, rfl⟩
abbrev main_call1_call0_cst_0 : Ref sig .tc := ⟨.hbm, 123, rfl⟩
abbrev main_call1_call0_v2 : Ref sig .tc := ⟨.hbm, 124, rfl⟩
abbrev main_call1_call0_v3 : Ref sig .tc := ⟨.hbm, 125, rfl⟩
abbrev main_call1_call0_v4 : Ref sig .tc := ⟨.hbm, 126, rfl⟩
abbrev main_call1_call0_v5 : Ref sig .tc := ⟨.hbm, 127, rfl⟩
abbrev main_call1_call0_v6 : Ref sig .tc := ⟨.hbm, 128, rfl⟩
abbrev main_call1_call0_v7 : Ref sig .tc := ⟨.hbm, 129, rfl⟩
abbrev main_call1_call0_cst_1 : Ref sig .tc := ⟨.hbm, 130, rfl⟩
abbrev main_call1_call0_v8 : Ref sig .tc := ⟨.hbm, 131, rfl⟩
abbrev main_call1_call0_cst_2 : Ref sig .tc := ⟨.hbm, 132, rfl⟩
abbrev main_call1_call0_v9 : Ref sig .tc := ⟨.hbm, 133, rfl⟩
abbrev main_call1_call0_v10 : Ref sig .tc := ⟨.hbm, 134, rfl⟩
abbrev main_call1_call0_cst_3 : Ref sig .tc := ⟨.hbm, 135, rfl⟩
abbrev main_call1_call0_v11 : Ref sig .tc := ⟨.hbm, 136, rfl⟩
abbrev main_call1_call0_cst_4 : Ref sig .tc := ⟨.hbm, 137, rfl⟩
abbrev main_call1_call0_call0_v0 : Ref sig .tc := ⟨.hbm, 138, rfl⟩
abbrev main_call1_v0 : Ref sig .tc := ⟨.hbm, 139, rfl⟩
abbrev main_v57 : Ref sig .tc := ⟨.hbm, 140, rfl⟩
abbrev main_cst_14 : Ref sig .tc := ⟨.hbm, 141, rfl⟩
abbrev main_v58 : Ref sig .tc := ⟨.hbm, 142, rfl⟩
abbrev main_cst_15 : Ref sig .tc := ⟨.hbm, 143, rfl⟩
abbrev main_v59 : Ref sig .tc := ⟨.hbm, 144, rfl⟩
abbrev main_v60 : Ref sig .tc := ⟨.hbm, 145, rfl⟩
abbrev main_cst_16 : Ref sig .tc := ⟨.hbm, 146, rfl⟩
abbrev main_v61 : Ref sig .tc := ⟨.hbm, 147, rfl⟩
abbrev main_v62 : Ref sig .tc := ⟨.hbm, 148, rfl⟩
abbrev main_cst_17 : Ref sig .tc := ⟨.hbm, 149, rfl⟩
abbrev main_v63 : Ref sig .tc := ⟨.hbm, 150, rfl⟩
abbrev main_cst_18 : Ref sig .tc := ⟨.hbm, 151, rfl⟩
abbrev main_v64 : Ref sig .tc := ⟨.hbm, 152, rfl⟩
abbrev main_cst_19 : Ref sig .tc := ⟨.hbm, 153, rfl⟩
abbrev main_v65 : Ref sig .tc := ⟨.hbm, 154, rfl⟩
abbrev main_cst_20 : Ref sig .tc := ⟨.hbm, 155, rfl⟩
abbrev main_v66 : Ref sig .tc := ⟨.hbm, 156, rfl⟩
abbrev main_v67 : Ref sig .tc := ⟨.hbm, 157, rfl⟩

abbrev nD : Nat := 1
abbrev τ : Topo := Topo.v7x

variable {F : FTy → Type} [FloatOps F]
-- ==== Shared.lean ====
abbrev S2x2048x1024 : Shape := ⟨3, ![2, 2048, 1024]⟩
abbrev S2048x1024 : Shape := ⟨2, ![2048, 1024]⟩
abbrev S128x1024 : Shape := ⟨2, ![128, 1024]⟩
abbrev S128x2048 : Shape := ⟨2, ![128, 2048]⟩
abbrev S1024x2048 : Shape := ⟨2, ![1024, 2048]⟩
abbrev S2048 : Shape := ⟨1, ![2048]⟩
abbrev S128 : Shape := ⟨1, ![128]⟩
abbrev S1024 : Shape := ⟨1, ![1024]⟩
abbrev S4096x1024 : Shape := ⟨2, ![4096, 1024]⟩
abbrev S1x2048 : Shape := ⟨2, ![1, 2048]⟩
abbrev S1x128 : Shape := ⟨2, ![1, 128]⟩
abbrev S1x1024 : Shape := ⟨2, ![1, 1024]⟩
abbrev S4096x128 : Shape := ⟨2, ![4096, 128]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 25
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2048x1024, .bf16⟩
  | .hbm, ⟨2, _⟩ => ⟨S2048x1024, .bf16⟩
  | .hbm, ⟨3, _⟩ => ⟨S128x1024, .bf16⟩
  | .hbm, ⟨4, _⟩ => ⟨S128x2048, .bf16⟩
  | .hbm, ⟨5, _⟩ => ⟨S1024x2048, .bf16⟩
  | .hbm, ⟨6, _⟩ => ⟨S2048, .f32⟩
  | .hbm, ⟨7, _⟩ => ⟨S2048, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1024, .f32⟩
  | .hbm, ⟨13, _⟩ => ⟨S4096x1024, .f32⟩
  | .hbm, ⟨14, _⟩ => ⟨S1x2048, .f32⟩
  | .hbm, ⟨15, _⟩ => ⟨S1x2048, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x1024, .f32⟩
  | .hbm, ⟨21, _⟩ => ⟨S4096x1024, .bf16⟩
  | .hbm, ⟨22, _⟩ => ⟨S4096x128, .bf16⟩
  | .hbm, ⟨23, _⟩ => ⟨S4096x128, .bf16⟩
  | .hbm, ⟨24, _⟩ => ⟨S4096x128, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S128x1024, .bf16⟩
  | .local _ .vmem, ⟨5, _⟩ => ⟨S128x2048, .bf16⟩
  | .local _ .vmem, ⟨6, _⟩ => ⟨S1024x2048, .bf16⟩
  | .local _ .vmem, ⟨7, _⟩ => ⟨S1x2048, .f32⟩
  | .local _ .vmem, ⟨8, _⟩ => ⟨S1x2048, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== SharedReferenceIdeal.lean ====
abbrev S2x2048x1024 : Shape := ⟨3, ![2, 2048, 1024]⟩
abbrev S2048x1024 : Shape := ⟨2, ![2048, 1024]⟩
abbrev S128x1024 : Shape := ⟨2, ![128, 1024]⟩
abbrev S128x2048 : Shape := ⟨2, ![128, 2048]⟩
abbrev S1024x2048 : Shape := ⟨2, ![1024, 2048]⟩
abbrev S2048 : Shape := ⟨1, ![2048]⟩
abbrev S128 : Shape := ⟨1, ![128]⟩
abbrev S1024 : Shape := ⟨1, ![1024]⟩
abbrev S4096x1024 : Shape := ⟨2, ![4096, 1024]⟩
abbrev S4096x2048 : Shape := ⟨2, ![4096, 2048]⟩
abbrev S1x2048 : Shape := ⟨2, ![1, 2048]⟩
abbrev S_ : Shape := ⟨0, ![]⟩
abbrev S1024x128 : Shape := ⟨2, ![1024, 128]⟩
abbrev S4096x128 : Shape := ⟨2, ![4096, 128]⟩
abbrev S1x128 : Shape := ⟨2, ![1, 128]⟩
abbrev S4096 : Shape := ⟨1, ![4096]⟩
abbrev S4096x1 : Shape := ⟨2, ![4096, 1]⟩
abbrev S2048x128 : Shape := ⟨2, ![2048, 128]⟩
abbrev S1x1024 : Shape := ⟨2, ![1, 1024]⟩

abbrev nBuf : Space → Nat
  | .hbm => 193
  | .vmem => 0
  | .smem => 0
  | _ => 0

abbrev hbmTy0_0 (i : Nat) : BufTy := match i % 128 with
  | 0 => ⟨S2x2048x1024, .f32⟩
  | 1 => ⟨S2048x1024, .bf16⟩
  | 2 => ⟨S2048x1024, .bf16⟩
  | 3 => ⟨S128x1024, .bf16⟩
  | 4 => ⟨S128x2048, .bf16⟩
  | 5 => ⟨S1024x2048, .bf16⟩
  | 6 => ⟨S2048, .f32⟩
  | 7 => ⟨S2048, .f32⟩
  | 8 => ⟨S128, .f32⟩
  | 9 => ⟨S128, .f32⟩
  | 10 => ⟨S128, .f32⟩
  | 11 => ⟨S128, .f32⟩
  | 12 => ⟨S1024, .f32⟩
  | 13 => ⟨S2048x1024, .f32⟩
  | 14 => ⟨S2048x1024, .f32⟩
  | 15 => ⟨S128x1024, .f32⟩
  | 16 => ⟨S128x2048, .f32⟩
  | 17 => ⟨S1024x2048, .f32⟩
  | 18 => ⟨S4096x1024, .f32⟩
  | 19 => ⟨S1024x2048, .f32⟩
  | 20 => ⟨S4096x2048, .f32⟩
  | 21 => ⟨S1x2048, .f32⟩
  | 22 => ⟨S4096x2048, .f32⟩
  | 23 => ⟨S4096x2048, .f32⟩
  | 24 => ⟨S1024x2048, .f32⟩
  | 25 => ⟨S4096x2048, .f32⟩
  | 26 => ⟨S1x2048, .f32⟩
  | 27 => ⟨S4096x2048, .f32⟩
  | 28 => ⟨S4096x2048, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S4096x2048, .f32⟩
  | 38 => ⟨S4096x2048, .f32⟩
  | 39 => ⟨S1024x128, .f32⟩
  | 40 => ⟨S4096x128, .f32⟩
  | 41 => ⟨S1x128, .f32⟩
  | 42 => ⟨S4096x128, .f32⟩
  | 43 => ⟨S4096x128, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .i32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S4096x128, .f32⟩
  | 58 => ⟨S4096x128, .f32⟩
  | 59 => ⟨S4096x128, .f32⟩
  | 60 => ⟨S_, .f32⟩
  | 61 => ⟨S_, .f32⟩
  | 62 => ⟨S_, .f32⟩
  | 63 => ⟨S_, .f32⟩
  | 64 => ⟨S4096, .f32⟩
  | 65 => ⟨S4096x1, .f32⟩
  | 66 => ⟨S4096x1, .f32⟩
  | 67 => ⟨S4096x1, .f32⟩
  | 68 => ⟨S_, .f32⟩
  | 69 => ⟨S_, .i1⟩
  | 70 => ⟨S_, .f32⟩
  | 71 => ⟨S_, .f32⟩
  | 72 => ⟨S4096x1, .f32⟩
  | 73 => ⟨S4096x1, .f32⟩
  | 74 => ⟨S4096x128, .f32⟩
  | 75 => ⟨S4096x128, .f32⟩
  | 76 => ⟨S_, .f32⟩
  | 77 => ⟨S4096x1, .f32⟩
  | 78 => ⟨S4096x1, .f32⟩
  | 79 => ⟨S4096x1, .f32⟩
  | 80 => ⟨S4096x128, .f32⟩
  | 81 => ⟨S4096x128, .f32⟩
  | 82 => ⟨S1x128, .f32⟩
  | 83 => ⟨S4096x128, .f32⟩
  | 84 => ⟨S4096x128, .f32⟩
  | 85 => ⟨S1x128, .f32⟩
  | 86 => ⟨S4096x128, .f32⟩
  | 87 => ⟨S4096x128, .f32⟩
  | 88 => ⟨S2048x128, .f32⟩
  | 89 => ⟨S4096x128, .f32⟩
  | 90 => ⟨S1x128, .f32⟩
  | 91 => ⟨S4096x128, .f32⟩
  | 92 => ⟨S4096x128, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S_, .i32⟩
  | 100 => ⟨S_, .f32⟩
  | 101 => ⟨S4096, .f32⟩
  | 102 => ⟨S4096x1, .f32⟩
  | 103 => ⟨S_, .f32⟩
  | 104 => ⟨S4096x1, .f32⟩
  | 105 => ⟨S4096x1, .f32⟩
  | 106 => ⟨S4096x128, .f32⟩
  | 107 => ⟨S4096x128, .f32⟩
  | 108 => ⟨S4096x128, .f32⟩
  | 109 => ⟨S_, .f32⟩
  | 110 => ⟨S_, .f32⟩
  | 111 => ⟨S_, .f32⟩
  | 112 => ⟨S_, .f32⟩
  | 113 => ⟨S4096, .f32⟩
  | 114 => ⟨S4096x1, .f32⟩
  | 115 => ⟨S4096x1, .f32⟩
  | 116 => ⟨S4096x1, .f32⟩
  | 117 => ⟨S_, .f32⟩
  | 118 => ⟨S_, .i1⟩
  | 119 => ⟨S_, .f32⟩
  | 120 => ⟨S_, .f32⟩
  | 121 => ⟨S4096x1, .f32⟩
  | 122 => ⟨S4096x1, .f32⟩
  | 123 => ⟨S4096x128, .f32⟩
  | 124 => ⟨S4096x128, .f32⟩
  | 125 => ⟨S_, .f32⟩
  | 126 => ⟨S4096x1, .f32⟩
  | 127 => ⟨S4096x1, .f32⟩
  | _ => ⟨S2x2048x1024, .f32⟩

abbrev hbmTy0_1 (i : Nat) : BufTy := match i % 128 with
  | 0 => ⟨S4096x1, .f32⟩
  | 1 => ⟨S4096x128, .f32⟩
  | 2 => ⟨S4096x128, .f32⟩
  | 3 => ⟨S1x128, .f32⟩
  | 4 => ⟨S4096x128, .f32⟩
  | 5 => ⟨S4096x128, .f32⟩
  | 6 => ⟨S1x128, .f32⟩
  | 7 => ⟨S4096x128, .f32⟩
  | 8 => ⟨S4096x128, .f32⟩
  | 9 => ⟨S2048x1024, .f32⟩
  | 10 => ⟨S4096x1024, .f32⟩
  | 11 => ⟨S1x1024, .f32⟩
  | 12 => ⟨S4096x1024, .f32⟩
  | 13 => ⟨S4096x1024, .f32⟩
  | 14 => ⟨S1024x128, .f32⟩
  | 15 => ⟨S4096x128, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .i32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x128, .f32⟩
  | 30 => ⟨S4096x128, .f32⟩
  | 31 => ⟨S4096x128, .f32⟩
  | 32 => ⟨S_, .f32⟩
  | 33 => ⟨S_, .f32⟩
  | 34 => ⟨S_, .f32⟩
  | 35 => ⟨S_, .f32⟩
  | 36 => ⟨S4096, .f32⟩
  | 37 => ⟨S4096x1, .f32⟩
  | 38 => ⟨S4096x1, .f32⟩
  | 39 => ⟨S4096x1, .f32⟩
  | 40 => ⟨S_, .f32⟩
  | 41 => ⟨S_, .i1⟩
  | 42 => ⟨S_, .f32⟩
  | 43 => ⟨S_, .f32⟩
  | 44 => ⟨S4096x1, .f32⟩
  | 45 => ⟨S4096x1, .f32⟩
  | 46 => ⟨S4096x128, .f32⟩
  | 47 => ⟨S4096x128, .f32⟩
  | 48 => ⟨S_, .f32⟩
  | 49 => ⟨S4096x1, .f32⟩
  | 50 => ⟨S4096x1, .f32⟩
  | 51 => ⟨S4096x1, .f32⟩
  | 52 => ⟨S4096x128, .f32⟩
  | 53 => ⟨S4096x128, .f32⟩
  | 54 => ⟨S1x128, .f32⟩
  | 55 => ⟨S4096x128, .f32⟩
  | 56 => ⟨S4096x128, .f32⟩
  | 57 => ⟨S1x128, .f32⟩
  | 58 => ⟨S4096x128, .f32⟩
  | 59 => ⟨S4096x128, .f32⟩
  | 60 => ⟨S4096x1024, .f32⟩
  | 61 => ⟨S4096x1024, .bf16⟩
  | 62 => ⟨S4096x128, .bf16⟩
  | 63 => ⟨S4096x128, .bf16⟩
  | 64 => ⟨S4096x128, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_cst_0 : Ref sig .tc := ⟨.hbm, 47, rfl⟩
abbrev main_v25 : Ref sig .tc := ⟨.hbm, 48, rfl⟩
abbrev main_v26 : Ref sig .tc := ⟨.hbm, 49, rfl⟩
abbrev main_c : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_cst_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_cst_1 : Ref sig .tc := ⟨.hbm, 61, rfl⟩
abbrev main_call1_v8 : Ref sig .tc := ⟨.hbm, 62, rfl⟩
abbrev main_call1_cst_2 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_cst_3 : Ref sig .tc := ⟨.hbm, 68, rfl⟩
abbrev main_call1_v13 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_1 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_cst_2 : Ref sig .tc := ⟨.hbm, 93, rfl⟩
abbrev main_v46 : Ref sig .tc := ⟨.hbm, 94, rfl⟩
abbrev main_v47 : Ref sig .tc := ⟨.hbm, 95, rfl⟩
abbrev main_cst_3 : Ref sig .tc := ⟨.hbm, 96, rfl⟩
abbrev main_v48 : Ref sig .tc := ⟨.hbm, 97, rfl⟩
abbrev main_v49 : Ref sig .tc := ⟨.hbm, 98, rfl⟩
abbrev main_c_4 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_cst_2 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_v12 : Ref sig .tc := ⟨.hbm, 116, rfl⟩
abbrev main_call2_cst_3 : Ref sig .tc := ⟨.hbm, 117, rfl⟩
abbrev main_call2_v13 : Ref sig .tc := ⟨.hbm, 118, rfl⟩
abbrev main_call2_cst_4 : Ref sig .tc := ⟨.hbm, 119, rfl⟩
abbrev main_call2_call0_v0 : Ref sig .tc := ⟨.hbm, 120, rfl⟩
abbrev main_call2_call0_v1 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_5 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_cst_6 : Ref sig .tc := ⟨.hbm, 144, rfl⟩
abbrev main_v71 : Ref sig .tc := ⟨.hbm, 145, rfl⟩
abbrev main_v72 : Ref sig .tc := ⟨.hbm, 146, rfl⟩
abbrev main_cst_7 : Ref sig .tc := ⟨.hbm, 147, rfl⟩
abbrev main_v73 : Ref sig .tc := ⟨.hbm, 148, rfl⟩
abbrev main_v74 : Ref sig .tc := ⟨.hbm, 149, rfl⟩
abbrev main_c_8 : Ref sig .tc := ⟨.hbm, 150, rfl⟩
abbrev main_call3_cst : Ref sig .tc := ⟨.hbm, 151, rfl⟩
abbrev main_call3_v0 : Ref sig .tc := ⟨.hbm, 152, rfl⟩
abbrev main_call3_v1 : Ref sig .tc := ⟨.hbm, 153, rfl⟩
abbrev main_call3_cst_0 : Ref sig .tc := ⟨.hbm, 154, rfl⟩
abbrev main_call3_v2 : Ref sig .tc := ⟨.hbm, 155, rfl⟩
abbrev main_call3_v3 : Ref sig .tc := ⟨.hbm, 156, rfl⟩
abbrev main_call3_v4 : Ref sig .tc := ⟨.hbm, 157, rfl⟩
abbrev main_call3_v5 : Ref sig .tc := ⟨.hbm, 158, rfl⟩
abbrev main_call3_v6 : Ref sig .tc := ⟨.hbm, 159, rfl⟩
abbrev main_call3_v7 : Ref sig .tc := ⟨.hbm, 160, rfl⟩
abbrev main_call3_cst_1 : Ref sig .tc := ⟨.hbm, 161, rfl⟩
abbrev main_call3_v8 : Ref sig .tc := ⟨.hbm, 162, rfl⟩
abbrev main_call3_cst_2 : Ref sig .tc := ⟨.hbm, 163, rfl⟩
abbrev main_call3_v9 : Ref sig .tc := ⟨.hbm, 164, rfl⟩
abbrev main_call3_v10 : Ref sig .tc := ⟨.hbm, 165, rfl⟩
abbrev main_call3_v11 : Ref sig .tc := ⟨.hbm, 166, rfl⟩
abbrev main_call3_v12 : Ref sig .tc := ⟨.hbm, 167, rfl⟩
abbrev main_call3_cst_3 : Ref sig .tc := ⟨.hbm, 168, rfl⟩
abbrev main_call3_v13 : Ref sig .tc := ⟨.hbm, 169, rfl⟩
abbrev main_call3_cst_4 : Ref sig .tc := ⟨.hbm, 170, rfl⟩
abbrev main_call3_call0_v0 : Ref sig .tc := ⟨.hbm, 171, rfl⟩
abbrev main_call3_call0_v1 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_cst_9 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩

abbrev nD : Nat := 1
abbrev τ : Topo := Topo.v7x

variable {F : FTy → Type} [FloatOps F]
-- ==== Last.lean ====
abbrev S4096x1024 : Shape := ⟨2, ![4096, 1024]⟩
abbrev S4096x128 : Shape := ⟨2, ![4096, 128]⟩
abbrev S8x4096 : Shape := ⟨2, ![8, 4096]⟩
abbrev S128x1024 : Shape := ⟨2, ![128, 1024]⟩
abbrev S1024x128 : Shape := ⟨2, ![1024, 128]⟩
abbrev S8x128 : Shape := ⟨2, ![8, 128]⟩
abbrev S2x8x128 : Shape := ⟨3, ![2, 8, 128]⟩
abbrev S1x1024 : Shape := ⟨2, ![1, 1024]⟩
abbrev S1x128 : Shape := ⟨2, ![1, 128]⟩
abbrev S1024x1024 : Shape := ⟨2, ![1024, 1024]⟩
abbrev S2048x128 : Shape := ⟨2, ![2048, 128]⟩
abbrev S8x1024 : Shape := ⟨2, ![8, 1024]⟩
abbrev S1024x2048 : Shape := ⟨2, ![1024, 2048]⟩
abbrev S1024x8 : Shape := ⟨2, ![1024, 8]⟩
abbrev S8 : Shape := ⟨1, ![8]⟩
abbrev S8x1 : Shape := ⟨2, ![8, 1]⟩
abbrev S1x8x128 : Shape := ⟨3, ![1, 8, 128]⟩
abbrev S2x8x1 : Shape := ⟨3, ![2, 8, 1]⟩
abbrev S2x8 : Shape := ⟨2, ![2, 8]⟩
abbrev S2x1x1 : Shape := ⟨3, ![2, 1, 1]⟩
abbrev S1x2x1x1 : Shape := ⟨4, ![1, 2, 1, 1]⟩
abbrev S1 : Shape := ⟨1, ![1]⟩
abbrev S1x1x1x1 : Shape := ⟨4, ![1, 1, 1, 1]⟩
abbrev S1x2x8 : Shape := ⟨3, ![1, 2, 8]⟩
abbrev S1x1x1 : Shape := ⟨3, ![1, 1, 1]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x128, .bf16⟩
  | .hbm, ⟨3, _⟩ => ⟨S4096x128, .bf16⟩
  | .hbm, ⟨4, _⟩ => ⟨S8x4096, .f32⟩
  | .hbm, ⟨5, _⟩ => ⟨S128x1024, .bf16⟩
  | .hbm, ⟨6, _⟩ => ⟨S1024x128, .bf16⟩
  | .hbm, ⟨7, _⟩ => ⟨S1024x128, .bf16⟩
  | .hbm, ⟨8, _⟩ => ⟨S8x128, .f32⟩
  | .hbm, ⟨9, _⟩ => ⟨S8x128, .f32⟩
  | .hbm, ⟨10, _⟩ => ⟨S2x8x128, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S1x128, .f32⟩
  | .hbm, ⟨15, _⟩ => ⟨S2x8x128, .f32⟩
  | .local _ .vmem, ⟨0, _⟩ => ⟨S1024x1024, .bf16⟩
  | .local _ .vmem, ⟨1, _⟩ => ⟨S1024x1024, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S8x1024, .f32⟩
  | .local _ .vmem, ⟨11, _⟩ => ⟨S8x1024, .f32⟩
  | .local _ .vmem, ⟨12, _⟩ => ⟨S128x1024, .bf16⟩
  | .local _ .vmem, ⟨13, _⟩ => ⟨S1024x128, .bf16⟩
  | .local _ .vmem, ⟨14, _⟩ => ⟨S1024x128, .bf16⟩
  | .local _ .vmem, ⟨15, _⟩ => ⟨S1x1024, .f32⟩
  | .local _ .vmem, ⟨16, _⟩ => ⟨S1x1024, .f32⟩
  | .local _ .vmem, ⟨17, _⟩ => ⟨S2x8x128, .f32⟩
  | .local _ .vmem, ⟨18, _⟩ => ⟨S1024x1024, .f32⟩
  | .local _ .vmem, ⟨19, _⟩ => ⟨S1024x1024, .f32⟩
  | .local _ .vmem, ⟨20, _⟩ => ⟨S1x128, .f32⟩
  | .local _ .vmem, ⟨21, _⟩ => ⟨S2x8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![4], ![false]⟩

def k0_cond4 (i : grid0.Coords) : BitVec 1 :=
  let arg0 : BitVec 32 := BitVec.ofNat 32 (i 0).val
  let c3_i32 : BitVec 32 := 3#32
  let v161 : BitVec 1 := Scalar.cmpi .eq arg0 c3_i32
  let v162 : BitVec 32 := Scalar.extui v161
  let c0_i32_63 : BitVec 32 := 0#32
  let v163 : BitVec 1 := Scalar.cmpi .ne v162 c0_i32_63
  v163

def k0_cond1 (i : grid0.Coords) : BitVec 1 :=
  let arg0 : BitVec 32 := BitVec.ofNat 32 (i 0).val
  let c0_i32_58 : BitVec 32 := 0#32
  let v152 : BitVec 1 := Scalar.cmpi .eq arg0 c0_i32_58
  let v153 : BitVec 32 := Scalar.extui v152
  let c0_i32_59 : BitVec 32 := 0#32
  let v154 : BitVec 1 := Scalar.cmpi .ne v153 c0_i32_59
  v154

def k0_cond2 (i : grid0.Coords) : BitVec 1 :=
  let arg0 : BitVec 32 := BitVec.ofNat 32 (i 0).val
  let c2_i32 : BitVec 32 := 2#32
  let v155 : BitVec 1 := Scalar.cmpi .slt arg0 c2_i32
  let v156 : BitVec 32 := Scalar.extui v155
  let c0_i32_60 : BitVec 32 := 0#32
  let v157 : BitVec 1 := Scalar.cmpi .ne v156 c0_i32_60
  v157

def k0_cond3 (i : grid0.Coords) : BitVec 1 :=
  let arg0 : BitVec 32 := BitVec.ofNat 32 (i 0).val
  let c2_i32_61 : BitVec 32 := 2#32
  let v158 : BitVec 1 := Scalar.cmpi .sge arg0 c2_i32_61
  let v159 : BitVec 32 := Scalar.extui v158
  let c0_i32_62 : BitVec 32 := 0#32
  let v160 : BitVec 1 := Scalar.cmpi .ne v159 c0_i32_62
  v160

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== LastReferenceIdeal.lean ====
abbrev S4096x1024 : Shape := ⟨2, ![4096, 1024]⟩
abbrev S4096x128 : Shape := ⟨2, ![4096, 128]⟩
abbrev S8x4096 : Shape := ⟨2, ![8, 4096]⟩
abbrev S128x1024 : Shape := ⟨2, ![128, 1024]⟩
abbrev S1024x128 : Shape := ⟨2, ![1024, 128]⟩
abbrev S8x128 : Shape := ⟨2, ![8, 128]⟩
abbrev S2x8x128 : Shape := ⟨3, ![2, 8, 128]⟩
abbrev S2x2048x128 : Shape := ⟨3, ![2, 2048, 128]⟩
abbrev S2x2048x2048 : Shape := ⟨3, ![2, 2048, 2048]⟩
abbrev S_ : Shape := ⟨0, ![]⟩
abbrev S128x8x128 : Shape := ⟨3, ![128, 8, 128]⟩
abbrev S4096x8x128 : Shape := ⟨3, ![4096, 8, 128]⟩
abbrev S1x8x128 : Shape := ⟨3, ![1, 8, 128]⟩
abbrev S4096x8 : Shape := ⟨2, ![4096, 8]⟩
abbrev S4096x8x1 : Shape := ⟨3, ![4096, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x128, .bf16⟩
  | .hbm, ⟨3, _⟩ => ⟨S4096x128, .bf16⟩
  | .hbm, ⟨4, _⟩ => ⟨S8x4096, .f32⟩
  | .hbm, ⟨5, _⟩ => ⟨S128x1024, .bf16⟩
  | .hbm, ⟨6, _⟩ => ⟨S1024x128, .bf16⟩
  | .hbm, ⟨7, _⟩ => ⟨S1024x128, .bf16⟩
  | .hbm, ⟨8, _⟩ => ⟨S8x128, .f32⟩
  | .hbm, ⟨9, _⟩ => ⟨S8x128, .f32⟩
  | .hbm, ⟨10, _⟩ => ⟨S2x8x128, .f32⟩
  | .hbm, ⟨11, _⟩ => ⟨S4096x1024, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S128x1024, .f32⟩
  | .hbm, ⟨16, _⟩ => ⟨S1024x128, .f32⟩
  | .hbm, ⟨17, _⟩ => ⟨S1024x128, .f32⟩
  | .hbm, ⟨18, _⟩ => ⟨S2x2048x128, .f32⟩
  | .hbm, ⟨19, _⟩ => ⟨S2x2048x128, .f32⟩
  | .hbm, ⟨20, _⟩ => ⟨S2x2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x2048x2048, .f32⟩
  | .hbm, ⟨25, _⟩ => ⟨S2x2048x2048, .f32⟩
  | .hbm, ⟨26, _⟩ => ⟨S_, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S2x2048x2048, .f32⟩
  | .hbm, ⟨31, _⟩ => ⟨S_, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2x2048x2048, .f32⟩
  | .hbm, ⟨36, _⟩ => ⟨S2x2048x2048, .f32⟩
  | .hbm, ⟨37, _⟩ => ⟨S2x2048x2048, .f32⟩
  | .hbm, ⟨38, _⟩ => ⟨S2x2048x128, .f32⟩
  | .hbm, ⟨39, _⟩ => ⟨S128x8x128, .f32⟩
  | .hbm, ⟨40, _⟩ => ⟨S4096x8x128, .f32⟩
  | .hbm, ⟨41, _⟩ => ⟨S1x8x128, .f32⟩
  | .hbm, ⟨42, _⟩ => ⟨S1x8x128, .f32⟩
  | .hbm, ⟨43, _⟩ => ⟨S_, .f32⟩
  | .hbm, ⟨44, _⟩ => ⟨S4096x8, .f32⟩
  | .hbm, ⟨45, _⟩ => ⟨S4096x8x1, .f32⟩
  | .hbm, ⟨46, _⟩ => ⟨S_, .f32⟩
  | .hbm, ⟨47, _⟩ => ⟨S4096x8x1, .f32⟩
  | .hbm, ⟨48, _⟩ => ⟨S4096x8x1, .f32⟩
  | .hbm, ⟨49, _⟩ => ⟨S_, .i32⟩
  | .hbm, ⟨50, _⟩ => ⟨S_, .f32⟩
  | .hbm, ⟨51, _⟩ => ⟨S4096x8, .f32⟩
  | .hbm, ⟨52, _⟩ => ⟨S4096x8x1, .f32⟩
  | .hbm, ⟨53, _⟩ => ⟨S_, .f32⟩
  | .hbm, ⟨54, _⟩ => ⟨S4096x8x1, .f32⟩
  | .hbm, ⟨55, _⟩ => ⟨S4096x8x1, .f32⟩
  | .hbm, ⟨56, _⟩ => ⟨S4096x8x128, .f32⟩
  | .hbm, ⟨57, _⟩ => ⟨S4096x8x128, .f32⟩
  | .hbm, ⟨58, _⟩ => ⟨S4096x8x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096x8, .f32⟩
  | .hbm, ⟨64, _⟩ => ⟨S4096x8x1, .f32⟩
  | .hbm, ⟨65, _⟩ => ⟨S4096x8x1, .f32⟩
  | .hbm, ⟨66, _⟩ => ⟨S4096x8x1, .f32⟩
  | .hbm, ⟨67, _⟩ => ⟨S_, .f32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S4096x8x1, .f32⟩
  | .hbm, ⟨72, _⟩ => ⟨S4096x8x1, .f32⟩
  | .hbm, ⟨73, _⟩ => ⟨S4096x8x128, .f32⟩
  | .hbm, ⟨74, _⟩ => ⟨S4096x8x128, .f32⟩
  | .hbm, ⟨75, _⟩ => ⟨S_, .f32⟩
  | .hbm, ⟨76, _⟩ => ⟨S4096x8x1, .f32⟩
  | .hbm, ⟨77, _⟩ => ⟨S4096x8x1, .f32⟩
  | .hbm, ⟨78, _⟩ => ⟨S4096x8x1, .f32⟩
  | .hbm, ⟨79, _⟩ => ⟨S4096x8x128, .f32⟩
  | .hbm, ⟨80, _⟩ => ⟨S4096x8x128, .f32⟩
  | .hbm, ⟨81, _⟩ => ⟨S4096x8x128, .f32⟩
  | .hbm, ⟨82, _⟩ => ⟨S4096x8x128, .f32⟩
  | .hbm, ⟨83, _⟩ => ⟨S4096x8x128, .f32⟩
  | .hbm, ⟨84, _⟩ => ⟨S4096x8x128, .f32⟩
  | .hbm, ⟨85, _⟩ => ⟨S4096x8, .f32⟩
  | .hbm, ⟨86, _⟩ => ⟨S4096x128, .f32⟩
  | .hbm, ⟨87, _⟩ => ⟨S4096x128, .f32⟩
  | .hbm, ⟨88, _⟩ => ⟨S128x1024, .f32⟩
  | .hbm, ⟨89, _⟩ => ⟨S4096x1024, .f32⟩
  | .hbm, ⟨90, _⟩ => ⟨S4096x1024, .f32⟩
  | .hbm, ⟨91, _⟩ => ⟨S128x1024, .f32⟩
  | .hbm, ⟨92, _⟩ => ⟨S4096x1024, .f32⟩
  | .hbm, ⟨93, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v10 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_1 : Ref sig .tc := ⟨.hbm, 43, rfl⟩
abbrev main_v17 : Ref sig .tc := ⟨.hbm, 44, rfl⟩
abbrev main_v18 : Ref sig .tc := ⟨.hbm, 45, rfl⟩
abbrev main_cst_2 : Ref sig .tc := ⟨.hbm, 46, rfl⟩
abbrev main_v19 : Ref sig .tc := ⟨.hbm, 47, rfl⟩
abbrev main_v20 : Ref sig .tc := ⟨.hbm, 48, rfl⟩
abbrev main_c : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_cst_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_cst_1 : Ref sig .tc := ⟨.hbm, 60, rfl⟩
abbrev main_call2_v8 : Ref sig .tc := ⟨.hbm, 61, rfl⟩
abbrev main_call2_cst_2 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_cst_3 : Ref sig .tc := ⟨.hbm, 67, rfl⟩
abbrev main_call2_v13 : Ref sig .tc := ⟨.hbm, 68, rfl⟩
abbrev main_call2_cst_4 : Ref sig .tc := ⟨.hbm, 69, rfl⟩
abbrev main_call2_call0_v0 : Ref sig .tc := ⟨.hbm, 70, rfl⟩
abbrev main_call2_call0_v1 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_cst_3 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.Launch.lean ====
/-
  The program as the launch theorem sees it: the labels, the resource algebra, the arrays the SparseCore call moves and
  the block of columns each vector subcore owns. Everything is stated over any float carrier `F`, so the same
  run serves the program at its words and the program over the extended reals.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Writes
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UPR : Type := UR sig nD τ
abbrev UU : Type := UH × (UPR × Counters)

local notation "𝕄" => MT nD τ sig (HIx 1) (Elt F) ℕ UU ℕ

abbrev EH : Emb UH (MT nD τ sig (HIx 1) (Elt F) ℕ UU ℕ) := embL
/-- The pipelines' staging cells. -/
def EP : Emb UPR (MT nD τ sig (HIx 1) (Elt F) ℕ UU ℕ) := (Emb.inl : Emb UPR (UPR × Counters)).trans embR
instance EP_landsIn : (EP : Emb UPR 𝕄).LandsIn (upEmb : UEmb _ 𝕄) := by unfold EP embR; infer_instance

/-! ## The arrays and their column blocks -/

/-- The router weights (the argument) and the dispatch weights (the result) on device `d`. -/
abbrev xLoc (d : Dev nD) : Loc nD τ sig := (SparseCore.T d).loc main_v4_8
abbrev oLoc (d : Dev nD) : Loc nD τ sig := (SparseCore.T d).loc main_v5

/-- The columns of the subcore at coordinates `L`: 128 of them, from `2048 * L 0 + 128 * L 1`. -/
abbrev blk (L : grid1.Coords) : Rect S8x4096 := Rect.unit (s := S8x4096) (k1_off2 L) S8x128.size (k1_off2_inb L)

theorem mem_blk (L : grid1.Coords) (y : S8x4096.Idx) :
    y ∈ (blk L).set ↔ 128 * (L 1).val + 2048 * (L 0).val ≤ (y 1).val ∧ (y 1).val < 128 * (L 1).val + 2048 * (L 0).val + 128 := by
  rw [Rect.mem_set_unit, k1_off2_eq]
  have h0 : (y 0).val < 8 := (y 0).isLt
  constructor
  · intro h; exact h 1
  · intro h a
    match a with
    | 0 => exact ⟨Nat.zero_le _, by simpa using h0⟩
    | 1 => exact h

/-- The coordinates of SparseCore `c`'s vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

abbrev blkSet (p : Fin (grid1.bound 0) × Fin (grid1.bound 1)) : Finset S8x4096.Idx := (blk (coordsV p.1 p.2)).set

theorem blks_disjoint : ∀ p ∈ (Finset.univ : Finset (Fin (grid1.bound 0) × Fin (grid1.bound 1))),
    ∀ p' ∈ (Finset.univ : Finset (Fin (grid1.bound 0) × Fin (grid1.bound 1))), p ≠ p' → Disjoint (blkSet p) (blkSet p') := by
  rintro ⟨c, s⟩ - ⟨c', s'⟩ - h
  refine Finset.disjoint_left.mpr fun y hy hy' => h ?_
  have e := (mem_blk _ _).mp hy
  have e' := (mem_blk _ _).mp hy'
  have hs : s.val < 16 := s.isLt
  have hs' : s'.val < 16 := s'.isLt
  change 128 * s.val + 2048 * c.val ≤ _ ∧ _ < 128 * s.val + 2048 * c.val + 128 at e
  change 128 * s'.val + 2048 * c'.val ≤ _ ∧ _ < 128 * s'.val + 2048 * c'.val + 128 at e'
  exact Prod.ext (Fin.ext (show c.val = c'.val by omega)) (Fin.ext (show s.val = s'.val by omega))

theorem blks_cover : (Finset.univ : Finset (Fin (grid1.bound 0) × Fin (grid1.bound 1))).biUnion blkSet = Finset.univ := by
  ext y
  simp only [Finset.mem_biUnion, Finset.mem_univ, true_and, iff_true]
  have h : (y 1).val < 4096 := (y 1).isLt
  refine ⟨(⟨(y 1).val / 2048, show _ < 2 by omega⟩, ⟨(y 1).val % 2048 / 128, show _ < 16 by omega⟩), (mem_blk _ _).mpr ?_⟩
  show 128 * ((y 1).val % 2048 / 128) + 2048 * ((y 1).val / 2048) ≤ _ ∧ _ < 128 * ((y 1).val % 2048 / 128) + 2048 * ((y 1).val / 2048) + 128
  omega

end Cert.Proof

end
-- ==== Proof.Top2.lean ====
/-
  What one lane of the dispatch kernel computes: a running top two over the eight expert rows of its column, ties kept
  at the earlier row, and the dispatch weights written from it. The printed payloads of a strip are this, lane by lane.
-/
module

public import proofs.«01_k».proof.Proof.Launch
public import Idealize.ShloMosaic.Lib.Pipeline.Value

@[expose] public section

noncomputable section

namespace Cert.Proof

open Cert.KernelIdeal Cert.KernelIdeal.Gen
open Idealize.ShloMosaic

variable {F : FTy → Type} [FloatOps F]

/-- The running top two: the greatest value and the second, and their rows. -/
structure Top2 (F : FTy → Type) where
  m1 : F .f32
  m2 : F .f32
  i1 : BitVec 32
  i2 : BitVec 32

namespace Top2

/-- Nothing seen: both values at minus infinity, both rows zero. -/
def init : Top2 F := ⟨FloatOps.ofBits .f32 0xFF800000#32, FloatOps.ofBits .f32 0xFF800000#32, 0#32, 0#32⟩

/-- Row `e`'s value `v` seen. -/
def step (e : BitVec 32) (v : F .f32) (s : Top2 F) : Top2 F :=
  ⟨Scalar.select (FloatOps.cmpf .ogt v s.m1) v s.m1,
    Scalar.select (FloatOps.cmpf .ogt v s.m1) s.m1 (Scalar.select (FloatOps.cmpf .ogt v s.m2) v s.m2),
    Scalar.select (FloatOps.cmpf .ogt v s.m1) e s.i1,
    Scalar.select (FloatOps.cmpf .ogt v s.m1) s.i1 (Scalar.select (FloatOps.cmpf .ogt v s.m2) e s.i2)⟩

/-- A column's eight rows seen in order. -/
def of (v : Fin 8 → F .f32) : Top2 F :=
  step 7#32 (v 7) (step 6#32 (v 6) (step 5#32 (v 5) (step 4#32 (v 4) (step 3#32 (v 3) (step 2#32 (v 2)
    (step 1#32 (v 1) (step 0#32 (v 0) init)))))))

/-- The weight written at row `e`: the values whose row it is, summed. -/
def put (s : Top2 F) (e : BitVec 32) : F .f32 :=
  FloatOps.addf (Scalar.select (IntOp.cmpi .eq s.i1 e) s.m1 (FloatOps.ofBits .f32 0x00000000#32))
    (Scalar.select (IntOp.cmpi .eq s.i2 e) s.m2 (FloatOps.ofBits .f32 0x00000000#32))

end Top2

/-- The dispatch weight at row `e` of a column of router weights `v`. -/
def disp (v : Fin 8 → F .f32) (e : Fin 8) : F .f32 := (Top2.of v).put (BitVec.ofNat 32 e.val)

/-! ## The printed payloads -/

section Payloads

variable (v0 v1 v2 v3 v4 v5 v6 v7 : Vec F S1x16 .f32)

abbrev i2v := k1_pay51 (k1_pay32 (k1_pay13 v0 v1) (k1_pay14 v0 v1) (k1_pay15 v0 v1) (k1_pay16 v0 v1) v2 v3 v4)
  (k1_pay33 (k1_pay14 v0 v1) (k1_pay16 v0 v1) v2 v3 v4) (k1_pay34 (k1_pay15 v0 v1) (k1_pay16 v0 v1) v2 v3 v4)
  (k1_pay35 (k1_pay16 v0 v1) v2 v3 v4) v5 v6 v7
abbrev m2v := k1_pay52 (k1_pay33 (k1_pay14 v0 v1) (k1_pay16 v0 v1) v2 v3 v4) (k1_pay35 (k1_pay16 v0 v1) v2 v3 v4) v5 v6 v7
abbrev i1v := k1_pay53 (k1_pay34 (k1_pay15 v0 v1) (k1_pay16 v0 v1) v2 v3 v4) (k1_pay35 (k1_pay16 v0 v1) v2 v3 v4) v5 v6 v7
abbrev m1v := k1_pay54 (k1_pay35 (k1_pay16 v0 v1) v2 v3 v4) v5 v6 v7

/-- A lane's column. -/
abbrev lane (j : S1x16.Idx) : Fin 8 → F .f32 := ![v0 j, v1 j, v2 j, v3 j, v4 j, v5 j, v6 j, v7 j]

theorem pays_a (j : S1x16.Idx) : (⟨k1_pay16 v0 v1 j, k1_pay14 v0 v1 j, k1_pay15 v0 v1 j, k1_pay13 v0 v1 j⟩ : Top2 F)
    = Top2.step 1#32 (v1 j) (Top2.step 0#32 (v0 j) Top2.init) := by
  simp only [k1_pay1, k1_pay2, k1_pay3, k1_pay4, k1_pay5, k1_pay6, k1_pay7, k1_pay8, k1_pay9, k1_pay10, k1_pay11, k1_pay12,
    k1_pay13, k1_pay14, k1_pay15, k1_pay16, shapeCast_self]
  rfl

theorem pays_b (i2 : IVec S1x16 32) (m2 : FVec F S1x16 .f32) (i1 : IVec S1x16 32) (m1 : FVec F S1x16 .f32) (j : S1x16.Idx) :
    (⟨k1_pay35 m1 v2 v3 v4 j, k1_pay33 m2 m1 v2 v3 v4 j, k1_pay34 i1 m1 v2 v3 v4 j, k1_pay32 i2 m2 i1 m1 v2 v3 v4 j⟩ : Top2 F)
      = Top2.step 4#32 (v4 j) (Top2.step 3#32 (v3 j) (Top2.step 2#32 (v2 j) ⟨m1 j, m2 j, i1 j, i2 j⟩)) := by
  simp only [k1_pay17, k1_pay18, k1_pay19, k1_pay20, k1_pay21, k1_pay22, k1_pay23, k1_pay24, k1_pay25, k1_pay26, k1_pay27,
    k1_pay28, k1_pay29, k1_pay30, k1_pay31, k1_pay32, k1_pay33, k1_pay34, k1_pay35, shapeCast_self]
  rfl

theorem pays_c (i2 : IVec S1x16 32) (m2 : FVec F S1x16 .f32) (i1 : IVec S1x16 32) (m1 : FVec F S1x16 .f32) (j : S1x16.Idx) :
    (⟨k1_pay54 m1 v5 v6 v7 j, k1_pay52 m2 m1 v5 v6 v7 j, k1_pay53 i1 m1 v5 v6 v7 j, k1_pay51 i2 m2 i1 m1 v5 v6 v7 j⟩ : Top2 F)
      = Top2.step 7#32 (v7 j) (Top2.step 6#32 (v6 j) (Top2.step 5#32 (v5 j) ⟨m1 j, m2 j, i1 j, i2 j⟩)) := by
  simp only [k1_pay36, k1_pay37, k1_pay38, k1_pay39, k1_pay40, k1_pay41, k1_pay42, k1_pay43, k1_pay44, k1_pay45, k1_pay46,
    k1_pay47, k1_pay48, k1_pay49, k1_pay50, k1_pay51, k1_pay52, k1_pay53, k1_pay54, shapeCast_self]
  rfl

/-- The four vectors the strip ends with are the running top two of each lane's column. -/
theorem pays_of (j : S1x16.Idx) :
    (⟨m1v v0 v1 v2 v3 v4 v5 v6 v7 j, m2v v0 v1 v2 v3 v4 v5 v6 v7 j, i1v v0 v1 v2 v3 v4 v5 v6 v7 j, i2v v0 v1 v2 v3 v4 v5 v6 v7 j⟩ : Top2 F)
      = Top2.of (lane v0 v1 v2 v3 v4 v5 v6 v7 j) := by
  rw [pays_c, pays_b, pays_a]; rfl

theorem row0 (i2 i1 : IVec S1x16 32) (m2 m1 : FVec F S1x16 .f32) (j : S1x16.Idx) (w : FVec F S1x16 .f32)
    (hw : w = k1_pay56 i2 m2 (select (cmpi .eq i1 (broadcast S1x16 0#32)) m1 (broadcast S1x16 (Scalar.ofBits .f32 0x00000000#32))) 0#32) :
    w j = (⟨m1 j, m2 j, i1 j, i2 j⟩ : Top2 F).put 0#32 := by
  subst hw; simp only [k1_pay56, shapeCast_self]; rfl
theorem row1 (i2 i1 : IVec S1x16 32) (m2 m1 : FVec F S1x16 .f32) (j : S1x16.Idx) :
    k1_pay57 i2 m2 i1 m1 j = (⟨m1 j, m2 j, i1 j, i2 j⟩ : Top2 F).put 1#32 := by simp only [k1_pay57, shapeCast_self]; rfl
theorem row2 (i2 i1 : IVec S1x16 32) (m2 m1 : FVec F S1x16 .f32) (j : S1x16.Idx) :
    k1_pay59 (k1_pay58 i2 m2 i1 m1) j = (⟨m1 j, m2 j, i1 j, i2 j⟩ : Top2 F).put 2#32 := by simp only [k1_pay58, k1_pay59, shapeCast_self]; rfl
theorem row3 (i2 i1 : IVec S1x16 32) (m2 m1 : FVec F S1x16 .f32) (j : S1x16.Idx) :
    k1_pay60 i2 m2 i1 m1 j = (⟨m1 j, m2 j, i1 j, i2 j⟩ : Top2 F).put 3#32 := by simp only [k1_pay60, shapeCast_self]; rfl
theorem row4 (i2 i1 : IVec S1x16 32) (m2 m1 : FVec F S1x16 .f32) (j : S1x16.Idx) :
    k1_pay61 i2 m2 i1 m1 j = (⟨m1 j, m2 j, i1 j, i2 j⟩ : Top2 F).put 4#32 := by simp only [k1_pay61, shapeCast_self]; rfl
theorem row5 (i2 i1 : IVec S1x16 32) (m2 m1 : FVec F S1x16 .f32) (j : S1x16.Idx) :
    k1_pay64 (k1_pay62 i1 m1) (k1_pay63 i2 m2) j = (⟨m1 j, m2 j, i1 j, i2 j⟩ : Top2 F).put 5#32 := by
  simp only [k1_pay62, k1_pay63, k1_pay64, shapeCast_self]; rfl
theorem row6 (i2 i1 : IVec S1x16 32) (m2 m1 : FVec F S1x16 .f32) (j : S1x16.Idx) :
    k1_pay65 i2 m2 i1 m1 j = (⟨m1 j, m2 j, i1 j, i2 j⟩ : Top2 F).put 6#32 := by simp only [k1_pay65, shapeCast_self]; rfl
theorem row7 (i2 i1 : IVec S1x16 32) (m2 m1 : FVec F S1x16 .f32) (j : S1x16.Idx) :
    k1_pay67 (k1_pay66 i2 m2 i1 m1) j = (⟨m1 j, m2 j, i1 j, i2 j⟩ : Top2 F).put 7#32 := by simp only [k1_pay66, k1_pay67, shapeCast_self]; rfl

end Payloads

end Cert.Proof

end
-- ==== Proof.Strip.lean ====
/-
  One strip of sixteen columns: the eight rows the kernel stores there, and what the output's slot then holds.
-/
module

public import proofs.«01_k».proof.Proof.Top2
public import Idealize.ShloMosaic.Lib.Writes
public import Idealize.ShloMosaic.Lib.Pointwise.Index

@[expose] public section

noncomputable section

namespace Cert.Proof

open Cert.KernelIdeal Cert.KernelIdeal.Gen
open Idealize.ShloMosaic

variable {F : FTy → Type} [FloatOps F]

/-- A row of sixteen lanes stored at `o`. -/
abbrev rowP (o : Fin 2 → Nat) (inb : ∀ a, o a + S1x16.size a ≤ S8x128.size a) (w : S1x16.Idx → F .f32) : View.Piece (Elt F) S8x128 .f32 :=
  ⟨Rect.unit (s := S8x128) o S1x16.size inb, w⟩

theorem mem_rowP {o : Fin 2 → Nat} {inb : ∀ a, o a + S1x16.size a ≤ S8x128.size a} {e n : Nat} (ho : o = ![e, n]) (y : S8x128.Idx) :
    y ∈ (Rect.unit (s := S8x128) o S1x16.size inb).set ↔ (y 0).val = e ∧ n ≤ (y 1).val ∧ (y 1).val < n + 16 := by
  subst ho
  rw [Rect.mem_set_unit]
  constructor
  · intro h
    have h0 : e ≤ (y 0).val ∧ (y 0).val < e + 1 := h 0
    have h1 : n ≤ (y 1).val ∧ (y 1).val < n + 16 := h 1
    omega
  · rintro ⟨h0, h1⟩ a
    match a with
    | 0 => exact show e ≤ (y 0).val ∧ (y 0).val < e + 1 by omega
    | 1 => exact h1

theorem ix2_eta (y : S8x128.Idx) : ix2 (y 0) (y 1) = y := by
  funext a
  match a with
  | 0 => rfl
  | 1 => rfl

theorem emb_rowP {o : Fin 2 → Nat} {inb : ∀ a, o a + S1x16.size a ≤ S8x128.size a} {k : Nat} (hk : k < 8) {e : Fin 8} (ho : o = ![e.val, 16 * k])
    (j : S1x16.Idx) : (Rect.unit (s := S8x128) o S1x16.size inb).emb j = ix2 e ⟨16 * k + (j 1).val, by have : (j 1).val < 16 := (j 1).isLt; omega⟩ := by
  subst ho
  have h0 : (j 0).val < 1 := (j 0).isLt
  funext a
  apply Fin.ext
  rw [Rect.emb_apply]
  match a with
  | 0 => show e.val + 1 * (j 0).val = e.val; omega
  | 1 => show 16 * k + 1 * (j 1).val = 16 * k + (j 1).val; omega

/-- The slot after strip `k` of a slot that held `G` on the strips before it: it holds `G` on strip `k` too. -/
theorem strip_stored {κ : Kind} {sp : Space} (v : View sig κ sp S8x128 .f32) (f : v.ty.Contents (Elt F)) (G : S8x128.Idx → F .f32)
    (k : Nat) (hk : k < 8) (hf : ∀ y : S8x128.Idx, (y 1).val < 16 * k → v.read (Elt F) f y = G y)
    (o : Fin 8 → Fin 2 → Nat) (inb : ∀ e a, o e a + S1x16.size a ≤ S8x128.size a) (ho : ∀ e, o e = ![e.val, 16 * k])
    (w : Fin 8 → S1x16.Idx → F .f32)
    (hw : ∀ e j, w e j = G (ix2 e ⟨16 * k + (j 1).val, by have : (j 1).val < 16 := (j 1).isLt; omega⟩))
    (y : S8x128.Idx) (hy : (y 1).val < 16 * (k + 1)) :
    v.read (Elt F) (v.writes (Elt F) f [rowP (o 7) (inb 7) (w 7), rowP (o 6) (inb 6) (w 6), rowP (o 5) (inb 5) (w 5), rowP (o 4) (inb 4) (w 4),
      rowP (o 3) (inb 3) (w 3), rowP (o 2) (inb 2) (w 2), rowP (o 1) (inb 1) (w 1), rowP (o 0) (inb 0) (w 0)]) y = G y := by
  have hL : ∀ p : View.Piece (Elt F) S8x128 .f32, p ∈ [rowP (o 7) (inb 7) (w 7), rowP (o 6) (inb 6) (w 6), rowP (o 5) (inb 5) (w 5), rowP (o 4) (inb 4) (w 4),
      rowP (o 3) (inb 3) (w 3), rowP (o 2) (inb 2) (w 2), rowP (o 1) (inb 1) (w 1), rowP (o 0) (inb 0) (w 0)] ↔ ∃ e : Fin 8, p = rowP (o e) (inb e) (w e) := by
    intro p
    simp only [List.mem_cons, List.not_mem_nil, or_false]
    constructor
    · rintro (h | h | h | h | h | h | h | h) <;> exact ⟨_, h⟩
    · rintro ⟨e, rfl⟩
      fin_cases e <;> simp
  by_cases h : (y 1).val < 16 * k
  · rw [View.read_writes_apply_of_forall_not_mem, hf y h]
    intro p hp
    obtain ⟨e, rfl⟩ := (hL p).mp hp
    rw [mem_rowP (ho e)]
    omega
  · refine View.read_writes_apply_of_pieces v f G _ ?_ y ⟨_, (hL _).mpr ⟨y 0, rfl⟩, (mem_rowP (inb := inb (y 0)) (ho (y 0)) y).mpr ⟨rfl, by omega⟩⟩
    intro p hp x
    obtain ⟨e, rfl⟩ := (hL p).mp hp
    exact (hw e x).trans (congrArg G (emb_rowP (inb := inb e) hk (ho e) x).symm)

/-- The dispatch weights of a block of router weights `X`. -/
def dispBlk (X : S8x128.Idx → F .f32) (y : S8x128.Idx) : F .f32 := disp (fun e => X (ix2 e (y 1))) (y 0)

/-- The row of sixteen lanes at row `e` of strip `k`. -/
abbrev ldRow {κ : Kind} {sp : Space} (v : View sig κ sp S8x128 .f32) (f : v.ty.Contents (Elt F)) (o : Fin 2 → Nat)
    (inb : ∀ a, o a + S1x16.size a ≤ S8x128.size a) : Vec F S1x16 .f32 :=
  v.readAt (Elt F) (Rect.unit (s := S8x128) o S1x16.size inb).toLoadRect f

theorem ldRow_apply {κ : Kind} {sp : Space} (v : View sig κ sp S8x128 .f32) (f : v.ty.Contents (Elt F)) {o : Fin 2 → Nat}
    {inb : ∀ a, o a + S1x16.size a ≤ S8x128.size a} {k : Nat} (hk : k < 8) {e : Fin 8} (ho : o = ![e.val, 16 * k]) (j : S1x16.Idx) :
    ldRow v f o inb j = v.read (Elt F) f (ix2 e ⟨16 * k + (j 1).val, by have : (j 1).val < 16 := (j 1).isLt; omega⟩) :=
  congrArg (v.read (Elt F) f) (emb_rowP (inb := inb) hk ho j)

/-- Strip `k` as the kernel runs it: eight rows loaded from the input's slot, eight payloads stored in the output's. -/
theorem strip_run {κ κ' : Kind} {sp sp' : Space} (vi : View sig κ sp S8x128 .f32) (fi : vi.ty.Contents (Elt F))
    (v : View sig κ' sp' S8x128 .f32) (f : v.ty.Contents (Elt F)) (k : Nat) (hk : k < 8)
    (hf : ∀ y : S8x128.Idx, (y 1).val < 16 * k → v.read (Elt F) f y = dispBlk (vi.read (Elt F) fi) y)
    (o : Fin 8 → Fin 2 → Nat) (inb : ∀ e a, o e a + S1x16.size a ≤ S8x128.size a) (ho : ∀ e, o e = ![e.val, 16 * k])
    (l : Fin 8 → Vec F S1x16 .f32) (hl : ∀ e, l e = ldRow vi fi (o e) (inb e))
    (i2 i1 : IVec S1x16 32) (m2 m1 : FVec F S1x16 .f32)
    (h2 : i2 = i2v (l 0) (l 1) (l 2) (l 3) (l 4) (l 5) (l 6) (l 7)) (h1 : i1 = i1v (l 0) (l 1) (l 2) (l 3) (l 4) (l 5) (l 6) (l 7))
    (g2 : m2 = m2v (l 0) (l 1) (l 2) (l 3) (l 4) (l 5) (l 6) (l 7)) (g1 : m1 = m1v (l 0) (l 1) (l 2) (l 3) (l 4) (l 5) (l 6) (l 7))
    (y : S8x128.Idx) (hy : (y 1).val < 16 * (k + 1)) :
    v.read (Elt F) (v.writes (Elt F) f [rowP (o 7) (inb 7) (k1_pay67 (k1_pay66 i2 m2 i1 m1)), rowP (o 6) (inb 6) (k1_pay65 i2 m2 i1 m1),
      rowP (o 5) (inb 5) (k1_pay64 (k1_pay62 i1 m1) (k1_pay63 i2 m2)), rowP (o 4) (inb 4) (k1_pay61 i2 m2 i1 m1),
      rowP (o 3) (inb 3) (k1_pay60 i2 m2 i1 m1), rowP (o 2) (inb 2) (k1_pay59 (k1_pay58 i2 m2 i1 m1)), rowP (o 1) (inb 1) (k1_pay57 i2 m2 i1 m1),
      rowP (o 0) (inb 0) (k1_pay56 i2 m2 (select (cmpi .eq i1 (broadcast S1x16 0#32)) m1 (broadcast S1x16 (Scalar.ofBits .f32 0x00000000#32))) 0#32)]) y
      = dispBlk (vi.read (Elt F) fi) y := by
  have hs : ∀ j, (⟨m1 j, m2 j, i1 j, i2 j⟩ : Top2 F)
      = Top2.of fun e => vi.read (Elt F) fi (ix2 e ⟨16 * k + (j 1).val, by have : (j 1).val < 16 := (j 1).isLt; omega⟩) := by
    intro j
    subst h2 h1 g2 g1
    rw [pays_of]
    refine congrArg Top2.of (funext fun e => ?_)
    rw [← ldRow_apply vi fi (inb := inb e) hk (ho e) j, ← hl e]
    fin_cases e <;> rfl
  refine strip_stored v f (dispBlk (vi.read (Elt F) fi)) k hk hf o inb ho
    ![k1_pay56 i2 m2 (select (cmpi .eq i1 (broadcast S1x16 0#32)) m1 (broadcast S1x16 (Scalar.ofBits .f32 0x00000000#32))) 0#32,
      k1_pay57 i2 m2 i1 m1, k1_pay59 (k1_pay58 i2 m2 i1 m1), k1_pay60 i2 m2 i1 m1, k1_pay61 i2 m2 i1 m1,
      k1_pay64 (k1_pay62 i1 m1) (k1_pay63 i2 m2), k1_pay65 i2 m2 i1 m1, k1_pay67 (k1_pay66 i2 m2 i1 m1)] ?_ y hy
  intro e j
  have hd : ∀ n : Nat, (⟨m1 j, m2 j, i1 j, i2 j⟩ : Top2 F).put (BitVec.ofNat 32 n)
      = (Top2.of fun e => vi.read (Elt F) fi (ix2 e ⟨16 * k + (j 1).val, by have : (j 1).val < 16 := (j 1).isLt; omega⟩)).put (BitVec.ofNat 32 n) :=
    fun n => by rw [hs j]
  fin_cases e
  · exact (row0 i2 i1 m2 m1 j _ rfl).trans (hd 0)
  · exact (row1 i2 i1 m2 m1 j).trans (hd 1)
  · exact (row2 i2 i1 m2 m1 j).trans (hd 2)
  · exact (row3 i2 i1 m2 m1 j).trans (hd 3)
  · exact (row4 i2 i1 m2 m1 j).trans (hd 4)
  · exact (row5 i2 i1 m2 m1 j).trans (hd 5)
  · exact (row6 i2 i1 m2 m1 j).trans (hd 6)
  · exact (row7 i2 i1 m2 m1 j).trans (hd 7)

end Cert.Proof

end
-- ==== Proof.Tile.lean ====
module

public import proofs.«01_k».proof.Proof.Strip

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (d : Dev nD) → Buf (Elt F) (xLoc d) × Buf (Elt F) (oLoc d))

local notation "𝕄" => MT nD τ sig (HIx 1) (Elt F) ℕ UU ℕ
local notation "xV" => (Memref.whole Cert.KernelIdeal.main_v4_8_scv : Memref Cert.KernelIdeal.sig Kind.scVector Space.hbm Cert.KernelIdeal.S8x4096 EltTy.f32)
local notation "oV" => (Memref.whole Cert.KernelIdeal.main_v5_scv : Memref Cert.KernelIdeal.sig Kind.scVector Space.hbm Cert.KernelIdeal.S8x4096 EltTy.f32)
local notation "iB" => (Memref.whole Cert.KernelIdeal.cc1_scoped0 : Memref Cert.KernelIdeal.sig Kind.scVector Space.vmem Cert.KernelIdeal.S2x8x128 EltTy.f32)
local notation "dB" => (Memref.whole Cert.KernelIdeal.cc1_scoped2 : Memref Cert.KernelIdeal.sig Kind.scVector Space.vmem Cert.KernelIdeal.S2x8x128 EltTy.f32)

theorem coords_eq (L : grid1.Coords) : L = coordsV (L 0) (L 1) := by
  funext a
  match a with
  | 0 => rfl
  | 1 => rfl
theorem cond1 (L : grid1.Coords) : ¬ k1_cond1 L = 1#1 := by
  rw [coords_eq L]; exact (show ∀ c s, ¬ k1_cond1 (coordsV c s) = 1#1 by decide +kernel) _ _
theorem cond2 (L : grid1.Coords) : k1_cond2 L = 1#1 := by
  rw [coords_eq L]; exact (show ∀ c s, k1_cond2 (coordsV c s) = 1#1 by decide +kernel) _ _
theorem cond5 (L : grid1.Coords) : k1_cond5 L = 1#1 := by
  rw [coords_eq L]; exact (show ∀ c s, k1_cond5 (coordsV c s) = 1#1 by decide +kernel) _ _
theorem cond7 (L : grid1.Coords) : ¬ k1_cond7 L = 1#1 := by
  rw [coords_eq L]; exact (show ∀ c s, ¬ k1_cond7 (coordsV c s) = 1#1 by decide +kernel) _ _

section Tile

variable (d : Dev nD) (L : grid1.Coords)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
/-- The semaphore of the input's first slot and of the output's. -/
abbrev sIn : DmaSem sig := ⟨36, by decide⟩
abbrev sOut : DmaSem sig := ⟨38, by decide⟩
/-- The input's block and the output's, as the kernel slices them. -/
abbrev xBlk (L : grid1.Coords) : Memref sig .scVector .hbm S8x128 .f32 := (xV).slice (blk L) (fun _ => rfl)
abbrev oBlk (L : grid1.Coords) : Memref sig .scVector .hbm S8x128 .f32 := (oV).slice (blk L) (fun _ => rfl)

abbrev iSlot : Memref sig .scVector .vmem S8x128 .f32 :=
  ((iB).slice (Rect.unit (s := S2x8x128) k1_off10 S1x8x128.size k1_off10_inb) (fun _ => rfl)).squeeze S8x128 squeezes_S1x8x128_S8x128
abbrev dSlot : Memref sig .scVector .vmem S8x128 .f32 :=
  ((dB).slice (Rect.unit (s := S2x8x128) k1_off10 S1x8x128.size k1_off10_inb) (fun _ => rfl)).squeeze S8x128 squeezes_S1x8x128_S8x128

/-- The loop's invariant: the input's slot as fetched, the output's slot holding the weights of the strips done. -/
def inv (fi : Buf (Elt F) ((iB).view.loc (thr d L))) (k : Nat) (_ : PUnit) : sProp 𝕄 :=
  iprop(((iB).view.loc (thr d L) ↦{fullShare} fi)
    ∗ (∃ f, ⌜∀ y : S8x128.Idx, (y 1).val < 16 * k → dSlot.view.read (Elt F) f y = dispBlk (iSlot.view.read (Elt F) fi) y⌝
        ∗ ((dB).view.loc (thr d L) ↦{fullShare} f)))

theorem trips_eq : k1_t1_loop.trips = 8 := by decide +kernel

theorem trips8 (k : Fin k1_t1_loop.trips) : k.val < 8 := lt_of_lt_of_le k.isLt k1_t1_abs.2.1

abbrev oBlk20 (L : grid1.Coords) : Memref sig .scVector .hbm S8x128 .f32 :=
  (oV).slice (Rect.unit (s := S8x4096) (k1_off20 L) S8x128.size (k1_off20_inb L (cond5 L))) (fun _ => rfl)

theorem sem_out : ((cc1_scoped3.slice (Rect.unit (s := S2) (k1_off26 L) S1.size (k1_off26_inb L))).squeeze S_ squeezes_S1_S_).sem = (⟨38, by decide⟩ : DmaSem sig) := by
  have h : ∀ c s, ((cc1_scoped3.slice (Rect.unit (s := S2) (k1_off26 (coordsV c s)) S1.size (k1_off26_inb (coordsV c s)))).squeeze S_ squeezes_S1_S_).sem
      = (⟨38, by decide⟩ : DmaSem sig) := by decide +kernel
  have := h (L 0) (L 1)
  rwa [← coords_eq L] at this

theorem oBlk_eq (f : Buf (Elt F) (oLoc d)) : ((oBlk L).view.loc (thr d L) ↦[(oBlk L).view.set]{fullShare} f : sProp 𝕄)
    = ((oBlk20 L).view.loc (thr d L) ↦[(oBlk20 L).view.set]{fullShare} f) := by
  have h : ∀ o o' : Fin 2 → Nat, o = o' → ∀ (h : ∀ a, o a + S8x128.size a ≤ S8x4096.size a) (h' : ∀ a, o' a + S8x128.size a ≤ S8x4096.size a),
      (((oV).slice (Rect.unit (s := S8x4096) o S8x128.size h) (fun _ => rfl)).view.loc (thr d L)
          ↦[((oV).slice (Rect.unit (s := S8x4096) o S8x128.size h) (fun _ => rfl)).view.set]{fullShare} f : sProp 𝕄)
        = (((oV).slice (Rect.unit (s := S8x4096) o' S8x128.size h') (fun _ => rfl)).view.loc (thr d L)
          ↦[((oV).slice (Rect.unit (s := S8x4096) o' S8x128.size h') (fun _ => rfl)).view.set]{fullShare} f) := by
    rintro _ _ rfl _ _; rfl
  exact h _ _ ((k1_off2_eq L).trans (k1_off20_eq L).symm) _ _

/-- One slot read under two spellings. -/
theorem slot_same {κ : Kind} {sp : Space} (M : Memref sig κ sp S2x8x128 .f32) {o o' : Fin 3 → Nat} (h : o = o')
    (inb : ∀ a, o a + S1x8x128.size a ≤ S2x8x128.size a) (inb' : ∀ a, o' a + S1x8x128.size a ≤ S2x8x128.size a) (f : M.view.ty.Contents (Elt F)) :
    ((M.slice (Rect.unit (s := S2x8x128) o S1x8x128.size inb) (fun _ => rfl)).squeeze S8x128 squeezes_S1x8x128_S8x128).view.read (Elt F) f
      = ((M.slice (Rect.unit (s := S2x8x128) o' S1x8x128.size inb') (fun _ => rfl)).squeeze S8x128 squeezes_S1x8x128_S8x128).view.read (Elt F) f := by
  subst h; rfl

/-- The dispatch weights of a whole array of router weights. -/
def wts (d : Dev nD) (X : Buf (Elt F) (xLoc d)) : Buf (Elt F) (oLoc d) :=
  fun i : S8x4096.Idx => disp (fun e => (X : S8x4096.Idx → F .f32) (ix2 e (i 1))) (i 0)
/-- Those of the array the call is given. -/
abbrev OUT (d : Dev nD) : Buf (Elt F) (oLoc d) := wts d (m d).1

/-- Reading what was written through the same slot under another spelling. -/
theorem slot_read {κ : Kind} {sp : Space} (M : Memref sig κ sp S2x8x128 .f32) {o o' : Fin 3 → Nat} (h : o = o')
    (inb : ∀ a, o a + S1x8x128.size a ≤ S2x8x128.size a) (inb' : ∀ a, o' a + S1x8x128.size a ≤ S2x8x128.size a) (f : M.view.ty.Contents (Elt F))
    (w : S8x128.Idx → F .f32) :
    ((M.slice (Rect.unit (s := S2x8x128) o' S1x8x128.size inb') (fun _ => rfl)).squeeze S8x128 squeezes_S1x8x128_S8x128).view.read (Elt F)
      (((M.slice (Rect.unit (s := S2x8x128) o S1x8x128.size inb) (fun _ => rfl)).squeeze S8x128 squeezes_S1x8x128_S8x128).view.write (Elt F) f w Finset.univ) = w := by
  subst h; exact View.read_write_univ _ _

set_option maxHeartbeats 4000000 in
/-- A block of the array the kernel wrote holds the array's dispatch weights. -/
theorem out_block (X : Buf (Elt F) (xLoc d)) (fo : Buf (Elt F) (oLoc d)) (w : S8x128.Idx → F .f32)
    (hw : ∀ y, w y = dispBlk ((xBlk L).view.read (Elt F) (X)) y) :
    ∀ i ∈ (oBlk20 L).view.set, (oBlk20 L).view.writes (Elt F) fo [⟨Rect.whole S8x128, w⟩] i = wts d X i := by
  intro i hi
  obtain ⟨y, -, rfl⟩ := Finset.mem_map.mp hi
  have h1 : (oBlk20 L).view.read (Elt F) ((oBlk20 L).view.writes (Elt F) fo [⟨Rect.whole S8x128, w⟩]) y = w y := by
    have h := View.read_writes_cons_hit_of_coords (oBlk20 L).view fo (Rect.whole S8x128) w [] y y (fun a => by show _ = 0 + 1 * _; omega)
    exact h
  refine (show _ = w y from h1).trans ((hw y).trans ?_)
  have e : ∀ a, (((oBlk20 L).view.emb y : S8x4096.Idx) a).val = k1_off20 L a + 1 * (y a).val := fun a => rfl
  show disp _ _ = disp _ _
  have e0 : ((oBlk20 L).view.emb y : S8x4096.Idx) 0 = y 0 := Fin.ext (by rw [e 0, k1_off20_eq]; show 0 + 1 * _ = _; omega)
  rw [e0]
  refine congrArg (fun v => disp v (y 0)) (funext fun r => ?_)
  show (X : S8x4096.Idx → F .f32) ((xBlk L).view.emb (ix2 r (y 1))) = (X : S8x4096.Idx → F .f32) (ix2 r _)
  congr 1
  have ex : ∀ (z : S8x128.Idx) a, (((xBlk L).view.emb z : S8x4096.Idx) a).val = k1_off2 L a + 1 * (z a).val := fun z a => rfl
  funext a
  apply Fin.ext
  rw [ex, k1_off2_eq]
  match a with
  | 0 => show 0 + 1 * r.val = r.val; omega
  | 1 =>
    show _ + 1 * (y 1).val = _
    have := e 1
    rw [k1_off20_eq] at this
    exact this.symm

/-- What the tile holds of the input, and of the output before and after. -/
abbrev xPts (d : Dev nD) (L : grid1.Coords) : sProp 𝕄 := (xBlk L).view.loc (thr d L) ↦[(xBlk L).view.set]{fullShare} (m d).1
abbrev oPts (d : Dev nD) (L : grid1.Coords) (f : Buf (Elt F) (oLoc d)) : sProp 𝕄 := (oBlk L).view.loc (thr d L) ↦[(oBlk L).view.set]{fullShare} f

theorem tile_run (hF : (K (F := F)).Facts) (O : CellTallies nD τ sig (HIx 1)) (W : Waits sig (HIx 1)) (hO : ∀ g, O g none = 0)
    (fi : Buf (Elt F) ((iB).view.loc (thr d L))) (fd : Buf (Elt F) ((dB).view.loc (thr d L))) (fo : Buf (Elt F) (oLoc d)) :
    iprop(levAts (K (F := F)).L (K (F := F)).lev
        ∗ xPts m d L ∗ oPts d L fo
        ∗ ((iB).view.loc (thr d L) ↦{fullShare} fi)
        ∗ ((dB).view.loc (thr d L) ↦{fullShare} fd)
        ∗ semVal (thr d L, SemLoc.dma (⟨36, by decide⟩ : DmaSem sig)) 0
        ∗ semVal (thr d L, SemLoc.dma (⟨38, by decide⟩ : DmaSem sig)) 0
        ∗ owes (thr d L) O W)
      ⊢ wp frame (wpE (defs₀ (F := F)) 𝒱₀ (thr d L) none) Set.univ
          (cc1__sc_dispatch_body L xV (Memref.isWhole_whole _) oV (Memref.isWhole_whole _)
            iB (Memref.isWhole_whole _) cc1_scoped1 dB (Memref.isWhole_whole _) cc1_scoped3)
          fun _ => iprop((xPts m d L ∗ oPts d L (OUT m d))
            ∗ (∃ f, (iB).view.loc (thr d L) ↦{fullShare} f) ∗ (∃ f, (dB).view.loc (thr d L) ↦{fullShare} f)
            ∗ semVal (thr d L, SemLoc.dma (⟨36, by decide⟩ : DmaSem sig)) 0
            ∗ semVal (thr d L, SemLoc.dma (⟨38, by decide⟩ : DmaSem sig)) 0
            ∗ ∃ W', ⌜∀ p ∈ W', p ∈ W ∨ p.2 = none⌝ ∗ owes (thr d L) O W') := by
  have h1 := cond1 L
  have h2 := cond2 L
  have h5 := cond5 L
  have h7 := cond7 L
  rw [cc1__sc_dispatch_body_eq_skeleton]; unfold cc1__sc_dispatch_body_skel
  iintro ⟨#Hlv, Hx, Ho, Hi, Hd, Hs1, Hs3, HO⟩
  ihave Hmw := ((K (F := F)).mayWaits_none (thr := thr d L) hO) $$ Hlv
  sl_exec (disch := exact View.amount_pos _ _ (show 0 < S8x128.numel by decide))
  have e0 : tile_run.sl.dma0 m d L = (xBlk L).view.read (Elt F) ((m d).1) := rfl
  rw [e0]
  sl_for (inv d L (View.write (Elt F) (((iB).slice (Rect.unit (s := S2x8x128) k1_off1 S1x8x128.size k1_off1_inb) (fun _ => rfl)).squeeze S8x128 squeezes_S1x8x128_S8x128).view fi ((xBlk L).view.read (Elt F) ((m d).1)) Finset.univ)) $$ [Hi Hd]
  case region =>
    intro k _
    unfold inv
    iintro ⟨Hi, %f, %hf, Hd⟩
    sl_exec
    sl_step
    isplitl [Hi]; · iexact Hi
    iexists _
    isplitr
    rotate_left
    · iexact Hd
    ipureintro
    intro y hy
    exact strip_run iSlot.view (View.write (Elt F) (((iB).slice (Rect.unit (s := S2x8x128) k1_off1 S1x8x128.size k1_off1_inb) (fun _ => rfl)).squeeze S8x128 squeezes_S1x8x128_S8x128).view fi ((xBlk L).view.read (Elt F) ((m d).1)) Finset.univ)
      dSlot.view f k.val (trips8 k) hf
      ![k1_off11 k, k1_off12 k, k1_off13 k, k1_off14 k, k1_off15 k, k1_off16 k, k1_off17 k, k1_off18 k]
      (fun e => by fin_cases e; exacts [k1_off11_inb k, k1_off12_inb k, k1_off13_inb k, k1_off14_inb k, k1_off15_inb k, k1_off16_inb k, k1_off17_inb k, k1_off18_inb k])
      (fun e => by fin_cases e; exacts [k1_off11_eq k, k1_off12_eq k, k1_off13_eq k, k1_off14_eq k, k1_off15_eq k, k1_off16_eq k, k1_off17_eq k, k1_off18_eq k])
      (fun e => ldRow _ _ _ _) (fun _ => rfl) _ _ _ _ rfl rfl rfl rfl y hy
  · unfold inv
    isplitl [Hi]; · iexact Hi
    iexists _
    isplitr
    rotate_left
    · iexact Hd
    ipureintro
    intro y hy
    omega
  iintro %_ HI
  unfold inv
  icases HI with ⟨Hi, %f, %hf, Hd⟩
  have hout : ∀ y, ((((dB).slice (Rect.unit (s := S2x8x128) k1_off19 S1x8x128.size (k1_off19_inb L h5)) (fun _ => rfl)).squeeze S8x128 squeezes_S1x8x128_S8x128).view.read (Elt F) f) y
      = dispBlk ((xBlk L).view.read (Elt F) ((m d).1)) y := by
    intro y
    refine (congrFun (slot_same (dB) ((k1_off19_eq).trans k1_off10_eq.symm) _ k1_off10_inb f) y).trans ?_
    refine (hf y (by have : (y 1).val < 128 := (y 1).isLt; rw [show Scf.trips k1_t1_loop.lb k1_t1_loop.ub k1_t1_loop.st = 8 from trips_eq]; omega)).trans ?_
    exact congrArg (fun X => dispBlk X y) (slot_read (iB) (k1_off1_eq.trans k1_off10_eq.symm) k1_off1_inb k1_off10_inb fi _)
  ihave Ho' := (Entails.of_eq (oBlk_eq d L fo)) $$ Ho
  sl_exec (disch := exact View.amount_pos _ _ (show 0 < S8x128.numel by decide))
  rw [sem_out L]
  sl_exec (disch := exact View.amount_pos _ _ (show 0 < S8x128.numel by decide))
  sl_step
  isplitl [Hx Ho']
  · isplitl [Hx]; · iexact Hx
    iapply (Entails.of_eq (oBlk_eq d L _).symm)
    iapply (Entails.of_eq (pointsTo_congr (out_block d L (m d).1 fo _ hout))); iexact Ho'
  isplitl [Hi]; · iexists _; iexact Hi
  isplitl [Hd]; · iexists _; iexact Hd
  isplitl [Hs1]; · iexact Hs1
  isplitl [Hs3]; · iexact Hs3
  iexists _; isplitr
  rotate_left
  · iexact HO
  · ipureintro; intro p hp
    rcases Finset.mem_insert.mp hp with hp | hp
    · exact .inr (hp ▸ rfl)
    · rcases Finset.mem_insert.mp hp with hp | hp
      · exact .inr (hp ▸ rfl)
      · exact .inl hp

end Tile

end Cert.Proof

end
-- ==== Proof.Tasks.lean ====
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
variable (m : (d : Dev nD) → Buf (Elt F) (xLoc d) × Buf (Elt F) (oLoc d))

local notation "𝕄" => MT nD τ sig (HIx 1) (Elt F) ℕ UU ℕ
local notation "xV" => (Memref.whole Cert.KernelIdeal.main_v4_8_scv : Memref Cert.KernelIdeal.sig Kind.scVector Space.hbm Cert.KernelIdeal.S8x4096 EltTy.f32)
local notation "oV" => (Memref.whole Cert.KernelIdeal.main_v5_scv : Memref Cert.KernelIdeal.sig Kind.scVector Space.hbm Cert.KernelIdeal.S8x4096 EltTy.f32)
local notation "iB" => (Memref.whole Cert.KernelIdeal.cc1_scoped0 : Memref Cert.KernelIdeal.sig Kind.scVector Space.vmem Cert.KernelIdeal.S2x8x128 EltTy.f32)
local notation "dB" => (Memref.whole Cert.KernelIdeal.cc1_scoped2 : Memref Cert.KernelIdeal.sig Kind.scVector Space.vmem Cert.KernelIdeal.S2x8x128 EltTy.f32)

theorem set_xBlk (L : grid1.Coords) : (xBlk L).view.set = (blk L).set := by
  show ((View.whole (main_v4_8_scv : Ref sig .scVector)).slice (blk L)).set = _
  rw [View.set_slice]; exact Finset.map_refl
theorem set_oBlk (L : grid1.Coords) : (oBlk L).view.set = (blk L).set := by
  show ((View.whole (main_v5_scv : Ref sig .scVector)).slice (blk L)).set = _
  rw [View.set_slice]; exact Finset.map_refl

/-- A whole array is its 32 blocks of columns. -/
theorem x_blocks (d : Dev nD) :
    (xLoc d ↦{fullShare} (m d).1 : sProp 𝕄)
      = bigSep Finset.univ fun c : Fin (grid1.bound 0) => bigSep Finset.univ fun s : Fin (grid1.bound 1) => xPts m d (coordsV c s) := by
  have h : (xLoc d ↦{fullShare} (m d).1 : sProp 𝕄) = bigSep Finset.univ fun p => xLoc d ↦[blkSet p]{fullShare} (m d).1 := by
    rw [← pointsTo_biUnion Finset.univ (ℓ := xLoc d) blkSet blks_disjoint, blks_cover]; try rfl
  rw [h, bigSep_univ_prod]
  refine bigSep_congr fun c _ => bigSep_congr fun s _ => ?_
  show _ = (xLoc d ↦[(xBlk (coordsV c s)).view.set]{fullShare} (m d).1 : sProp 𝕄)
  rw [set_xBlk]
theorem o_blocks (d : Dev nD) (f : Buf (Elt F) (oLoc d)) :
    (oLoc d ↦{fullShare} f : sProp 𝕄)
      = bigSep Finset.univ fun c : Fin (grid1.bound 0) => bigSep Finset.univ fun s : Fin (grid1.bound 1) => oPts d (coordsV c s) f := by
  have h : (oLoc d ↦{fullShare} f : sProp 𝕄) = bigSep Finset.univ fun p => oLoc d ↦[blkSet p]{fullShare} f := by
    rw [← pointsTo_biUnion Finset.univ (ℓ := oLoc d) blkSet blks_disjoint, blks_cover]; try rfl
  rw [h, bigSep_univ_prod]
  refine bigSep_congr fun c _ => bigSep_congr fun s _ => ?_
  show _ = (oLoc d ↦[(oBlk (coordsV c s)).view.set]{fullShare} f : sProp 𝕄)
  rw [set_oBlk]

/-! ## What the handshakes carry -/

/-- A subcore's share: its block of the weights and its block of the result, the latter at `f`. -/
abbrev share (d : Dev nD) (f : Buf (Elt F) (oLoc d)) (c : Fin (grid1.bound 0)) (s : Fin (grid1.bound 1)) : sProp 𝕄 :=
  iprop(xPts m d (coordsV c s) ∗ oPts d (coordsV c s) f)
abbrev coreShare (d : Dev nD) (f : Buf (Elt F) (oLoc d)) (c : Fin (grid1.bound 0)) : sProp 𝕄 :=
  bigSep Finset.univ fun s : Fin (grid1.bound 1) => share m d f c s

/-- The call takes both arrays, each subcore its share, and brings them back with the result at the dispatch weights. -/
def P : (K (F := F)).Pay (nD := nD) (Val := Elt F) (Name := ℕ) (U := UU) where
  st := fun q d c => match q with | 0 => coreShare m d ((m d).2) c
  dn := fun q d c => match q with | 0 => coreShare m d (OUT m d) c
  go := fun q d c i => match q with | 0 => share m d ((m d).2) c i
  td := fun q d c i => match q with | 0 => share m d (OUT m d) c i
  x := fun _ _ => iprop(emp)

instance P_storable : (P (F := F) m).IsStorable where
  st q d c := match q with
    | 0 => (inferInstance : BI.Storable (upEmb : UEmb _ 𝕄) (coreShare m d ((m d).2) c))
  dn q d c := match q with
    | 0 => (inferInstance : BI.Storable (upEmb : UEmb _ 𝕄) (coreShare m d (OUT m d) c))
  go q d c i := match q with
    | 0 => (inferInstance : BI.Storable (upEmb : UEmb _ 𝕄) (share m d ((m d).2) c i))
  td q d c i := match q with
    | 0 => (inferInstance : BI.Storable (upEmb : UEmb _ 𝕄) (share m d (OUT m d) c i))

/-! ## The task, from a subcore's storage -/

section Tile

variable (d : Dev nD) (L : grid1.Coords)

abbrev inCell : GSem nD τ sig := (thr d L, SemLoc.dma (⟨36, by decide⟩ : DmaSem sig))
abbrev outCell : GSem nD τ sig := (thr d L, SemLoc.dma (⟨38, by decide⟩ : DmaSem sig))

theorem ownSems0_tile :
    (ownSems0 (thr d L) : sProp 𝕄)
      = iprop(semVal (inCell d L) 0 ∗ semVal (outCell d L) 0
          ∗ bigSep (((ownCells (thr d L)).erase (inCell d L)).erase (outCell d L)) fun g => semVal g 0) := by
  unfold SparseCore.Cfg.ownSems0
  rw [SparseCore.bigSep_erase' ((mem_ownCells (g := inCell d L)).mpr ⟨rfl, by
      show (SemLoc.dma (⟨36, by decide⟩ : DmaSem sig) : SemLoc sig).isScoped .scVector = true; decide⟩),
    SparseCore.bigSep_erase' (Finset.mem_erase.mpr ⟨by simp [inCell, outCell], (mem_ownCells (g := outCell d L)).mpr ⟨rfl, by
      show (SemLoc.dma (⟨38, by decide⟩ : DmaSem sig) : SemLoc sig).isScoped .scVector = true; decide⟩⟩)]

theorem ownBufs_tile :
    (ownBufs (thr d L) : sProp 𝕄)
      = iprop((∃ f, (thr d L).loc cc1_scoped0 ↦{fullShare} f) ∗ (∃ f, (thr d L).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

theorem tile_body (hF : (K (F := F)).Facts) (O : CellTallies nD τ sig (HIx 1)) (W : Waits sig (HIx 1)) (hO : ∀ g, O g none = 0) :
    iprop(levAts (K (F := F)).L (K (F := F)).lev ∗ emp ∗ (xPts m d L ∗ oPts d L ((m d).2))
        ∗ scopedBufs (thr d L) ∗ scopedSems0 (thr d L) ∗ owes (thr d L) O W)
      ⊢ wp frame (wpE (defs₀ (F := F)) 𝒱₀ (thr d L) none) Set.univ
          (cc1__sc_dispatch_body L xV (Memref.isWhole_whole _) oV (Memref.isWhole_whole _)
            iB (Memref.isWhole_whole _) cc1_scoped1 dB (Memref.isWhole_whole _) cc1_scoped3)
          fun _ => iprop((xPts m d L ∗ oPts d L (OUT m d)) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨#Hlv, -, ⟨Hx, Ho⟩, ⟨⟨%fi, Hi⟩, ⟨%fd, Hd⟩, Hbufs⟩, ⟨Hs1, Hs3, Hsems⟩, HO⟩
  ihave Hrun := (tile_run m d L hF O W hO fi fd ((m d).2)) $$ [Hx Ho Hi Hd Hs1 Hs3 HO]
  · isplitr; · iexact Hlv
    isplitl [Hx]; · iexact Hx
    isplitl [Ho]; · iexact Ho
    isplitl [Hi]; · iexact Hi
    isplitl [Hd]; · iexact Hd
    isplitl [Hs1]; · iexact Hs1
    isplitl [Hs3]; · iexact Hs3
    iexact HO
  iapply (wp_wand_r _ _ _) $$ [Hrun Hbufs Hsems]
  · isplitl [Hrun]; · iexact Hrun
    iintro %_ ⟨Hpts, Hi, Hd, Hs1, Hs3, HW⟩
    isplitl [Hpts]; · iexact Hpts
    isplitl [Hi Hd Hbufs]
    · isplitl [Hi]; · iexact Hi
      isplitl [Hd]; · iexact Hd
      iexact Hbufs
    isplitl [Hs1 Hs3 Hsems]
    · isplitl [Hs1]; · iexact Hs1
      isplitl [Hs3]; · iexact Hs3
      iexact Hsems
    iexact HW

end Tile

/-! ## The launch's obligations -/

theorem defs₀_vector (c : Fin τ.nSC) (s : Fin τ.nSub) :
    defs₀ (F := F) (.scVector c s) 1 ()
      = SparseCore.onTile hcore1 hsub1 (fun c s => cc1__sc_dispatch_body (coordsV c s)
          xV (Memref.isWhole_whole _) oV (Memref.isWhole_whole _)
          iB (Memref.isWhole_whole _) cc1_scoped1 dB (Memref.isWhole_whole _) cc1_scoped3) ⟨⟩ c s := rfl

/-- A task that waited at no index of the handshakes waited at no other call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ()))  _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show coreShare m d ((m d).2) c ⊢ |={Set.univ}=> iprop(coreShare m d ((m d).2) c ∗ (coreShare m d (OUT m d) c -∗ coreShare m d (OUT m d) c))
  iintro H; imodintro
  isplitl [H]; · iexact H
  iintro H; iexact H

end Cert.Proof

end
-- ==== Proof.Region.lean ====
/-
  A TensorCore region of the program, its proof data relational: each window carries a relation between what its staging
  buffer holds when the body is run at a grid point and what it holds afterwards. From the device's arrays at any contents
  the region leaves them at contents that differ from those at the region's output arrays only, each of which holds
  something the relations allow after every write-back.
-/
module

public import proofs.«01_k».proof.Proof.Launch
public import proofs.«01_k».proof.Proof.Gen.KernelIdeal.Launch
public import Idealize.ShloMosaic.Lib.Pipeline.Regions
public import Idealize.ShloMosaic.Lib.Pipeline.RegionsLoop
public import Idealize.ShloMosaic.Lib.Pipeline.RegionArrays

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- No region has a prefetched table. -/
abbrev adm : (p : Fin 3) → (pcfgs (F := F) p).Adm := fun p => (cfgs p).toPCfg_adm

/-- What a region's body may leave in each window's staging buffer, given what it was handed there. -/
abbrev Aft : Type := (p : Fin 3) → (w : Fin (cfgs p).W) → Fin (cfgs p).N →
  (Y X : ((cfgs p).win w).block.Idx → Elt F ((cfgs p).win w).elt) → Prop

/-- The relational proof data of region `p`: the arrays as they are at `W`, the relations `aft`, nothing of the kernel's own
    but the scoped buffers no window stages, the tallies `O` owed throughout, every recorded wait at level `b` or below. -/
def rdat (aft : Aft (F := F)) (W : Valuation τ sig (Elt F)) (O : CellTallies nD τ sig (HIx 1)) (b : ℕ) (p : Fin 3) (d : Dev nD) :
    Pipeline.RDat τ (Elt F) (HIx 1) ℕ UU ℕ (cfgs p) d where
  A w := W (Proc.devRef .tc (Pipeline.arrRef (cfgs p).spec w))
  after := aft p
  Φ _ := Pipeline.scopedRest (cfgs p).spec d
  q w := Pipeline.shareOf (cfgs p).spec w
  owed _ := O
  recorded _ := {x | (K (F := F)).lev (T d, x.1) x.2 ≤ b}

/-- The same arrays and shares as exact data: what the splitting of the device's arrays is stated over. -/
def xdat [∀ e, Nonempty (Elt F e)] (W : Valuation τ sig (Elt F)) (O : CellTallies nD τ sig (HIx 1)) (p : Fin 3) (d : Dev nD) :
    Pipeline.Dat τ (Elt F) (HIx 1) ℕ UU ℕ (cfgs p) d where
  A w := W (Proc.devRef .tc (Pipeline.arrRef (cfgs p).spec w))
  after _ _ _ := Classical.arbitrary _
  Φ _ := iprop(emp)
  q w := Pipeline.shareOf (cfgs p).spec w
  owed _ := O

/-- What the arrays are after region `p`, from `W`: as they were but at the region's outputs, each at something the relations allow. -/
def Out (aft : Aft (F := F)) (O : CellTallies nD τ sig (HIx 1)) (b : ℕ) (p : Fin 3) (d : Dev nD) (W W' : Valuation τ sig (Elt F)) : Prop :=
  (∀ r : DevRef τ sig, (∀ w : Fin (cfgs p).W, ((cfgs p).spec w).isOut = true → r ≠ Proc.devRef .tc (Pipeline.arrRef (cfgs p).spec w)) → W' r = W r)
    ∧ ∀ w : Fin (cfgs p).W, (rdat aft W O b p d).ArrAt w (cfgs p).N (W' (Proc.devRef .tc (Pipeline.arrRef (cfgs p).spec w)))

/-- The device's tallies owed and its recorded waits bounded. -/
abbrev Owes (O : CellTallies nD τ sig (HIx 1)) (b : ℕ) (d : Dev nD) : sProp 𝕄 :=
  iprop(∃ W, ⌜(K (F := F)).WBelow (T d) W b⌝ ∗ owes (T d) O W)

variable [∀ e, Nonempty (Elt F e)]

/-- The arrays' contents after a region, updated at its outputs. -/
def upd (p : Fin 3) (d : Dev nD) (W : Valuation τ sig (Elt F))
    (A : (w : Fin (cfgs p).W) → Buf (Elt F) (((cfgs p).win w).arr.view.loc (d.tc : Thread nD τ))) : Valuation τ sig (Elt F) := fun r =>
  open Classical in
  if h : ∃ w : Fin (cfgs p).W, ((cfgs p).spec w).isOut = true ∧ Proc.devRef .tc (Pipeline.arrRef (cfgs p).spec w) = r
  then h.choose_spec.2 ▸ A h.choose else W r

/-- Reading a family along an equation of its index. -/
theorem eqRec_of_eq {I J : Type} {B : J → Type} (w w' : I) (e : w' = w) {f : I → J} (A : (i : I) → B (f i)) (h : f w' = f w) : (h ▸ A w' : B (f w)) = A w := by
  subst e; rfl

theorem upd_out (p : Fin 3) (d : Dev nD) (W : Valuation τ sig (Elt F)) (hsh : Pipeline.SharedIn (cfgs p).spec)
    (A : (w : Fin (cfgs p).W) → Buf (Elt F) (((cfgs p).win w).arr.view.loc (d.tc : Thread nD τ))) (w : Fin (cfgs p).W)
    (hw : ((cfgs p).spec w).isOut = true) : upd p d W A (Proc.devRef .tc (Pipeline.arrRef (cfgs p).spec w)) = A w := by
  have h : ∃ w' : Fin (cfgs p).W, ((cfgs p).spec w').isOut = true ∧ Proc.devRef .tc (Pipeline.arrRef (cfgs p).spec w') = (Proc.devRef .tc (Pipeline.arrRef (cfgs p).spec w) : DevRef τ sig) := ⟨w, hw, rfl⟩
  have e : h.choose = w := by
    by_contra hne
    have := hsh _ _ hne (Proc.devRef_injective _ h.choose_spec.2)
    rw [h.choose_spec.1] at this
    exact absurd this (by decide)
  unfold upd
  rw [dif_pos h]
  exact eqRec_of_eq (B := fun r : DevRef τ sig => r.ty.Contents (Elt F)) w h.choose e (f := fun w' : Fin (cfgs p).W => (Proc.devRef .tc (Pipeline.arrRef (cfgs p).spec w') : DevRef τ sig)) A _

theorem upd_ne (p : Fin 3) (d : Dev nD) (W : Valuation τ sig (Elt F))
    (A : (w : Fin (cfgs p).W) → Buf (Elt F) (((cfgs p).win w).arr.view.loc (d.tc : Thread nD τ))) (r : DevRef τ sig)
    (hr : ∀ w : Fin (cfgs p).W, ((cfgs p).spec w).isOut = true → r ≠ Proc.devRef .tc (Pipeline.arrRef (cfgs p).spec w)) : upd p d W A r = W r := by
  unfold upd
  rw [dif_neg]
  rintro ⟨w, hw, e⟩
  exact hr w hw e.symm

section

variable (aft : Aft (F := F)) (O : CellTallies nD τ sig (HIx 1)) (b : ℕ) (p : Fin 3)
  (hw : Pipeline.WinFacts₀ (cfgs p).spec) (hsh : Pipeline.SharedIn (cfgs p).spec)
  (hpos : ∀ w : Fin (cfgs p).W, 0 < ((cfgs p).spec w).block.numel) (harr : ∀ w, ((cfgs p).spec w).arr.IsWhole)
  (hst : ∀ (w : Fin (cfgs p).W) (s : Fin ((cfgs p).spec w).nbuf), (((cfgs p).spec w).stage s).IsWhole)

theorem arraysAt_out (W : Valuation τ sig (Elt F)) (d : Dev nD) :
    ((rdat aft W O b p d).arraysAt (cfgs p).N : sProp 𝕄)
      ⊢ iprop(∃ A : (w : Fin (cfgs p).W) → Buf (Elt F) (((cfgs p).win w).arr.view.loc (d.tc : Thread nD τ)),
          ⌜∀ w, (rdat aft W O b p d).ArrAt w (cfgs p).N (A w)⌝ ∗ (xdat W O p d).arrays A) := by
  unfold Pipeline.RDat.arraysAt Pipeline.Dat.arrays
  refine (BI.bigSep_exists_pi Finset.univ _).trans ?_
  iintro ⟨%A, H⟩
  ihave H' := (BI.bigSep_pure_sep Finset.univ (fun w => (rdat aft W O b p d).ArrAt w (cfgs p).N (A w)) _) $$ H
  icases H' with ⟨%hA, H⟩
  iexists A
  isplitr
  · ipureintro; exact fun w => hA w (Finset.mem_univ w)
  iexact H

set_option backward.isDefEq.respectTransparency.types false in
/-- The region as the library's record: entered from the device's arrays at `W` and the tallies owed, left with the arrays at
    contents `Out` allows. -/
def seg (hO : ∀ g, O g none = 0) (W : Valuation τ sig (Elt F))
    (hbody : ∀ d, (rdat aft W O b p d).BodyObligation defs₀ 𝒱₀ none Set.univ) :
    Pipeline.RDat.RegionSeg (pcfgs (F := F)) adm (rdat aft W O b) none defs₀ 𝒱₀ (K (F := F)).L (K (F := F)).lev p where
  win := hw
  block_pos := hpos
  stage_whole := hst
  K := PEmpty
  osem k := k.elim
  ho := Pipeline.OwnSemFacts.none _
  hbody := hbody
  hwaits d := Pipeline.PerCore.RDat.cellsWaits_intro _ _ _ p d fun w s t => (K (F := F)).mayWait_none _ hO
  pre d := iprop(unscopedBufs d (fun r => W (Proc.devRef .tc r)) ∗ Owes (F := F) O b d)
  post d := iprop(∃ W', ⌜Out aft O b p d W W'⌝ ∗ unscopedBufs d (fun r => W' (Proc.devRef .tc r)) ∗ Owes (F := F) O b d)
  X _ := iprop(emp)
  Y _ := iprop(emp)
  Z d := Pipeline.unscopedRest (cfgs p).spec d (fun r => W (Proc.devRef .tc r))
  hentry d := by
    rw [Pipeline.ownSems0_none]
    iintro ⟨⟨Hub, HO⟩, -, -⟩
    ihave H := (Pipeline.arrays_of_unscopedBufs_shared (pcfgs (F := F)) adm (xdat W O) hw hsh harr d (fun _ _ => rfl) (fun r => W (Proc.devRef .tc r)) (fun _ => rfl)) $$ Hub
    icases H with ⟨Ha, Hr⟩
    imodintro
    isplitl [Ha]
    · iapply (Entails.of_eq (show (xdat W O p d).arrays ((xdat W O p d).arrAt · 0) = ((rdat aft W O b p d).arrays (rdat aft W O b p d).A : sProp 𝕄) from rfl)); iexact Ha
    isplitr; · rw [Pipeline.prefHeld_of_none _ rfl]; iempintro
    isplitl [HO]
    · icases HO with ⟨%Wt, %hWt, HO⟩
      iexists Wt
      isplitr; · ipureintro; exact fun x hx => Or.inl (hWt x hx)
      iexact HO
    isplitr; · iempintro
    iexact Hr
  hin d := by
    show _ ⊢ (Pipeline.scopedRest (cfgs p).spec d : sProp 𝕄)
    iintro ⟨-, -, H⟩; iexact H
  hout d := by
    rw [Pipeline.ownSems0_none]
    show (Pipeline.scopedRest (cfgs p).spec d : sProp 𝕄) ⊢ _
    iintro H
    isplitr; · iempintro
    isplitr; · iempintro
    iexact H
  hexit d := by
    iintro ⟨Ha, HO, -, Hr⟩
    ihave H := (arraysAt_out aft O b p W d) $$ Ha
    icases H with ⟨%A, %hA, Ha⟩
    imodintro
    iexists (upd p d W A)
    isplitr
    · ipureintro
      refine ⟨fun r hr => upd_ne p d W A r hr, fun w => ?_⟩
      cases ho : ((cfgs p).spec w).isOut with
      | true => rw [upd_out p d W hsh A w ho]; exact hA w
      | false =>
        rw [Pipeline.RDat.ArrAt_in _ w ho]
        exact upd_ne p d W A _ fun w' hw' e => by
          have hne : w ≠ w' := fun e' => by rw [e', hw'] at ho; exact absurd ho (by decide)
          have := hsh _ _ hne.symm (Proc.devRef_injective _ e.symm)
          rw [hw'] at this; exact absurd this (by decide)
    isplitl [Ha Hr]
    · iapply (Pipeline.unscopedBufs_of_arrays_shared (pcfgs (F := F)) adm hw hsh harr d (xdat W O) (fun _ _ => rfl) (fun r => W (Proc.devRef .tc r))
        (fun r => upd p d W A (Proc.devRef .tc r)) A ?_ ?_)
      · intro w
        cases ho : ((cfgs p).spec w).isOut with
        | true => exact (upd_out p d W hsh A w ho).symm
        | false =>
          have h1 := hA w
          rw [Pipeline.RDat.ArrAt_in _ w ho] at h1
          rw [h1]
          exact (upd_ne p d W A _ fun w' hw' e => by
            have hne : w ≠ w' := fun e' => by rw [e', hw'] at ho; exact absurd ho (by decide)
            have := hsh _ _ hne.symm (Proc.devRef_injective _ e.symm)
            rw [hw'] at this; exact absurd this (by decide)).symm
      · intro r hr
        exact upd_ne p d W A _ fun w' hw' e => hr (Finset.mem_image.mpr ⟨w', Finset.mem_univ _, (Proc.devRef_injective _ e).symm⟩)
      isplitl [Ha] <;> iassumption
    · icases HO with ⟨%Wt, %hWt, HO⟩
      iexists Wt
      isplitr
      · ipureintro
        intro x hx
        rcases hWt hx with h | ⟨w, s, rfl⟩
        · exact h
        · exact Nat.zero_le _
      iexact HO

include hw hsh hpos harr hst in
/-- Region `p` of the program run from the device's arrays at `W`. -/
theorem wp_region (hO : ∀ g, O g none = 0) (W : Valuation τ sig (Elt F)) (d : Dev nD)
    (hbody : ∀ d, (rdat aft W O b p d).BodyObligation defs₀ 𝒱₀ none Set.univ) :
    iprop(boundary (T d) ∗ unscopedBufs d (fun r => W (Proc.devRef .tc r)) ∗ Owes (F := F) O b d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ()) : Prog (TpuEff nD τ sig (Elt F) (SparseCore.Sig (ΛP (F := F)) 1) .tc) PUnit)
          fun _ => iprop(boundary (T d) ∗ ∃ W', ⌜Out aft O b p d W W'⌝ ∗ unscopedBufs d (fun r => W' (Proc.devRef .tc r)) ∗ Owes (F := F) O b d) := by
  refine BIBase.Entails.trans ?_ ((K (F := F)).wp_liftProg (D (F := F)) 𝒱 (T d) Set.univ none (Prog.lift (.customCall (Pipeline.entry p) ())) _)
  refine BIBase.Entails.trans ?_ (Pipeline.RDat.RegionSeg.wp (pcfgs (F := F)) adm (rdat aft W O b) none cellOf_inj EP defs₀ 𝒱₀ (K (F := F)).L (K (F := F)).lev
    (seg aft O b p hw hsh hpos harr hst hO W hbody) d none (fun _ h => nomatch h) (fun u => .ret u) _)
  iintro ⟨Hb, Hub, HO, Hl, Hg, Ht⟩
  isplitr
  · iintro H; rw [wp_ret]; imodintro; iexact H
  isplitl [Hb]; · iexact Hb
  isplitl [Hub HO]
  · iapply (show iprop(unscopedBufs d (fun r => W (Proc.devRef .tc r)) ∗ Owes (F := F) O b d)
        ⊢ (seg aft O b p hw hsh hpos harr hst hO W hbody).pre d from BIBase.Entails.rfl)
    isplitl [Hub] <;> iassumption
  isplitl [Hl]; · iexact Hl
  isplitl [Hg] <;> iassumption

end

end Cert.Proof

end
-- ==== Proof.Stage1.lean ====
/-
  The body of the stage-1 kernel run over its staging buffers: it ends, and leaves the buffers it only reads as they were.
-/
module

public import proofs.«01_k».proof.Proof.Region
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A core's buffer held whole at contents of which `R` holds. -/
def Left (d : Dev nD) {s : Shape} {e : EltTy} (arg : Memref sig .tc .vmem s e) (R : (s.Idx → Elt F e) → Prop) : sProp 𝕄 :=
  iprop(∃ X, ⌜R X⌝ ∗ owns d.tc arg fullShare X)

theorem left (d : Dev nD) {s : Shape} {e : EltTy} (arg : Memref sig .tc .vmem s e) (R : (s.Idx → Elt F e) → Prop)
    (f : Buf (Elt F) (arg.view.loc (d.tc : Thread nD τ))) (h : R (arg.view.read (Elt F) f)) :
    (arg.view.loc (d.tc : Thread nD τ) ↦[arg.view.set]{fullShare} f : sProp 𝕄) ⊢ Left d arg R := by
  unfold Left owns
  iintro H
  iexists _
  isplitr
  swap
  · iexists f
    isplitr
    swap
    · iexact H
    ipureintro; rfl
  ipureintro; exact h

theorem kept {d : Dev nD} {s : Shape} {e : EltTy} {arg : Memref sig .tc .vmem s e}
    {f : Buf (Elt F) (arg.view.loc (d.tc : Thread nD τ))} :
    (arg.view.loc (d.tc : Thread nD τ) ↦[arg.view.set]{fullShare} f : sProp 𝕄) ⊢ Left d arg (· = arg.view.read (Elt F) f) :=
  left d arg _ f rfl

theorem loose {d : Dev nD} {s : Shape} {e : EltTy} {arg : Memref sig .tc .vmem s e}
    {f : Buf (Elt F) (arg.view.loc (d.tc : Thread nD τ))} :
    (arg.view.loc (d.tc : Thread nD τ) ↦[arg.view.set]{fullShare} f : sProp 𝕄) ⊢ Left d arg (fun _ => True) :=
  left d arg _ f trivial

set_option maxHeartbeats 2000000 in
/-- The stage-1 body runs and leaves its inputs as they were. -/
theorem stage1_run (d : Dev nD) (i : grid2.Coords) {arg1 : Memref sig .tc .vmem S1024x1024 .f32} (harg1 : arg1.IsWhole) {arg2 : Memref sig .tc .vmem S2048x1024 .bf16} (harg2 : arg2.IsWhole) {arg3 : Memref sig .tc .vmem S2048x1024 .bf16} (harg3 : arg3.IsWhole) {arg4 : Memref sig .tc .vmem S128x1024 .bf16} (harg4 : arg4.IsWhole) {arg5 : Memref sig .tc .vmem S128x2048 .bf16} (harg5 : arg5.IsWhole) {arg6 : Memref sig .tc .vmem S1024x2048 .bf16} (harg6 : arg6.IsWhole) {arg7 : Memref sig .tc .vmem S1x2048 .f32} (harg7 : arg7.IsWhole) {arg8 : Memref sig .tc .vmem S1x2048 .f32} (harg8 : arg8.IsWhole) {arg9 : Memref sig .tc .vmem S1x128 .f32} (harg9 : arg9.IsWhole) {arg10 : Memref sig .tc .vmem S1x128 .f32} (harg10 : arg10.IsWhole) {arg11 : Memref sig .tc .vmem S1x128 .f32} (harg11 : arg11.IsWhole) {arg12 : Memref sig .tc .vmem S1x128 .f32} (harg12 : arg12.IsWhole) {arg13 : Memref sig .tc .vmem S1x1024 .f32} (harg13 : arg13.IsWhole) {arg14 : Memref sig .tc .vmem S1024x1024 .bf16} (harg14 : arg14.IsWhole) {arg15 : Memref sig .tc .vmem S1024x128 .bf16} (harg15 : arg15.IsWhole) {arg16 : Memref sig .tc .vmem S1024x128 .bf16} (harg16 : arg16.IsWhole) {arg17 : Memref sig .tc .vmem S1024x128 .bf16} (harg17 : arg17.IsWhole)
    (x1 : Vec F S1024x1024 .f32) (x2 : Vec F S2048x1024 .bf16) (x3 : Vec F S2048x1024 .bf16) (x4 : Vec F S128x1024 .bf16) (x5 : Vec F S128x2048 .bf16) (x6 : Vec F S1024x2048 .bf16) (x7 : Vec F S1x2048 .f32) (x8 : Vec F S1x2048 .f32) (x9 : Vec F S1x128 .f32) (x10 : Vec F S1x128 .f32) (x11 : Vec F S1x128 .f32) (x12 : Vec F S1x128 .f32) (x13 : Vec F S1x1024 .f32) (x14 : Vec F S1024x1024 .bf16) (x15 : Vec F S1024x128 .bf16) (x16 : Vec F S1024x128 .bf16) (x17 : Vec F S1024x128 .bf16) :
    iprop(owns d.tc arg1 fullShare x1 ∗ owns d.tc arg2 fullShare x2 ∗ owns d.tc arg3 fullShare x3 ∗ owns d.tc arg4 fullShare x4 ∗ owns d.tc arg5 fullShare x5 ∗ owns d.tc arg6 fullShare x6 ∗ owns d.tc arg7 fullShare x7 ∗ owns d.tc arg8 fullShare x8 ∗ owns d.tc arg9 fullShare x9 ∗ owns d.tc arg10 fullShare x10 ∗ owns d.tc arg11 fullShare x11 ∗ owns d.tc arg12 fullShare x12 ∗ owns d.tc arg13 fullShare x13 ∗ owns d.tc arg14 fullShare x14 ∗ owns d.tc arg15 fullShare x15 ∗ owns d.tc arg16 fullShare x16 ∗ owns d.tc arg17 fullShare x17)
      ⊢ wp frame (wpE (defs₀ (F := F)) 𝒱₀ d.tc none) Set.univ (cc2__stage1_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) fun _ =>
        iprop(Left d arg1 (· = x1) ∗ Left d arg2 (· = x2) ∗ Left d arg3 (· = x3) ∗ Left d arg4 (· = x4) ∗ Left d arg5 (· = x5) ∗ Left d arg6 (· = x6) ∗ Left d arg7 (· = x7) ∗ Left d arg8 (· = x8) ∗ Left d arg9 (· = x9) ∗ Left d arg10 (· = x10) ∗ Left d arg11 (· = x11) ∗ Left d arg12 (· = x12) ∗ Left d arg13 (· = x13) ∗ Left d arg14 (fun _ => True) ∗ Left d arg15 (fun _ => True) ∗ Left d arg16 (fun _ => True) ∗ Left d arg17 (fun _ => True)) := by
  rw [cc2__stage1_kernel_eq_skeleton]; unfold cc2__stage1_kernel_skel
  rw [k2_part1_eq_skeleton, k2_part2_eq_skeleton, k2_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩⟩
  subst hf1 hf2 hf3 hf4 hf5 hf6 hf7 hf8 hf9 hf10 hf11 hf12 hf13 hf14 hf15 hf16 hf17
  sl_exec
  sl_step
  isplitl [H1]; · iapply kept; iexact H1
  isplitl [H2]; · iapply kept; iexact H2
  isplitl [H3]; · iapply kept; iexact H3
  isplitl [H4]; · iapply kept; iexact H4
  isplitl [H5]; · iapply kept; iexact H5
  isplitl [H6]; · iapply kept; iexact H6
  isplitl [H7]; · iapply kept; iexact H7
  isplitl [H8]; · iapply kept; iexact H8
  isplitl [H9]; · iapply kept; iexact H9
  isplitl [H10]; · iapply kept; iexact H10
  isplitl [H11]; · iapply kept; iexact H11
  isplitl [H12]; · iapply kept; iexact H12
  isplitl [H13]; · iapply kept; iexact H13
  isplitl [H14]; · iapply loose; iexact H14
  isplitl [H15]; · iapply loose; iexact H15
  isplitl [H16]; · iapply loose; iexact H16
  iapply loose; iexact H17

end Cert.Proof

end
-- ==== Proof.Prep.lean ====
/-
  The body of the preparation kernel run over its staging buffers: it ends, leaves the buffers it only reads as they were,
  the routing weights' buffer at the weights of its block of tokens, and the buffer of the sums of squares at its block's sum
  of squares, alone at the first point of a pair and added to what was there at the second.
-/
module

public import proofs.«01_k».proof.Proof.Stage1
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

set_option maxHeartbeats 2000000 in
/-- The preparation body runs and leaves its inputs as they were, its block's routing weights and its sum of squares. -/
theorem prep_run (d : Dev nD) (i : grid0.Coords) {arg1 : Memref sig .tc .vmem S512x1024 .f32} (harg1 : arg1.IsWhole) {arg2 : Memref sig .tc .vmem S512x1024 .f32} (harg2 : arg2.IsWhole) {arg3 : Memref sig .tc .vmem S256x2048 .f32} (harg3 : arg3.IsWhole) {arg4 : Memref sig .tc .vmem S128x1024 .f32} (harg4 : arg4.IsWhole) {arg5 : Memref sig .tc .vmem S128x2048 .f32} (harg5 : arg5.IsWhole) {arg6 : Memref sig .tc .vmem S2048x128 .f32} (harg6 : arg6.IsWhole) {arg7 : Memref sig .tc .vmem S8x128x128 .f32} (harg7 : arg7.IsWhole) {arg8 : Memref sig .tc .vmem S256x2048 .f32} (harg8 : arg8.IsWhole) {arg9 : Memref sig .tc .vmem S2048x128 .f32} (harg9 : arg9.IsWhole) {arg10 : Memref sig .tc .vmem S1024x1024 .f32} (harg10 : arg10.IsWhole) {arg11 : Memref sig .tc .vmem S8x1024 .f32} (harg11 : arg11.IsWhole) {arg12 : Memref sig .tc .vmem S8x1 .f32} (harg12 : arg12.IsWhole) {arg13 : Memref sig .tc .vmem S8x1 .f32} (harg13 : arg13.IsWhole) {arg14 : Memref sig .tc .vmem S1x1 .f32} (harg14 : arg14.IsWhole) {arg15 : Memref sig .tc .vmem S512x1024 .bf16} (harg15 : arg15.IsWhole) {arg16 : Memref sig .tc .vmem S512x1024 .bf16} (harg16 : arg16.IsWhole) {arg17 : Memref sig .tc .vmem S256x2048 .bf16} (harg17 : arg17.IsWhole) {arg18 : Memref sig .tc .vmem S128x1024 .bf16} (harg18 : arg18.IsWhole) {arg19 : Memref sig .tc .vmem S128x2048 .bf16} (harg19 : arg19.IsWhole) {arg20 : Memref sig .tc .vmem S128x1024 .bf16} (harg20 : arg20.IsWhole) {arg21 : Memref sig .tc .vmem S256x128 .bf16} (harg21 : arg21.IsWhole) {arg22 : Memref sig .tc .vmem S256x128 .bf16} (harg22 : arg22.IsWhole) {arg23 : Memref sig .tc .vmem S8x1024 .f32} (harg23 : arg23.IsWhole) {arg24 : Memref sig .tc .vmem S1x8x128 .f32} (harg24 : arg24.IsWhole)
    (x1 : Vec F S512x1024 .f32) (x2 : Vec F S512x1024 .f32) (x3 : Vec F S256x2048 .f32) (x4 : Vec F S128x1024 .f32) (x5 : Vec F S128x2048 .f32) (x6 : Vec F S2048x128 .f32) (x7 : Vec F S8x128x128 .f32) (x8 : Vec F S256x2048 .f32) (x9 : Vec F S2048x128 .f32) (x10 : Vec F S1024x1024 .f32) (x11 : Vec F S8x1024 .f32) (x12 : Vec F S8x1 .f32) (x13 : Vec F S8x1 .f32) (x14 : Vec F S1x1 .f32) (x15 : Vec F S512x1024 .bf16) (x16 : Vec F S512x1024 .bf16) (x17 : Vec F S256x2048 .bf16) (x18 : Vec F S128x1024 .bf16) (x19 : Vec F S128x2048 .bf16) (x20 : Vec F S128x1024 .bf16) (x21 : Vec F S256x128 .bf16) (x22 : Vec F S256x128 .bf16) (x23 : Vec F S8x1024 .f32) (x24 : Vec F S1x8x128 .f32)
    (hc : (k0_cond1 i = 1#1 ∧ k0_cond2 i = 1#1 ∧ ¬ k0_cond3 i = 1#1) ∨ (¬ k0_cond1 i = 1#1 ∧ k0_cond2 i = 1#1 ∧ ¬ k0_cond3 i = 1#1)
      ∨ (¬ k0_cond1 i = 1#1 ∧ ¬ k0_cond2 i = 1#1 ∧ k0_cond3 i = 1#1)) :
    iprop(owns d.tc arg1 fullShare x1 ∗ owns d.tc arg2 fullShare x2 ∗ owns d.tc arg3 fullShare x3 ∗ owns d.tc arg4 fullShare x4 ∗ owns d.tc arg5 fullShare x5 ∗ owns d.tc arg6 fullShare x6 ∗ owns d.tc arg7 fullShare x7 ∗ owns d.tc arg8 fullShare x8 ∗ owns d.tc arg9 fullShare x9 ∗ owns d.tc arg10 fullShare x10 ∗ owns d.tc arg11 fullShare x11 ∗ owns d.tc arg12 fullShare x12 ∗ owns d.tc arg13 fullShare x13 ∗ owns d.tc arg14 fullShare x14 ∗ owns d.tc arg15 fullShare x15 ∗ owns d.tc arg16 fullShare x16 ∗ owns d.tc arg17 fullShare x17 ∗ owns d.tc arg18 fullShare x18 ∗ owns d.tc arg19 fullShare x19 ∗ owns d.tc arg20 fullShare x20 ∗ owns d.tc arg21 fullShare x21 ∗ owns d.tc arg22 fullShare x22 ∗ owns d.tc arg23 fullShare x23 ∗ owns d.tc arg24 fullShare x24)
      ⊢ wp frame (wpE (defs₀ (F := F)) 𝒱₀ d.tc none) Set.univ (cc0__prep_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) fun _ =>
        iprop(Left d arg1 (· = x1) ∗ Left d arg2 (· = x2) ∗ Left d arg3 (· = x3) ∗ Left d arg4 (· = x4) ∗ Left d arg5 (· = x5) ∗ Left d arg6 (· = x6) ∗ Left d arg7 (· = x7) ∗ Left d arg8 (· = x8) ∗ Left d arg9 (· = x9) ∗ Left d arg10 (· = x10) ∗ Left d arg11 (· = x11) ∗ Left d arg12 (· = x12) ∗ Left d arg13 (· = x13) ∗ Left d arg14 (· = x14) ∗ Left d arg15 (fun _ => True) ∗ Left d arg16 (fun _ => True) ∗ Left d arg17 (fun _ => True) ∗ Left d arg18 (fun _ => True) ∗ Left d arg19 (fun _ => True) ∗ Left d arg20 (fun _ => True) ∗ Left d arg21 (fun _ => True) ∗ Left d arg22 (fun _ => True) ∗ Left d arg23 (· = k0_pay19 (k0_pay18 x11 x10 x12 x13 x14)) ∗ Left d arg24 (fun X => (k0_cond2 i = 1#1 → X = (k0_pay20 (k0_pay17 x11 x10 x12 x13))) ∧ (k0_cond3 i = 1#1 → X = k0_pay1 (k0_pay20 (k0_pay17 x11 x10 x12 x13)) x24))) := by
  rw [cc0__prep_kernel_eq_skeleton]; unfold cc0__prep_kernel_skel
  rw [k0_part2_eq_skeleton, k0_part3_eq_skeleton, k0_part4_eq_skeleton]
  rcases hc with ⟨hc1, hc2, hc3⟩ | ⟨hc1, hc2, hc3⟩ | ⟨hc1, hc2, hc3⟩
  all_goals
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩⟩
    subst hf1 hf2 hf3 hf4 hf5 hf6 hf7 hf8 hf9 hf10 hf11 hf12 hf13 hf14 hf15 hf16 hf17 hf18 hf19 hf20 hf21 hf22 hf23 hf24
    have e10 : arg10.view.readAt (Elt F) (Rect.unit ![0, 0] ![1024, 1024] inb_S1024x1024_S1024x1024_0_0).toLoadRect f10 = arg10.view.read (Elt F) f10 := View.readAt_full _ _ _
    have e11 : arg11.view.readAt (Elt F) (Rect.unit ![0, 0] ![8, 1024] inb_S8x1024_S8x1024_0_0).toLoadRect f11 = arg11.view.read (Elt F) f11 := View.readAt_full _ _ _
    have e12 : arg12.view.readAt (Elt F) (Rect.unit ![0, 0] ![8, 1] inb_S8x1_S8x1_0_0).toLoadRect f12 = arg12.view.read (Elt F) f12 := View.readAt_full _ _ _
    have e13 : arg13.view.readAt (Elt F) (Rect.unit ![0, 0] ![8, 1] inb_S8x1_S8x1_0_0).toLoadRect f13 = arg13.view.read (Elt F) f13 := View.readAt_full _ _ _
    have e14 : arg14.view.readAt (Elt F) (Rect.unit ![0, 0] ![1, 1] inb_S1x1_S1x1_0_0).toLoadRect f14 = arg14.view.read (Elt F) f14 := View.readAt_full _ _ _
    have e24 : arg24.view.readAt (Elt F) (Rect.unit ![0, 0, 0] ![1, 8, 128] inb_S1x8x128_S1x8x128_0_0_0).toLoadRect f24 = arg24.view.read (Elt F) f24 := View.readAt_full _ _ _
    sl_exec (disch := first | sl_exact hc1 | sl_exact hc2 | sl_exact hc3)
    sl_step
    isplitl [H1]; · iapply kept; iexact H1
    isplitl [H2]; · iapply kept; iexact H2
    isplitl [H3]; · iapply kept; iexact H3
    isplitl [H4]; · iapply kept; iexact H4
    isplitl [H5]; · iapply kept; iexact H5
    isplitl [H6]; · iapply kept; iexact H6
    isplitl [H7]; · iapply kept; iexact H7
    isplitl [H8]; · iapply kept; iexact H8
    isplitl [H9]; · iapply kept; iexact H9
    isplitl [H10]; · iapply kept; iexact H10
    isplitl [H11]; · iapply kept; iexact H11
    isplitl [H12]; · iapply kept; iexact H12
    isplitl [H13]; · iapply kept; iexact H13
    isplitl [H14]; · iapply kept; iexact H14
    isplitl [H15]; · iapply loose; iexact H15
    isplitl [H16]; · iapply loose; iexact H16
    isplitl [H17]; · iapply loose; iexact H17
    isplitl [H18]; · iapply loose; iexact H18
    isplitl [H19]; · iapply loose; iexact H19
    isplitl [H20]; · iapply loose; iexact H20
    isplitl [H21]; · iapply loose; iexact H21
    isplitl [H22]; · iapply loose; iexact H22
    isplitl [H23]
    · unfold Left
      iexists _; isplitr; swap
      · unfold owns; iexists _; isplitr; swap; · iexact H23
        ipureintro; rfl
      ipureintro
      rw [View.read_writes_full]; sl_unfold_run_names; simp only [e10, e11, e12, e13, e14, e24]
    unfold Left
    iexists _; isplitr; swap
    · unfold owns; iexists _; isplitr; swap; · iexact H24
      ipureintro; rfl
    ipureintro
    refine ⟨fun h => ?_, fun h => ?_⟩
    all_goals first
      | exact absurd h hc2
      | exact absurd h hc3
      | rw [View.read_writes_full]; sl_unfold_run_names; simp only [e10, e11, e12, e13, e14, e24]

end Cert.Proof

end
-- ==== Proof.Stage2.lean ====
/-
  The body of the stage-2 kernel run over its staging buffers: it ends, leaves the buffers it only reads as they were, the
  buffer of the loads with its block's dispatch sums added to its group's row (from zero at the first point), and at the last
  point the loss buffer at the loss of the loads and of the sums of squares.
-/
module

public import proofs.«01_k».proof.Proof.Stage1
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The sums' buffer with `w` added to its row for the first group. -/
def addFst (w : FVec F S1x8x128 .f32) (Y : Vec F S2x8x128 .f32) : Vec F S2x8x128 .f32 :=
  VecWindow.put Y ![0, 0, 0] S1x8x128.size (k3_pay1 w (VecWindow.window Y ![0, 0, 0] S1x8x128.size inb_S2x8x128_S1x8x128_0_0_0))

/-- The sums' buffer with `w` added to its row for the second group. -/
def addSnd (w : FVec F S1x8x128 .f32) (Y : Vec F S2x8x128 .f32) : Vec F S2x8x128 .f32 :=
  VecWindow.put Y ![1, 0, 0] S1x8x128.size (k3_pay1 w (VecWindow.window Y ![1, 0, 0] S1x8x128.size inb_S2x8x128_S1x8x128_1_0_0))

/-- The buffer's row of the first group, stored anew over zeros. -/
theorem read_first {arg15 : Memref sig .tc .vmem S2x8x128 .f32} (f15 : arg15.view.ty.Contents (Elt F)) (u : Vec F S8x1024 .f32) :
    View.read (Elt F) arg15.view
      (arg15.view.writes (Elt F) f15
        [⟨Rect.unit (s := S2x8x128) ![0, 0, 0] ![1, 8, 128] inb_S2x8x128_S1x8x128_0_0_0,
            k3_pay17 u (arg15.view.readCov [⟨Rect.unit (s := S2x8x128) ![0, 0, 0] ![2, 8, 128] inb_S2x8x128_S2x8x128_0_0_0, k3_pay16⟩]
                (Rect.unit (s := S2x8x128) ![0, 0, 0] ![1, 8, 128] inb_S2x8x128_S1x8x128_0_0_0).toLoadRect)⟩,
          ⟨Rect.unit (s := S2x8x128) ![0, 0, 0] ![2, 8, 128] inb_S2x8x128_S2x8x128_0_0_0, k3_pay16⟩]) =
    addFst (k3_pay15 u) k3_pay16 := by
  refine (View.read_writes_cons_put _ _ _ _ _ rfl).trans ?_
  have h : ∀ f, arg15.view.read (Elt F) (arg15.view.writes (Elt F) f [⟨Rect.unit (s := S2x8x128) ![0, 0, 0] ![2, 8, 128] inb_S2x8x128_S2x8x128_0_0_0, k3_pay16⟩]) = k3_pay16 :=
    fun f => View.read_writes_full _ _ _ _ _
  rw [h]
  exact congrArg (fun r => VecWindow.put k3_pay16 ![0, 0, 0] S1x8x128.size (k3_pay1 (k3_pay15 u) r))
    ((View.readAt_unit _ _ _ rfl inb_S2x8x128_S1x8x128_0_0_0).trans (by rw [h]))

/-- The buffer's row of the first group, added to what was there. -/
theorem read_fst {arg15 : Memref sig .tc .vmem S2x8x128 .f32} (f15 : arg15.view.ty.Contents (Elt F)) (u : Vec F S8x1024 .f32) :
    View.read (Elt F) arg15.view (arg15.view.writes (Elt F) f15
          [⟨Rect.unit (s := S2x8x128) ![0, 0, 0] ![1, 8, 128] inb_S2x8x128_S1x8x128_0_0_0,
              k3_pay17 u (View.readAt (Elt F) arg15.view
                  (Rect.unit (s := S2x8x128) ![0, 0, 0] ![1, 8, 128] inb_S2x8x128_S1x8x128_0_0_0).toLoadRect f15)⟩])
      = addFst (k3_pay15 u) (arg15.view.read (Elt F) f15) :=
  (View.read_writes_cons_put _ _ _ _ _ rfl).trans rfl

/-- The buffer's row of the second group, added to what was there. -/
theorem read_snd {arg15 : Memref sig .tc .vmem S2x8x128 .f32} (f15 : arg15.view.ty.Contents (Elt F)) (w : FVec F S1x8x128 .f32) :
    View.read (Elt F) arg15.view (arg15.view.writes (Elt F) f15
          [⟨Rect.unit (s := S2x8x128) ![1, 0, 0] ![1, 8, 128] inb_S2x8x128_S1x8x128_1_0_0,
              k3_pay1 w (View.readAt (Elt F) arg15.view
                  (Rect.unit (s := S2x8x128) ![1, 0, 0] ![1, 8, 128] inb_S2x8x128_S1x8x128_1_0_0).toLoadRect f15)⟩])
      = addSnd w (arg15.view.read (Elt F) f15) :=
  (View.read_writes_cons_put _ _ _ _ _ rfl).trans rfl

/-- The whole buffer loaded back after its second row was stored anew. -/
theorem load_snd {arg15 : Memref sig .tc .vmem S2x8x128 .f32} (f15 : arg15.view.ty.Contents (Elt F)) (w : FVec F S1x8x128 .f32) :
    (View.readAt (Elt F) arg15.view (Rect.unit (s := S2x8x128) ![0, 0, 0] ![2, 8, 128] inb_S2x8x128_S2x8x128_0_0_0).toLoadRect
        (arg15.view.writes (Elt F) f15
          [⟨Rect.unit (s := S2x8x128) ![1, 0, 0] ![1, 8, 128] inb_S2x8x128_S1x8x128_1_0_0,
              k3_pay1 w (View.readAt (Elt F) arg15.view
                  (Rect.unit (s := S2x8x128) ![1, 0, 0] ![1, 8, 128] inb_S2x8x128_S1x8x128_1_0_0).toLoadRect f15)⟩]))
      = addSnd w (arg15.view.read (Elt F) f15) :=
  (View.readAt_full _ _ _).trans (read_snd _ _)

set_option maxHeartbeats 2000000 in
/-- The stage-2 body runs and leaves its inputs as they were, its block's dispatch sums added up, and at the last point the loss. -/
theorem stage2_run (d : Dev nD) (i : grid3.Coords) {arg1 : Memref sig .tc .vmem S1024x1024 .bf16} (harg1 : arg1.IsWhole) {arg2 : Memref sig .tc .vmem S2048x128 .bf16} (harg2 : arg2.IsWhole) {arg3 : Memref sig .tc .vmem S2048x128 .bf16} (harg3 : arg3.IsWhole) {arg4 : Memref sig .tc .vmem S1024x128 .bf16} (harg4 : arg4.IsWhole) {arg5 : Memref sig .tc .vmem S1024x128 .bf16} (harg5 : arg5.IsWhole) {arg6 : Memref sig .tc .vmem S8x1024 .f32} (harg6 : arg6.IsWhole) {arg7 : Memref sig .tc .vmem S128x1024 .bf16} (harg7 : arg7.IsWhole) {arg8 : Memref sig .tc .vmem S1024x128 .bf16} (harg8 : arg8.IsWhole) {arg9 : Memref sig .tc .vmem S1024x128 .bf16} (harg9 : arg9.IsWhole) {arg10 : Memref sig .tc .vmem S1x1024 .f32} (harg10 : arg10.IsWhole) {arg11 : Memref sig .tc .vmem S1x1024 .f32} (harg11 : arg11.IsWhole) {arg12 : Memref sig .tc .vmem S2x8x128 .f32} (harg12 : arg12.IsWhole) {arg13 : Memref sig .tc .vmem S1024x1024 .f32} (harg13 : arg13.IsWhole) {arg14 : Memref sig .tc .vmem S1x128 .f32} (harg14 : arg14.IsWhole) {arg15 : Memref sig .tc .vmem S2x8x128 .f32} (harg15 : arg15.IsWhole)
    (x1 : Vec F S1024x1024 .bf16) (x2 : Vec F S2048x128 .bf16) (x3 : Vec F S2048x128 .bf16) (x4 : Vec F S1024x128 .bf16) (x5 : Vec F S1024x128 .bf16) (x6 : Vec F S8x1024 .f32) (x7 : Vec F S128x1024 .bf16) (x8 : Vec F S1024x128 .bf16) (x9 : Vec F S1024x128 .bf16) (x10 : Vec F S1x1024 .f32) (x11 : Vec F S1x1024 .f32) (x12 : Vec F S2x8x128 .f32) (x13 : Vec F S1024x1024 .f32) (x14 : Vec F S1x128 .f32) (x15 : Vec F S2x8x128 .f32)
    (hc : (k3_cond1 i = 1#1 ∧ k3_cond2 i = 1#1 ∧ ¬ k3_cond3 i = 1#1 ∧ ¬ k3_cond4 i = 1#1) ∨ (¬ k3_cond1 i = 1#1 ∧ k3_cond2 i = 1#1 ∧ ¬ k3_cond3 i = 1#1 ∧ ¬ k3_cond4 i = 1#1)
      ∨ (¬ k3_cond1 i = 1#1 ∧ ¬ k3_cond2 i = 1#1 ∧ k3_cond3 i = 1#1 ∧ ¬ k3_cond4 i = 1#1) ∨ (¬ k3_cond1 i = 1#1 ∧ ¬ k3_cond2 i = 1#1 ∧ k3_cond3 i = 1#1 ∧ k3_cond4 i = 1#1)) :
    iprop(owns d.tc arg1 fullShare x1 ∗ owns d.tc arg2 fullShare x2 ∗ owns d.tc arg3 fullShare x3 ∗ owns d.tc arg4 fullShare x4 ∗ owns d.tc arg5 fullShare x5 ∗ owns d.tc arg6 fullShare x6 ∗ owns d.tc arg7 fullShare x7 ∗ owns d.tc arg8 fullShare x8 ∗ owns d.tc arg9 fullShare x9 ∗ owns d.tc arg10 fullShare x10 ∗ owns d.tc arg11 fullShare x11 ∗ owns d.tc arg12 fullShare x12 ∗ owns d.tc arg13 fullShare x13 ∗ owns d.tc arg14 fullShare x14 ∗ owns d.tc arg15 fullShare x15)
      ⊢ wp frame (wpE (defs₀ (F := F)) 𝒱₀ d.tc none) Set.univ (cc3__stage2_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) fun _ =>
        iprop(Left d arg1 (· = x1) ∗ Left d arg2 (· = x2) ∗ Left d arg3 (· = x3) ∗ Left d arg4 (· = x4) ∗ Left d arg5 (· = x5) ∗ Left d arg6 (· = x6) ∗ Left d arg7 (· = x7) ∗ Left d arg8 (· = x8) ∗ Left d arg9 (· = x9) ∗ Left d arg10 (· = x10) ∗ Left d arg11 (· = x11) ∗ Left d arg12 (· = x12) ∗ Left d arg13 (fun _ => True) ∗ Left d arg14 (fun X => k3_cond4 i = 1#1 → X = k3_pay2 (addSnd (k3_pay15 x6) x15) x12) ∗ Left d arg15 (fun X =>
          (k3_cond1 i = 1#1 → X = addFst (k3_pay15 x6) k3_pay16) ∧ (k3_cond2 i = 1#1 ∧ ¬ k3_cond1 i = 1#1 → X = addFst (k3_pay15 x6) x15)
            ∧ (k3_cond3 i = 1#1 → X = addSnd (k3_pay15 x6) x15))) := by
  rw [cc3__stage2_kernel_eq_skeleton]; unfold cc3__stage2_kernel_skel
  rw [k3_part1_eq_skeleton, k3_part2_eq_skeleton, k3_part3_eq_skeleton, k3_part4_eq_skeleton]
  rcases hc with ⟨hc1, hc2, hc3, hc4⟩ | ⟨hc1, hc2, hc3, hc4⟩ | ⟨hc1, hc2, hc3, hc4⟩ | ⟨hc1, hc2, hc3, hc4⟩
  all_goals
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩⟩
    subst hf1 hf2 hf3 hf4 hf5 hf6 hf7 hf8 hf9 hf10 hf11 hf12 hf13 hf14 hf15
    have e6 : arg6.view.readAt (Elt F) (Rect.unit ![0, 0] ![8, 1024] inb_S8x1024_S8x1024_0_0).toLoadRect f6 = arg6.view.read (Elt F) f6 := View.readAt_full _ _ _
    have e12 : arg12.view.readAt (Elt F) (Rect.unit ![0, 0, 0] ![2, 8, 128] inb_S2x8x128_S2x8x128_0_0_0).toLoadRect f12 = arg12.view.read (Elt F) f12 := View.readAt_full _ _ _
    sl_exec (disch := first | sl_exact hc1 | sl_exact hc2 | sl_exact hc3 | sl_exact hc4)
    sl_step
    isplitl [H1]; · iapply kept; iexact H1
    isplitl [H2]; · iapply kept; iexact H2
    isplitl [H3]; · iapply kept; iexact H3
    isplitl [H4]; · iapply kept; iexact H4
    isplitl [H5]; · iapply kept; iexact H5
    isplitl [H6]; · iapply kept; iexact H6
    isplitl [H7]; · iapply kept; iexact H7
    isplitl [H8]; · iapply kept; iexact H8
    isplitl [H9]; · iapply kept; iexact H9
    isplitl [H10]; · iapply kept; iexact H10
    isplitl [H11]; · iapply kept; iexact H11
    isplitl [H12]; · iapply kept; iexact H12
    isplitl [H13]; · iapply loose; iexact H13
    isplitl [H14]
    · unfold Left
      iexists _; isplitr; swap
      · unfold owns; iexists _; isplitr; swap; · iexact H14
        ipureintro; rfl
      ipureintro
      intro h
      first
        | exact absurd h hc4
        | (rw [View.read_writes_full]; sl_unfold_run_names; simp only [e6, e12]; exact congrArg (fun r => k3_pay2 r _) (load_snd _ _))
    unfold Left
    iexists _; isplitr; swap
    · unfold owns; iexists _; isplitr; swap; · iexact H15
      ipureintro; rfl
    ipureintro
    refine ⟨fun h => ?_, fun h => ?_, fun h => ?_⟩
    · first
        | exact absurd h hc1
        | (sl_unfold_run_names; simp only [e6, e12]; exact read_first _ _)
    · first
        | exact absurd h.1 hc2
        | exact absurd hc1 h.2
        | (sl_unfold_run_names; simp only [e6, e12]; exact read_fst _ _)
    · first
        | exact absurd h hc3
        | (sl_unfold_run_names; simp only [e6, e12]; exact read_snd _ _)

end Cert.Proof

end
-- ==== Proof.Bodies.lean ====
/-
  What each TensorCore region's body does at each grid point, as relations: the inputs' staging buffers kept as found, the
  routing weights and the sums of squares left by the preparation, the dispatch sums and the loss left by the second stage.
-/
module

public import proofs.«01_k».proof.Proof.Prep
public import proofs.«01_k».proof.Proof.Stage2

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- A buffer left at contents `R` holds of, under a weaker relation. -/
theorem left_mono {d : Dev nD} {s : Shape} {e : EltTy} {arg : Memref sig .tc .vmem s e} {R R' : (s.Idx → Elt F e) → Prop}
    (h : ∀ X, R X → R' X) : (Left d arg R : sProp 𝕄) ⊢ iprop(∃ X, ⌜R' X⌝ ∗ owns d.tc arg fullShare X) := by
  unfold Left
  iintro ⟨%X, %hX, H⟩
  iexists X
  isplitr
  · ipureintro; exact h X hX
  iexact H

/-- A body's triple framed by what the region keeps of its own. -/
theorem framed {d : Dev nD} {W : sWPT 𝕄 PUnit} [W.Frameable] {A B P : sProp 𝕄} {Q : PUnit → sProp 𝕄} (h : P ⊢ W Q) :
    iprop(A ∗ B ∗ P) ⊢ W fun a => iprop(A ∗ B ∗ Q a) := by
  refine sep_assoc'.trans ((sep_mono .rfl h).trans (W.frame_l.trans (W.mono fun a => ?_)))
  exact sep_assoc

section Points

variable [∀ e, Nonempty (Elt F e)]

/-! ## The preparation -/

/-- The router's weights, as the preparation's body is handed them. -/
noncomputable def rtr (W : Valuation τ sig (Elt F)) (t : Fin cfg0.N) : Vec F S8x1024 .f32 :=
  (win0_10.blk t).view.read (Elt F) (W (Proc.devRef .tc (Pipeline.arrRef cfg0.spec 10)))
/-- The block of tokens. -/
noncomputable def tok (W : Valuation τ sig (Elt F)) (t : Fin cfg0.N) : Vec F S1024x1024 .f32 :=
  (win0_9.blk t).view.read (Elt F) (W (Proc.devRef .tc (Pipeline.arrRef cfg0.spec 9)))
/-- The normalization's gain. -/
noncomputable def gain (W : Valuation τ sig (Elt F)) (t : Fin cfg0.N) : Vec F S8x1 .f32 :=
  (win0_11.blk t).view.read (Elt F) (W (Proc.devRef .tc (Pipeline.arrRef cfg0.spec 11)))
/-- The normalization's bias. -/
noncomputable def bias (W : Valuation τ sig (Elt F)) (t : Fin cfg0.N) : Vec F S8x1 .f32 :=
  (win0_12.blk t).view.read (Elt F) (W (Proc.devRef .tc (Pipeline.arrRef cfg0.spec 12)))
/-- The temperature. -/
noncomputable def temp (W : Valuation τ sig (Elt F)) (t : Fin cfg0.N) : Vec F S1x1 .f32 :=
  (win0_13.blk t).view.read (Elt F) (W (Proc.devRef .tc (Pipeline.arrRef cfg0.spec 13)))

/-- The routing weights of a block of tokens. -/
noncomputable def weights (W : Valuation τ sig (Elt F)) (t : Fin cfg0.N) : Vec F S8x1024 .f32 :=
  k0_pay19 (k0_pay18 (rtr W t) (tok W t) (gain W t) (bias W t) (temp W t))
/-- The sum of squares of a block's normalized logits, in its lane. -/
noncomputable def squares (W : Valuation τ sig (Elt F)) (t : Fin cfg0.N) : Vec F S1x8x128 .f32 :=
  k0_pay20 (k0_pay17 (rtr W t) (tok W t) (gain W t) (bias W t))

/-- What the preparation leaves in each window's buffer. -/
noncomputable def prepAft (W : Valuation τ sig (Elt F)) : (w : Fin cfg0.W) → Fin cfg0.N →
    (Y X : (cfg0.win w).block.Idx → Elt F (cfg0.win w).elt) → Prop
  | ⟨22, _⟩, t, _, X => X = weights W t
  | ⟨23, _⟩, t, _, X => (t = t0_0 → X = squares W t0_0) ∧ (t = t0_1 → X = k0_pay1 (squares W t0_1) (squares W t0_0))
      ∧ (t = t0_2 → X = squares W t0_2) ∧ (t = t0_3 → X = k0_pay1 (squares W t0_3) (squares W t0_2))
  | w, _, Y, X => (cfg0.spec w).isOut = false → X = Y

/-! ## The second stage -/

/-- The dispatch weights of a block of tokens. -/
noncomputable def dispOf (W : Valuation τ sig (Elt F)) (t : Fin cfg3.N) : Vec F S8x1024 .f32 :=
  (win3_5.blk t).view.read (Elt F) (W (Proc.devRef .tc (Pipeline.arrRef cfg3.spec 5)))
/-- The sums of squares of the two groups. -/
noncomputable def zsum (W : Valuation τ sig (Elt F)) (t : Fin cfg3.N) : Vec F S2x8x128 .f32 :=
  (win3_11.blk t).view.read (Elt F) (W (Proc.devRef .tc (Pipeline.arrRef cfg3.spec 11)))

/-- The dispatch sums after the first point. -/
noncomputable def sums0 (W : Valuation τ sig (Elt F)) : Vec F S2x8x128 .f32 := addFst (k3_pay15 (dispOf W t3_0)) k3_pay16
/-- The dispatch sums after the second point. -/
noncomputable def sums1 (W : Valuation τ sig (Elt F)) : Vec F S2x8x128 .f32 := addFst (k3_pay15 (dispOf W t3_1)) (sums0 W)
/-- The dispatch sums after the third point. -/
noncomputable def sums2 (W : Valuation τ sig (Elt F)) : Vec F S2x8x128 .f32 := addSnd (k3_pay15 (dispOf W t3_2)) (sums1 W)
/-- The dispatch sums after the last point. -/
noncomputable def sums3 (W : Valuation τ sig (Elt F)) : Vec F S2x8x128 .f32 := addSnd (k3_pay15 (dispOf W t3_3)) (sums2 W)

/-- The loss, in every lane. -/
noncomputable def lossRow (W : Valuation τ sig (Elt F)) : Vec F S1x128 .f32 := k3_pay2 (sums3 W) (zsum W t3_3)

/-- What the second stage leaves in each window's buffer. -/
noncomputable def stage2Aft (W : Valuation τ sig (Elt F)) : (w : Fin cfg3.W) → Fin cfg3.N →
    (Y X : (cfg3.win w).block.Idx → Elt F (cfg3.win w).elt) → Prop
  | ⟨13, _⟩, t, _, X => t = t3_3 → X = lossRow W
  | ⟨14, _⟩, t, _, X => (t = t3_0 → X = sums0 W) ∧ (t = t3_1 → X = sums1 W) ∧ (t = t3_2 → X = sums2 W) ∧ (t = t3_3 → X = sums3 W)
  | w, _, Y, X => (cfg3.spec w).isOut = false → X = Y

/-- What each region's body leaves. -/
noncomputable def aft (W : Valuation τ sig (Elt F)) : Aft (F := F)
  | 0 => prepAft W
  | 1 => fun w _ Y X => (cfg2.spec w).isOut = false → X = Y
  | 2 => stage2Aft W

variable (O : CellTallies nD τ sig (HIx 1)) (b : ℕ) (d : Dev nD) (W : Valuation τ sig (Elt F))

/-! ## The body obligations -/

theorem conds0 (t : Fin cfg0.N) : (t = t0_0 ∧ k0_cond1 (grid0.coords t) = 1#1 ∧ k0_cond2 (grid0.coords t) = 1#1 ∧ ¬ k0_cond3 (grid0.coords t) = 1#1)
    ∨ (t = t0_1 ∧ ¬ k0_cond1 (grid0.coords t) = 1#1 ∧ ¬ k0_cond2 (grid0.coords t) = 1#1 ∧ k0_cond3 (grid0.coords t) = 1#1)
    ∨ (t = t0_2 ∧ ¬ k0_cond1 (grid0.coords t) = 1#1 ∧ k0_cond2 (grid0.coords t) = 1#1 ∧ ¬ k0_cond3 (grid0.coords t) = 1#1)
    ∨ (t = t0_3 ∧ ¬ k0_cond1 (grid0.coords t) = 1#1 ∧ ¬ k0_cond2 (grid0.coords t) = 1#1 ∧ k0_cond3 (grid0.coords t) = 1#1) := by
  rcases fin_N0 t with h | h | h | h <;> subst h
  · exact .inl ⟨rfl, by decide, by decide, by decide⟩
  · exact .inr (.inl ⟨rfl, by decide, by decide, by decide⟩)
  · exact .inr (.inr (.inl ⟨rfl, by decide, by decide, by decide⟩))
  · exact .inr (.inr (.inr ⟨rfl, by decide, by decide, by decide⟩))

theorem conds3 (t : Fin cfg3.N) : (t = t3_0 ∧ k3_cond1 (grid3.coords t) = 1#1 ∧ k3_cond2 (grid3.coords t) = 1#1 ∧ ¬ k3_cond3 (grid3.coords t) = 1#1 ∧ ¬ k3_cond4 (grid3.coords t) = 1#1)
    ∨ (t = t3_1 ∧ ¬ k3_cond1 (grid3.coords t) = 1#1 ∧ k3_cond2 (grid3.coords t) = 1#1 ∧ ¬ k3_cond3 (grid3.coords t) = 1#1 ∧ ¬ k3_cond4 (grid3.coords t) = 1#1)
    ∨ (t = t3_2 ∧ ¬ k3_cond1 (grid3.coords t) = 1#1 ∧ ¬ k3_cond2 (grid3.coords t) = 1#1 ∧ k3_cond3 (grid3.coords t) = 1#1 ∧ ¬ k3_cond4 (grid3.coords t) = 1#1)
    ∨ (t = t3_3 ∧ ¬ k3_cond1 (grid3.coords t) = 1#1 ∧ ¬ k3_cond2 (grid3.coords t) = 1#1 ∧ k3_cond3 (grid3.coords t) = 1#1 ∧ k3_cond4 (grid3.coords t) = 1#1) := by
  rcases fin_N3 t with h | h | h | h <;> subst h
  · exact .inl ⟨rfl, by decide, by decide, by decide, by decide⟩
  · exact .inr (.inl ⟨rfl, by decide, by decide, by decide, by decide⟩)
  · exact .inr (.inr (.inl ⟨rfl, by decide, by decide, by decide, by decide⟩))
  · exact .inr (.inr (.inr ⟨rfl, by decide, by decide, by decide, by decide⟩))

/-- An input's buffer holds what a fetch puts there. -/
theorem found (p : Fin 3) (w : Fin (cfgs p).W) (hw : ((cfgs p).win w).isOut = false)
    (hclip : ∀ t t' : Fin (cfgs p).N, ((cfgs p).win w).index t = ((cfgs p).win w).index t' →
      ((cfgs p).win w).clip ((cfgs p).grid.coords t) = ((cfgs p).win w).clip ((cfgs p).grid.coords t'))
    (hkeep : ∀ t Y X, aft W p w t Y X → X = Y) (t : Fin (cfgs p).N) (Y) (hY : (rdat (aft W) W O b p d).Finds w t Y) :
    ∃ e, Y = (rdat (aft W) W O b p d).fetched w t e :=
  Pipeline.RDat.finds_in_eq_fetched _ w hw hclip hkeep t Y hY

theorem rest_const (a : Aft (F := F)) (p : Fin 3) (t t' : Fin ((cfgs p).N + 1)) : (rdat a W O b p d).Φ t = (rdat a W O b p d).Φ t' := rfl
theorem owes_const (a : Aft (F := F)) (p : Fin 3) (t t' : Fin ((cfgs p).N + 1)) :
    (rdat a W O b p d).owesAt none t = (rdat a W O b p d).owesAt none t' := rfl

theorem owned0 (t : Fin cfg0.N) : defs₀ (F := F) .tc cfg0.body (cfg0.bodyArgs t (cfg0.slots t)) = bodyAt0 t := rfl
theorem owned2 (t : Fin cfg2.N) : defs₀ (F := F) .tc cfg2.body (cfg2.bodyArgs t (cfg2.slots t)) = bodyAt2 t := rfl
theorem owned3 (t : Fin cfg3.N) : defs₀ (F := F) .tc cfg3.body (cfg3.bodyArgs t (cfg3.slots t)) = bodyAt3 t := rfl

set_option maxHeartbeats 1000000 in
theorem body1 : (rdat (aft W) W O b 1 d).BodyObligation defs₀ 𝒱₀ none Set.univ := by
  intro t Y hY
  change iprop(_ ∗ _ ∗ bigSep Finset.univ fun w : Fin 17 => owns d.tc ((cfg2.win w).stage (cfg2.slots t w)) fullShare (Y w))
    ⊢ wp frame (wpE defs₀ 𝒱₀ d.tc none) Set.univ (defs₀ .tc cfg2.body (cfg2.bodyArgs t (cfg2.slots t))) fun _ =>
      iprop(_ ∗ _ ∗ bigSep Finset.univ fun w : Fin 17 => iprop(∃ X, ⌜(rdat (aft W) W O b 1 d).after w t (Y w) X⌝ ∗ owns d.tc ((cfg2.win w).stage (cfg2.slots t w)) fullShare X))
  rw [bigSep_W2, bigSep_W2, owned2]
  refine triple_restated (framed (d := d) (stage1_run d (grid2.coords t) (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (hstage2_4 ((cfg2.slots t 4).cast nbuf2_4)) (hstage2_5 ((cfg2.slots t 5).cast nbuf2_5)) (hstage2_6 ((cfg2.slots t 6).cast nbuf2_6)) (hstage2_7 ((cfg2.slots t 7).cast nbuf2_7)) (hstage2_8 ((cfg2.slots t 8).cast nbuf2_8)) (hstage2_9 ((cfg2.slots t 9).cast nbuf2_9)) (hstage2_10 ((cfg2.slots t 10).cast nbuf2_10)) (hstage2_11 ((cfg2.slots t 11).cast nbuf2_11)) (hstage2_12 ((cfg2.slots t 12).cast nbuf2_12)) (hstage2_13 ((cfg2.slots t 13).cast nbuf2_13)) (hstage2_14 ((cfg2.slots t 14).cast nbuf2_14)) (hstage2_15 ((cfg2.slots t 15).cast nbuf2_15)) (hstage2_16 ((cfg2.slots t 16).cast nbuf2_16)) (Y 0) (Y 1) (Y 2) (Y 3) (Y 4) (Y 5) (Y 6) (Y 7) (Y 8) (Y 9) (Y 10) (Y 11) (Y 12) (Y 13) (Y 14) (Y 15) (Y 16))) rfl .rfl fun _ => ?_
  rw [rest_const O b d W _ 1 t.succ t.castSucc, owes_const O b d W _ 1 t.succ t.castSucc]
  exact sep_mono_r (sep_mono_r (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ _ h => nomatch h) (Idealize.SL.BI.sep_mono (left_mono fun _ _ h => nomatch h) (Idealize.SL.BI.sep_mono (left_mono fun _ _ h => nomatch h) (left_mono fun _ _ h => nomatch h))))))))))))))))))

set_option maxHeartbeats 1000000 in
theorem body0 : (rdat (aft W) W O b 0 d).BodyObligation defs₀ 𝒱₀ none Set.univ := by
  intro t Y hY
  have e9 : Y 9 = tok W t := by
    obtain ⟨e, he⟩ := found O b d W 0 9 rfl (fun _ _ _ => rfl) (fun _ _ _ h => h rfl) t _ (hY 9)
    exact he.trans rfl
  have e10 : Y 10 = rtr W t := by
    obtain ⟨e, he⟩ := found O b d W 0 10 rfl (fun _ _ _ => rfl) (fun _ _ _ h => h rfl) t _ (hY 10)
    exact he.trans rfl
  have e11 : Y 11 = gain W t := by
    obtain ⟨e, he⟩ := found O b d W 0 11 rfl (fun _ _ _ => rfl) (fun _ _ _ h => h rfl) t _ (hY 11)
    exact he.trans rfl
  have e12 : Y 12 = bias W t := by
    obtain ⟨e, he⟩ := found O b d W 0 12 rfl (fun _ _ _ => rfl) (fun _ _ _ h => h rfl) t _ (hY 12)
    exact he.trans rfl
  have e13 : Y 13 = temp W t := by
    obtain ⟨e, he⟩ := found O b d W 0 13 rfl (fun _ _ _ => rfl) (fun _ _ _ h => h rfl) t _ (hY 13)
    exact he.trans rfl
  have e23 : (t = t0_1 → Y 23 = squares W t0_0) ∧ (t = t0_3 → Y 23 = squares W t0_2) := by
    refine ⟨fun h => ?_, fun h => ?_⟩ <;> subst h
    · rcases ((rdat (aft W) W O b 0 d).finds_of_pos (w := (23 : Fin 24)) (t := t0_1) (by decide) (by decide) _).mp (hY 23) with h | ⟨Z, -, h⟩
      · exact absurd h (by decide)
      · exact h.1 rfl
    · rcases ((rdat (aft W) W O b 0 d).finds_of_pos (w := (23 : Fin 24)) (t := t0_3) (by decide) (by decide) _).mp (hY 23) with h | ⟨Z, -, h⟩
      · exact absurd h (by decide)
      · exact h.2.2.1 rfl
  have hc := conds0 t
  have h22 : ∀ X, X = k0_pay19 (k0_pay18 (Y 10) (Y 9) (Y 11) (Y 12) (Y 13)) → (rdat (aft W) W O b 0 d).after 22 t (Y 22) X := by
    intro X h
    rw [e9, e10, e11, e12, e13] at h
    exact h
  have h23 : ∀ X, ((k0_cond2 (grid0.coords t) = 1#1 → X = (k0_pay20 (k0_pay17 (Y 10) (Y 9) (Y 11) (Y 12))))
      ∧ (k0_cond3 (grid0.coords t) = 1#1 → X = k0_pay1 (k0_pay20 (k0_pay17 (Y 10) (Y 9) (Y 11) (Y 12))) (Y 23)))
      → (rdat (aft W) W O b 0 d).after 23 t (Y 23) X := by
    intro X h
    rw [e9, e10, e11, e12] at h
    rcases hc with ⟨ht, -, h2, -⟩ | ⟨ht, -, -, h3⟩ | ⟨ht, -, h2, -⟩ | ⟨ht, -, -, h3⟩
    · have hX := h.1 h2
      subst ht
      exact ⟨fun _ => hX, fun h => absurd h (by decide), fun h => absurd h (by decide), fun h => absurd h (by decide)⟩
    · have hX := h.2 h3
      rw [e23.1 ht] at hX
      subst ht
      exact ⟨fun h => absurd h (by decide), fun _ => hX, fun h => absurd h (by decide), fun h => absurd h (by decide)⟩
    · have hX := h.1 h2
      subst ht
      exact ⟨fun h => absurd h (by decide), fun h => absurd h (by decide), fun _ => hX, fun h => absurd h (by decide)⟩
    · have hX := h.2 h3
      rw [e23.2 ht] at hX
      subst ht
      exact ⟨fun h => absurd h (by decide), fun h => absurd h (by decide), fun h => absurd h (by decide), fun _ => hX⟩
  have hc' : (k0_cond1 (grid0.coords t) = 1#1 ∧ k0_cond2 (grid0.coords t) = 1#1 ∧ ¬ k0_cond3 (grid0.coords t) = 1#1)
      ∨ (¬ k0_cond1 (grid0.coords t) = 1#1 ∧ k0_cond2 (grid0.coords t) = 1#1 ∧ ¬ k0_cond3 (grid0.coords t) = 1#1)
      ∨ (¬ k0_cond1 (grid0.coords t) = 1#1 ∧ ¬ k0_cond2 (grid0.coords t) = 1#1 ∧ k0_cond3 (grid0.coords t) = 1#1) := by
    rcases hc with ⟨-, h⟩ | ⟨-, h⟩ | ⟨-, h⟩ | ⟨-, h⟩
    exacts [.inl h, .inr (.inr h), .inr (.inl h), .inr (.inr h)]
  clear hc e23
  change iprop(_ ∗ _ ∗ bigSep Finset.univ fun w : Fin 24 => owns d.tc ((cfg0.win w).stage (cfg0.slots t w)) fullShare (Y w))
    ⊢ wp frame (wpE defs₀ 𝒱₀ d.tc none) Set.univ (defs₀ .tc cfg0.body (cfg0.bodyArgs t (cfg0.slots t))) fun _ =>
      iprop(_ ∗ _ ∗ bigSep Finset.univ fun w : Fin 24 => iprop(∃ X, ⌜(rdat (aft W) W O b 0 d).after w t (Y w) X⌝ ∗ owns d.tc ((cfg0.win w).stage (cfg0.slots t w)) fullShare X))
  rw [bigSep_W0, bigSep_W0, owned0]
  refine triple_restated (framed (d := d) (prep_run d (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10)) (hstage0_11 ((cfg0.slots t 11).cast nbuf0_11)) (hstage0_12 ((cfg0.slots t 12).cast nbuf0_12)) (hstage0_13 ((cfg0.slots t 13).cast nbuf0_13)) (hstage0_14 ((cfg0.slots t 14).cast nbuf0_14)) (hstage0_15 ((cfg0.slots t 15).cast nbuf0_15)) (hstage0_16 ((cfg0.slots t 16).cast nbuf0_16)) (hstage0_17 ((cfg0.slots t 17).cast nbuf0_17)) (hstage0_18 ((cfg0.slots t 18).cast nbuf0_18)) (hstage0_19 ((cfg0.slots t 19).cast nbuf0_19)) (hstage0_20 ((cfg0.slots t 20).cast nbuf0_20)) (hstage0_21 ((cfg0.slots t 21).cast nbuf0_21)) (hstage0_22 ((cfg0.slots t 22).cast nbuf0_22)) (hstage0_23 ((cfg0.slots t 23).cast nbuf0_23)) (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) hc')) rfl .rfl fun _ => ?_
  rw [rest_const O b d W _ 0 t.succ t.castSucc, owes_const O b d W _ 0 t.succ t.castSucc]
  exact sep_mono_r (sep_mono_r (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono fun _ _ h => nomatch h) (Idealize.SL.BI.sep_mono (left_mono h22) (left_mono h23)))))))))))))))))))))))))

set_option maxHeartbeats 1000000 in
theorem body2 : (rdat (aft W) W O b 2 d).BodyObligation defs₀ 𝒱₀ none Set.univ := by
  intro t Y hY
  have e5 : Y 5 = dispOf W t := by
    obtain ⟨e, he⟩ := found O b d W 2 5 rfl (fun _ _ _ => rfl) (fun _ _ _ h => h rfl) t _ (hY 5)
    exact he.trans rfl
  have e11 : Y 11 = zsum W t := by
    obtain ⟨e, he⟩ := found O b d W 2 11 rfl (fun _ _ _ => rfl) (fun _ _ _ h => h rfl) t _ (hY 11)
    exact he.trans rfl
  have e14 : (t = t3_1 → Y 14 = sums0 W) ∧ (t = t3_2 → Y 14 = sums1 W) ∧ (t = t3_3 → Y 14 = sums2 W) := by
    refine ⟨fun h => ?_, fun h => ?_, fun h => ?_⟩ <;> subst h
    · rcases ((rdat (aft W) W O b 2 d).finds_of_pos (w := (14 : Fin 15)) (t := t3_1) (by decide) (by decide) _).mp (hY 14) with h | ⟨Z, -, h⟩
      · exact absurd h (by decide)
      · exact h.1 rfl
    · rcases ((rdat (aft W) W O b 2 d).finds_of_pos (w := (14 : Fin 15)) (t := t3_2) (by decide) (by decide) _).mp (hY 14) with h | ⟨Z, -, h⟩
      · exact absurd h (by decide)
      · exact h.2.1 rfl
    · rcases ((rdat (aft W) W O b 2 d).finds_of_pos (w := (14 : Fin 15)) (t := t3_3) (by decide) (by decide) _).mp (hY 14) with h | ⟨Z, -, h⟩
      · exact absurd h (by decide)
      · exact h.2.2.1 rfl
  have hc := conds3 t
  have h13 : ∀ X, (k3_cond4 (grid3.coords t) = 1#1 → X = k3_pay2 (addSnd (k3_pay15 (Y 5)) (Y 14)) (Y 11)) → (rdat (aft W) W O b 2 d).after 13 t (Y 13) X := by
    intro X h ht
    rw [e5, e11, e14.2.2 ht] at h
    rcases hc with ⟨ht', -⟩ | ⟨ht', -⟩ | ⟨ht', -⟩ | ⟨-, -, -, -, h4⟩
    · rw [ht] at ht'; exact absurd ht' (by decide)
    · rw [ht] at ht'; exact absurd ht' (by decide)
    · rw [ht] at ht'; exact absurd ht' (by decide)
    · have := h h4
      rw [ht] at this
      exact this
  have h14 : ∀ X, ((k3_cond1 (grid3.coords t) = 1#1 → X = addFst (k3_pay15 (Y 5)) k3_pay16)
      ∧ (k3_cond2 (grid3.coords t) = 1#1 ∧ ¬ k3_cond1 (grid3.coords t) = 1#1 → X = addFst (k3_pay15 (Y 5)) (Y 14))
      ∧ (k3_cond3 (grid3.coords t) = 1#1 → X = addSnd (k3_pay15 (Y 5)) (Y 14))) → (rdat (aft W) W O b 2 d).after 14 t (Y 14) X := by
    intro X h
    rw [e5] at h
    rcases hc with ⟨ht, h1, -⟩ | ⟨ht, h1, h2, -⟩ | ⟨ht, -, -, h3, -⟩ | ⟨ht, -, -, h3, -⟩
    · have hX := h.1 h1
      subst ht
      exact ⟨fun _ => hX, fun h => absurd h (by decide), fun h => absurd h (by decide), fun h => absurd h (by decide)⟩
    · have hX := h.2.1 ⟨h2, h1⟩
      rw [e14.1 ht] at hX
      subst ht
      exact ⟨fun h => absurd h (by decide), fun _ => hX, fun h => absurd h (by decide), fun h => absurd h (by decide)⟩
    · have hX := h.2.2 h3
      rw [e14.2.1 ht] at hX
      subst ht
      exact ⟨fun h => absurd h (by decide), fun h => absurd h (by decide), fun _ => hX, fun h => absurd h (by decide)⟩
    · have hX := h.2.2 h3
      rw [e14.2.2 ht] at hX
      subst ht
      exact ⟨fun h => absurd h (by decide), fun h => absurd h (by decide), fun h => absurd h (by decide), fun _ => hX⟩
  have hc' : (k3_cond1 (grid3.coords t) = 1#1 ∧ k3_cond2 (grid3.coords t) = 1#1 ∧ ¬ k3_cond3 (grid3.coords t) = 1#1 ∧ ¬ k3_cond4 (grid3.coords t) = 1#1)
      ∨ (¬ k3_cond1 (grid3.coords t) = 1#1 ∧ k3_cond2 (grid3.coords t) = 1#1 ∧ ¬ k3_cond3 (grid3.coords t) = 1#1 ∧ ¬ k3_cond4 (grid3.coords t) = 1#1)
      ∨ (¬ k3_cond1 (grid3.coords t) = 1#1 ∧ ¬ k3_cond2 (grid3.coords t) = 1#1 ∧ k3_cond3 (grid3.coords t) = 1#1 ∧ ¬ k3_cond4 (grid3.coords t) = 1#1)
      ∨ (¬ k3_cond1 (grid3.coords t) = 1#1 ∧ ¬ k3_cond2 (grid3.coords t) = 1#1 ∧ k3_cond3 (grid3.coords t) = 1#1 ∧ k3_cond4 (grid3.coords t) = 1#1) := by
    rcases hc with ⟨-, h⟩ | ⟨-, h⟩ | ⟨-, h⟩ | ⟨-, h⟩
    exacts [.inl h, .inr (.inl h), .inr (.inr (.inl h)), .inr (.inr (.inr h))]
  clear hc e14
  change iprop(_ ∗ _ ∗ bigSep Finset.univ fun w : Fin 15 => owns d.tc ((cfg3.win w).stage (cfg3.slots t w)) fullShare (Y w))
    ⊢ wp frame (wpE defs₀ 𝒱₀ d.tc none) Set.univ (defs₀ .tc cfg3.body (cfg3.bodyArgs t (cfg3.slots t))) fun _ =>
      iprop(_ ∗ _ ∗ bigSep Finset.univ fun w : Fin 15 => iprop(∃ X, ⌜(rdat (aft W) W O b 2 d).after w t (Y w) X⌝ ∗ owns d.tc ((cfg3.win w).stage (cfg3.slots t w)) fullShare X))
  rw [bigSep_W3, bigSep_W3, owned3]
  refine triple_restated (framed (d := d) (stage2_run d (grid3.coords t) (hstage3_0 ((cfg3.slots t 0).cast nbuf3_0)) (hstage3_1 ((cfg3.slots t 1).cast nbuf3_1)) (hstage3_2 ((cfg3.slots t 2).cast nbuf3_2)) (hstage3_3 ((cfg3.slots t 3).cast nbuf3_3)) (hstage3_4 ((cfg3.slots t 4).cast nbuf3_4)) (hstage3_5 ((cfg3.slots t 5).cast nbuf3_5)) (hstage3_6 ((cfg3.slots t 6).cast nbuf3_6)) (hstage3_7 ((cfg3.slots t 7).cast nbuf3_7)) (hstage3_8 ((cfg3.slots t 8).cast nbuf3_8)) (hstage3_9 ((cfg3.slots t 9).cast nbuf3_9)) (hstage3_10 ((cfg3.slots t 10).cast nbuf3_10)) (hstage3_11 ((cfg3.slots t 11).cast nbuf3_11)) (hstage3_12 ((cfg3.slots t 12).cast nbuf3_12)) (hstage3_13 ((cfg3.slots t 13).cast nbuf3_13)) (hstage3_14 ((cfg3.slots t 14).cast nbuf3_14)) (Y 0) (Y 1) (Y 2) (Y 3) (Y 4) (Y 5) (Y 6) (Y 7) (Y 8) (Y 9) (Y 10) (Y 11) (Y 12) (Y 13) (Y 14) hc')) rfl .rfl fun _ => ?_
  rw [rest_const O b d W _ 2 t.succ t.castSucc, owes_const O b d W _ 2 t.succ t.castSucc]
  exact sep_mono_r (sep_mono_r (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ h _ => h) (Idealize.SL.BI.sep_mono (left_mono fun _ _ h => nomatch h) (Idealize.SL.BI.sep_mono (left_mono h13) (left_mono h14))))))))))))))))

end Points

end Cert.Proof

end
-- ==== Proof.Arrays.lean ====
/-
  What the regions leave in the arrays that the loss depends on: the routing weights and the sums of squares after the
  preparation, the loss's row after the second stage.
-/
module

public import proofs.«01_k».proof.Proof.Bodies
public import Idealize.ShloMosaic.Lib.Pipeline.ArrRel
public import Idealize.ShloMosaic.Lib.Pipeline.ValueKit.Point
public import Idealize.ShloMosaic.Lib.Pipeline.Value

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA
open Idealize.ShloMosaic.Rounds

variable {F : FTy → Type} [FloatOps F] [∀ e, Nonempty (Elt F e)]
variable (O : CellTallies nD τ sig (HIx 1)) (b : ℕ) (d : Dev nD) (W W' : Valuation τ sig (Elt F))

/-- A block written back, where no two write-backs meet: something the body may have left at its point. -/
theorem block_left (p : Fin 3) (w : Fin (cfgs p).W)
    (hdisj : ∀ t t' : Fin (cfgs p).N, ((cfgs p).win w).flush t = true → ((cfgs p).win w).flush t' = true → t ≠ t' →
      Disjoint (((cfgs p).win w).blk t).view.set (((cfgs p).win w).blk t').view.set)
    {G : Buf (Elt F) (((cfgs p).win w).arr.view.loc (d.tc : Thread nD τ))} (hG : (rdat (aft W) W O b p d).ArrAt w (cfgs p).N G)
    (t : Fin (cfgs p).N) (hf : ((cfgs p).win w).flush t = true) :
    ∃ X, (rdat (aft W) W O b p d).Leaves w t X
      ∧ (((cfgs p).win w).blk t).view.read (Elt F) G = ((cfgs p).win w).cut ((cfgs p).grid.coords t) X := by
  obtain ⟨X, hX, hA⟩ := hG.exists_exact
  refine ⟨X t, hX t t.isLt hf, ?_⟩
  rw [hA (Function.update (fun _ _ _ => Classical.arbitrary _) w X) fun u _ _ => by rw [Function.update_self]]
  rw [Pipeline.Dat.read_blk_arrAt_eq_flushed _ w hdisj (cfgs p).N t t.isLt hf]
  show ((cfgs p).win w).cut _ (Function.update (fun _ _ _ => Classical.arbitrary _) w X w t) = _
  rw [Function.update_self]

/-- The router weights of all tokens: block `t`'s at columns `1024 t …`. -/
def weightsArr : Vec F S8x4096 .f32 := fun y =>
  weights W ⟨(y 1).val / 1024, by have := (y 1).isLt; have h : (y 1).val < 4096 := this; rw [show cfg0.N = 4 from N_0]; omega⟩
    (ix2 ⟨(y 0).val, (y 0).isLt⟩ ⟨(y 1).val % 1024, Nat.mod_lt _ (by decide)⟩)

theorem idx22 : ∀ t : Fin grid0.N, win0_22.index t 0 = 0 ∧ win0_22.index t 1 = t.val := by decide
theorem idx23 : ∀ t : Fin grid0.N, win0_23.index t 0 = t.val / 2 ∧ win0_23.index t 1 = 0 ∧ win0_23.index t 2 = 0 := by decide

theorem weights_out (h : Out (aft W) O b 0 d W W') : W' (Proc.devRef .tc main_v4_8) = weightsArr W := by
  funext y
  have h1 : (y 1).val < 4096 := (y 1).isLt
  have hlt : (y 1).val / 1024 < cfg0.N := by rw [show cfg0.N = 4 from N_0]; omega
  have hb := block_left O b d W 0 (22 : Fin 24)
    (fun t t' _ _ hne => (cfg0.win 22).disjoint_blk fun h => hne ((by decide +kernel : ∀ t t' : Fin grid0.N, win0_22.index t = win0_22.index t' → t = t') t t' h))
    (h.2 (22 : Fin 24)) ⟨(y 1).val / 1024, hlt⟩ (flush0_22 _)
  obtain ⟨X, ⟨Y, -, hX⟩, e⟩ := hb
  have hX' : X = weights W _ := hX
  subst hX'
  have e' := congrFun e (ix2 ⟨(y 0).val, (y 0).isLt⟩ ⟨(y 1).val % 1024, Nat.mod_lt _ (by decide)⟩)
  refine Eq.trans ?_ e'
  have i0 : ((cfgs 0).win (22 : Fin 24)).index ⟨(y 1).val / 1024, hlt⟩ (0 : Fin 2) = 0 := (idx22 ⟨(y 1).val / 1024, hlt⟩).1
  have i1 : ((cfgs 0).win (22 : Fin 24)).index ⟨(y 1).val / 1024, hlt⟩ (1 : Fin 2) = (y 1).val / 1024 := (idx22 ⟨(y 1).val / 1024, hlt⟩).2
  blk_ext [i0, i1]

/-- The sums of squares of the two groups, in their lanes. -/
def zsArr : Vec F S2x8x128 .f32 := fun y =>
  if (y 0).val = 0 then k0_pay1 (squares W t0_1) (squares W t0_0) (ix3 0 (y 1) (y 2))
  else k0_pay1 (squares W t0_3) (squares W t0_2) (ix3 0 (y 1) (y 2))

theorem zs_out (h : Out (aft W) O b 0 d W W') : W' (Proc.devRef .tc main_v4_9) = zsArr W := by
  have hb : ∀ t : Fin cfg0.N, t.val % 2 = 1 → _ := fun t ht => block_left O b d W 0 (23 : Fin 24)
    (fun t t' hf hf' hne => (cfg0.win 23).disjoint_blk fun h => hne ((by decide +kernel : ∀ t t' : Fin grid0.N, win0_23.flush t = true → win0_23.flush t' = true → win0_23.index t = win0_23.index t' → t = t') t t' hf hf' h))
    (h.2 (23 : Fin 24)) t ((flush0_23 t).mpr ht)
  funext y
  have h0 : (y 0).val < 2 := (y 0).isLt
  unfold zsArr
  split
  · next hy =>
    obtain ⟨X, ⟨Y, -, hX⟩, e⟩ := hb t0_1 (by decide)
    have hX' : X = k0_pay1 (squares W t0_1) (squares W t0_0) := hX.2.1 rfl
    subst hX'
    have e' := congrFun e (ix3 0 (y 1) (y 2))
    refine Eq.trans ?_ e'
    have i0 : ((cfgs 0).win (23 : Fin 24)).index t0_1 (0 : Fin 3) = 0 := (idx23 t0_1).1
    have i1 : ((cfgs 0).win (23 : Fin 24)).index t0_1 (1 : Fin 3) = 0 := (idx23 t0_1).2.1
    have i2 : ((cfgs 0).win (23 : Fin 24)).index t0_1 (2 : Fin 3) = 0 := (idx23 t0_1).2.2
    blk_ext [i0, i1, i2]
  · next hy =>
    obtain ⟨X, ⟨Y, -, hX⟩, e⟩ := hb t0_3 (by decide)
    have hX' : X = k0_pay1 (squares W t0_3) (squares W t0_2) := hX.2.2.2 rfl
    subst hX'
    have e' := congrFun e (ix3 0 (y 1) (y 2))
    refine Eq.trans ?_ e'
    have i0 : ((cfgs 0).win (23 : Fin 24)).index t0_3 (0 : Fin 3) = 1 := (idx23 t0_3).1
    have i1 : ((cfgs 0).win (23 : Fin 24)).index t0_3 (1 : Fin 3) = 0 := (idx23 t0_3).2.1
    have i2 : ((cfgs 0).win (23 : Fin 24)).index t0_3 (2 : Fin 3) = 0 := (idx23 t0_3).2.2
    blk_ext [i0, i1, i2]

theorem idx13 : ∀ t : Fin grid3.N, win3_13.index t 0 = 0 ∧ win3_13.index t 1 = 0 := by decide

theorem loss_out (h : Out (aft W) O b 2 d W W') : W' (Proc.devRef .tc main_v16_1) = lossRow W := by
  have hb := block_left O b d W 2 (13 : Fin 15)
    (fun t t' hf hf' hne => (cfg3.win 13).disjoint_blk fun h => hne ((by decide +kernel : ∀ t t' : Fin grid3.N, win3_13.flush t = true → win3_13.flush t' = true → win3_13.index t = win3_13.index t' → t = t') t t' hf hf' h))
    (h.2 (13 : Fin 15)) t3_3 ((flush3_13 t3_3).mpr rfl)
  obtain ⟨X, ⟨Y, -, hX⟩, e⟩ := hb
  have hX' : X = lossRow W := hX rfl
  subst hX'
  funext y
  have e' := congrFun e (ix2 (y 0) (y 1))
  refine Eq.trans ?_ (e'.trans ?_)
  · have i0 : ((cfgs 2).win (13 : Fin 15)).index t3_3 (0 : Fin 2) = 0 := (idx13 t3_3).1
    have i1 : ((cfgs 2).win (13 : Fin 15)).index t3_3 (1 : Fin 2) = 0 := (idx13 t3_3).2
    blk_ext [i0, i1]
  · exact congrArg (lossRow W) (funext fun a => by fin_cases a <;> rfl)

end Cert.Proof

end
-- ==== Proof.Run.lean ====
/-
  The program's run. The TensorCore reshapes arguments, runs the preparation, hands the routing weights to the SparseCores
  and takes the dispatch weights back, then runs the two stages; the array the loss is read from depends, through all of
  it, on the dispatch weights and the sums of squares only.
-/
module

public import proofs.«01_k».proof.Proof.Tasks
public import proofs.«01_k».proof.Proof.Arrays

@[expose] public section

set_option maxRecDepth 16384

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (seq after held)

variable {F : FTy → Type} [FloatOps F] [∀ e, Nonempty (Elt F e)]

local notation "𝕄" => MT nD τ sig (HIx 1) (Elt F) ℕ UU ℕ
local notation "Val₀" => Valuation τ sig (Elt F)
local notation "Eff" => TpuEff nD τ sig (Elt F) (SparseCore.Sig (ΛP (F := F)) 1) Proc.tc

/-! ## @main in its parts -/

/-- The router's arguments reshaped. -/
noncomputable def ops1 : List (HloOp τ sig (Elt F)) :=
  [StableHlo.reshape main_arg0 main_v0 (rfl : (.f32 : EltTy) = .f32) shapeCasts_S2x2048x1024_S4096x1024,
    StableHlo.reshape main_arg2 main_v1 (rfl : (.f32 : EltTy) = .f32) shapeCasts_S8_S8x1,
    StableHlo.reshape main_arg3 main_v2 (rfl : (.f32 : EltTy) = .f32) shapeCasts_S8_S8x1,
    StableHlo.reshape main_arg4 main_v3 (rfl : (.f32 : EltTy) = .f32) shapeCasts_S_S1x1]
/-- The first stage's biases reshaped. -/
noncomputable def ops2 : List (HloOp τ sig (Elt F)) :=
  [StableHlo.reshape main_arg6 main_v6 (rfl : (.f32 : EltTy) = .f32) shapeCasts_S2048_S1x2048,
    StableHlo.reshape main_arg8 main_v7 (rfl : (.f32 : EltTy) = .f32) shapeCasts_S2048_S1x2048,
    StableHlo.reshape main_arg12 main_v8 (rfl : (.f32 : EltTy) = .f32) shapeCasts_S128_S1x128,
    StableHlo.reshape main_arg14 main_v9 (rfl : (.f32 : EltTy) = .f32) shapeCasts_S128_S1x128,
    StableHlo.reshape main_arg15 main_v10 (rfl : (.f32 : EltTy) = .f32) shapeCasts_S128_S1x128,
    StableHlo.reshape main_arg16 main_v11 (rfl : (.f32 : EltTy) = .f32) shapeCasts_S128_S1x128,
    StableHlo.reshape main_arg10 main_v12 (rfl : (.f32 : EltTy) = .f32) shapeCasts_S1024_S1x1024]
/-- The second stage's per-expert rows reshaped. -/
noncomputable def ops3 : List (HloOp τ sig (Elt F)) :=
  [StableHlo.reshape main_arg19 main_v14 (rfl : (.f32 : EltTy) = .f32) shapeCasts_S8x128_S1x1024,
    StableHlo.reshape main_arg20 main_v15 (rfl : (.f32 : EltTy) = .f32) shapeCasts_S8x128_S1x1024]
/-- The loss read off its row. -/
noncomputable def ops4 : List (HloOp τ sig (Elt F)) :=
  [StableHlo.unary main_v16_1 main_v17 ((extractStridedSlice S1x1 ![0, 0] · slices_S1x128_S1x1_0_0) : (⟨S1x128, .f32⟩ : BufTy).Contents (Elt F) → (⟨S1x1, .f32⟩ : BufTy).Contents (Elt F)),
    StableHlo.reshape main_v17 main_v18 (rfl : (.f32 : EltTy) = .f32) shapeCasts_S1x1_S_]

/-- The call of region `p`. -/
abbrev entry (p : Fin 3) : Prog Eff PUnit := Prog.lift (.customCall (SparseCore.inner (Pipeline.entry p)) ())

theorem main_eq (d : Dev nD) : main (F := F) d
    = (seq ops1 >>= fun _ => entry 0 >>= fun _ => (K (F := F)).run d 0 >>= fun _ => seq ops2 >>= fun _ => entry 1 >>= fun _ =>
        seq ops3 >>= fun _ => entry 2 >>= fun _ => seq ops4 >>= fun _ => (.ret ⟨⟩ : Prog Eff PUnit)) := by
  simp only [main, ops1, ops2, ops3, ops4, seq, bind_assoc, pure_bind]
  rfl

/-- The operations touch the TensorCore's buffers only, and write one each. -/
abbrev Plain (ops : List (HloOp τ sig (Elt F))) (ws : List (Ref sig .tc)) : Prop :=
  (∀ op ∈ ops, op.bufs ⊆ StableHlo.tcRefs τ sig) ∧ (∀ op ∈ ops, op.fresh = ∅)
    ∧ ops.map HloOp.writes = ws.map fun r => {Proc.devRef (τ := τ) .tc r}

theorem plain1 : Plain (F := F) ops1 [main_v0, main_v1, main_v2, main_v3] :=
  ⟨by simp [ops1], fun op h => by
      simp only [ops1, List.mem_cons, List.not_mem_nil, or_false] at h; rcases h with rfl | rfl | rfl | rfl <;> rfl, rfl⟩
theorem plain2 : Plain (F := F) ops2 [main_v6, main_v7, main_v8, main_v9, main_v10, main_v11, main_v12] :=
  ⟨by simp [ops2], fun op h => by
      simp only [ops2, List.mem_cons, List.not_mem_nil, or_false] at h; rcases h with rfl | rfl | rfl | rfl | rfl | rfl | rfl <;> rfl, rfl⟩
theorem plain3 : Plain (F := F) ops3 [main_v14, main_v15] :=
  ⟨by simp [ops3], fun op h => by
      simp only [ops3, List.mem_cons, List.not_mem_nil, or_false] at h; rcases h with rfl | rfl <;> rfl, rfl⟩
theorem plain4 : Plain (F := F) ops4 [main_v17, main_v18] :=
  ⟨by simp [ops4], fun op h => by
      simp only [ops4, List.mem_cons, List.not_mem_nil, or_false] at h; rcases h with rfl | rfl <;> rfl, rfl⟩

/-- The arrays' contents at `W`. -/
abbrev bufs (d : Dev nD) (W : Val₀) : sProp 𝕄 := unscopedBufs d (fun r => W (Proc.devRef .tc r))

theorem bufs_held (d : Dev nD) (W : Val₀) : bufs d W = held (d.tc : Thread nD τ) (Pipeline.ucRefs τ sig) W :=
  Pipeline.unscopedBufs_held d W

/-- A line of host operations run from the arrays at `W`. -/
theorem wp_line {ops : List (HloOp τ sig (Elt F))} {ws : List (Ref sig .tc)} (h : Plain ops ws) (d : Dev nD) (W : Val₀)
    (k : PUnit → Prog Eff PUnit) {Φ : PUnit → sProp 𝕄} :
    iprop(boundary (T d) ∗ bufs d W)
      ⊢ iprop(((boundary (T d) ∗ bufs d (after ops W)) -∗ wp frame (wpE ((K (F := F)).defs (D (F := F))) 𝒱 (T d) none) Set.univ (k ⟨⟩) Φ)
        -∗ wp frame (wpE ((K (F := F)).defs (D (F := F))) 𝒱 (T d) none) Set.univ (seq ops >>= k) Φ) := by
  rw [bufs_held, bufs_held]
  exact StableHlo.wp_seq 𝒱 none Set.univ d (Pipeline.ucRefs τ sig) k ops (fun op ho => Pipeline.sub_ucRefs op (h.1 op ho)) h.2.1 W

/-- The level of the waits recorded before call `n`. -/
abbrev bd (n : ℕ) : ℕ := 8 * n

/-- A region's rounds on device `d`. -/
abbrev rounds (p : Fin 3) (d : Dev nD) : sProp 𝕄 :=
  iprop(Pipeline.cellsGhost (Pipeline.pin (pcfgs (F := F)) adm) EP p d ∗ Pipeline.toksInit (Pipeline.pin (pcfgs (F := F)) adm) EP p d)

/-- Region `p` run between the device's host operations, before the SparseCore call (`n = 0`) or after it. -/
theorem wp_entry (p : Fin 3) (n : ℕ) (hk : Pipeline.LaunchFacts₀ (nD := nD) (τ := τ) cfgs p) (d : Dev nD) (W : Val₀)
    (hbody : ∀ O b d, (rdat (aft W) W O b p d).BodyObligation defs₀ 𝒱₀ none Set.univ)
    (k : PUnit → Prog Eff PUnit) {Φ : PUnit → sProp 𝕄} :
    iprop(boundary (T d) ∗ bufs d W ∗ (K (F := F)).tcSt EH d n ∗ levAts (K (F := F)).L (K (F := F)).lev ∗ rounds p d)
      ⊢ iprop((∀ W', ⌜Out (aft W) ((K (F := F)).Otc d n) (bd n) p d W W'⌝ -∗ (boundary (T d) ∗ bufs d W' ∗ (K (F := F)).tcSt EH d n)
            -∗ wp frame (wpE ((K (F := F)).defs (D (F := F))) 𝒱 (T d) none) Set.univ (k ⟨⟩) Φ)
        -∗ wp frame (wpE ((K (F := F)).defs (D (F := F))) 𝒱 (T d) none) Set.univ (entry p >>= k) Φ) := by
  rw [wp_bind]
  unfold SparseCore.Cfg.tcSt
  iintro ⟨Hb, Hub, ⟨HO, Hat⟩, Hl, Hg, Ht⟩ Hk
  iapply (wp_wand_r _ _ _) $$ [Hb Hub HO Hl Hg Ht Hat Hk]
  isplitl [Hb Hub HO Hl Hg Ht]
  · iapply (wp_region (aft W) ((K (F := F)).Otc d n) (bd n) p hk.win hk.sharedIn hk.block_pos hk.arr_whole hk.stage_whole
      (fun g => Nat.eq_zero_of_not_pos fun h => Nat.not_succ_le_zero _ ((K (F := F)).lev_of_Otc_pos h)) W d (hbody _ _))
    isplitl [Hb]; · iexact Hb
    isplitl [Hub]; · iexact Hub
    isplitl [HO]; · iexact HO
    isplitl [Hl]; · iexact Hl
    isplitl [Hg] <;> iassumption
  iintro %_ ⟨Hb, %W', %hW', Hub, HO⟩
  iapply Hk $$ %W' %hW'
  isplitl [Hb]; · iexact Hb
  isplitl [Hub]; · iexact Hub
  isplitl [HO]; · iexact HO
  iexact Hat

/-! ## What the run leaves -/

variable (mem : (ℓ : Loc nD τ sig) → Buf (Elt F) ℓ) (ρ : Dev nD → PrngReg)

/-- The arrays as the preparation finds them. -/
def W1 (d : Dev nD) : Val₀ := after ops1 fun b => mem (d, b)
/-- What the SparseCore call is handed: the routing weights, and the dispatch array as it was. -/
def sent (d : Dev nD) : Buf (Elt F) (xLoc d) × Buf (Elt F) (oLoc d) := (weightsArr (W1 mem d), mem (oLoc d))
/-- The dispatch weights and the sums of squares in place: what the loss is a function of. -/
def atLoss (d : Dev nD) : Val₀ :=
  Function.update (Function.update (W1 mem d) (Proc.devRef .tc main_v5) (OUT (sent mem) d)) (Proc.devRef .tc main_v4_9) (zsArr (W1 mem d))
/-- The loss. -/
def lossOf (d : Dev nD) : Vec F S_ .f32 := shapeCast S_ (extractStridedSlice S1x1 ![0, 0] (lossRow (atLoss mem d)) slices_S1x128_S1x1_0_0) shapeCasts_S1x1_S_

theorem lossRow_congr {W W' : Val₀} (h5 : W (Proc.devRef .tc main_v5) = W' (Proc.devRef .tc main_v5))
    (h9 : W (Proc.devRef .tc main_v4_9) = W' (Proc.devRef .tc main_v4_9)) : lossRow W = lossRow W' := by
  have e5 : ∀ t, dispOf W t = dispOf W' t := fun t => congrArg ((win3_5.blk t).view.read (Elt F)) h5
  have e9 : ∀ t, zsum W t = zsum W' t := fun t => congrArg ((win3_11.blk t).view.read (Elt F)) h9
  unfold lossRow sums3 sums2 sums1 sums0
  simp only [e5, e9]

/-- The arguments. -/
def args : List (Ref sig .tc) :=
  [main_arg0, main_arg1, main_arg2, main_arg3, main_arg4, main_arg5, main_arg6, main_arg7, main_arg8, main_arg9, main_arg10, main_arg11,
    main_arg12, main_arg13, main_arg14, main_arg15, main_arg16, main_arg17, main_arg18, main_arg19, main_arg20, main_arg21, main_arg22]

/-- A line of operations keeps what it does not write. -/
theorem line_keeps {ops : List (HloOp τ sig (Elt F))} {ws : List (Ref sig .tc)} (h : Plain ops ws) (W : Val₀) (r : Ref sig .tc) (hr : r ∉ ws) :
    after ops W (Proc.devRef .tc r) = W (Proc.devRef .tc r) :=
  StableHlo.after_of_writes_sub ops W (StableHlo.forall_writes_sub_of_map h.2.2) hr

/-- A region keeps what is no output of its. -/
theorem out_keeps {aft : Aft (F := F)} {O : CellTallies nD τ sig (HIx 1)} {b : ℕ} {p : Fin 3} {d : Dev nD} {W W' : Val₀} (h : Out aft O b p d W W')
    (r : Ref sig .tc) (hr : ∀ w : Fin (cfgs p).W, ((cfgs p).spec w).isOut = true → r ≠ Pipeline.arrRef (cfgs p).spec w) :
    W' (Proc.devRef .tc r) = W (Proc.devRef .tc r) :=
  h.1 _ fun w hw => StableHlo.devRef_ne_of_ne (hr w hw)

/-- What a run ends with on a device: the arguments as they were, the result at the loss. -/
def Ends (d : Dev nD) (W : Val₀) : Prop :=
  (∀ r ∈ args, W (Proc.devRef .tc r) = mem (d, Proc.devRef .tc r)) ∧ W (Proc.devRef .tc main_v18) = lossOf mem d

theorem ends_of (d : Dev nD) {O O' O'' : CellTallies nD τ sig (HIx 1)} {b b' b'' : ℕ} {W2 W5 W7 : Val₀}
    (h0 : Out (aft (W1 mem d)) O b 0 d (W1 mem d) W2)
    {W4 : Val₀} (h4 : W4 = after ops2 (Function.update W2 (Proc.devRef .tc main_v5) (OUT (sent mem) d)))
    (h1 : Out (aft W4) O' b' 1 d W4 W5) {W6 : Val₀} (h6 : W6 = after ops3 W5) (h2 : Out (aft W6) O'' b'' 2 d W6 W7) :
    Ends mem d (after ops4 W7) := by
  constructor
  · intro r hr
    rw [line_keeps plain4 _ r ((by decide +kernel : ∀ r ∈ args, r ∉ [main_v17, main_v18]) r hr),
      out_keeps h2 r ((by decide +kernel : ∀ r ∈ args, ∀ w : Fin 15, (spec3 w).isOut = true → r ≠ Pipeline.arrRef spec3 w) r hr), h6,
      line_keeps plain3 _ r ((by decide +kernel : ∀ r ∈ args, r ∉ [main_v14, main_v15]) r hr),
      out_keeps h1 r ((by decide +kernel : ∀ r ∈ args, ∀ w : Fin 17, (spec2 w).isOut = true → r ≠ Pipeline.arrRef spec2 w) r hr), h4,
      line_keeps plain2 _ r ((by decide +kernel : ∀ r ∈ args, r ∉ [main_v6, main_v7, main_v8, main_v9, main_v10, main_v11, main_v12]) r hr),
      Function.update_of_ne (StableHlo.devRef_ne_of_ne ((by decide +kernel : ∀ r ∈ args, r ≠ main_v5) r hr)),
      out_keeps h0 r ((by decide +kernel : ∀ r ∈ args, ∀ w : Fin 24, (spec0 w).isOut = true → r ≠ Pipeline.arrRef spec0 w) r hr)]
    exact line_keeps plain1 _ r ((by decide +kernel : ∀ r ∈ args, r ∉ [main_v0, main_v1, main_v2, main_v3]) r hr)
  · have e5 : W6 (Proc.devRef .tc main_v5) = OUT (sent mem) d := by
      rw [h6, line_keeps plain3 _ _ (by decide +kernel), out_keeps h1 _ (by decide +kernel : ∀ w : Fin 17, (spec2 w).isOut = true → main_v5 ≠ Pipeline.arrRef spec2 w),
        h4, line_keeps plain2 _ _ (by decide +kernel), Function.update_self]
    have e9 : W6 (Proc.devRef .tc main_v4_9) = zsArr (W1 mem d) := by
      rw [h6, line_keeps plain3 _ _ (by decide +kernel), out_keeps h1 _ (by decide +kernel : ∀ w : Fin 17, (spec2 w).isOut = true → main_v4_9 ≠ Pipeline.arrRef spec2 w),
        h4, line_keeps plain2 _ _ (by decide +kernel), Function.update_of_ne (StableHlo.devRef_ne_of_ne (by decide +kernel)), zs_out _ _ _ _ _ h0]
    have el : lossRow W6 = lossRow (atLoss mem d) := by
      refine lossRow_congr ?_ ?_
      · rw [e5, atLoss, Function.update_of_ne (StableHlo.devRef_ne_of_ne (by decide +kernel)), Function.update_self]
      · rw [e9, atLoss, Function.update_self]
    simp only [ops4, StableHlo.after_cons, StableHlo.after_nil]
    rw [StableHlo.reshape_result', StableHlo.unary_result', loss_out _ _ _ _ _ h2, el]
    rfl

/-! ## The SparseCore call -/

/-- What the call takes for both SparseCores is the two arrays whole, and so is what it hands back. -/
theorem shares_whole (m : (d : Dev nD) → Buf (Elt F) (xLoc d) × Buf (Elt F) (oLoc d)) (d : Dev nD) (f : Buf (Elt F) (oLoc d)) :
    (bigSep Finset.univ fun c : Fin (grid1.bound 0) => coreShare m d f c) = iprop((xLoc d ↦{fullShare} (m d).1) ∗ oLoc d ↦{fullShare} f : sProp 𝕄) := by
  rw [x_blocks, o_blocks, ← bigSep_sep']
  exact bigSep_congr fun c _ => bigSep_sep' _ _ _

theorem back_whole (m : (d : Dev nD) → Buf (Elt F) (xLoc d) × Buf (Elt F) (oLoc d)) (d : Dev nD) :
    (bigSep Finset.univ fun c : Fin ((K (F := F)).nCore 0) => (P m).dn 0 d c) = iprop((xLoc d ↦{fullShare} (m d).1) ∗ oLoc d ↦{fullShare} OUT m d : sProp 𝕄) :=
  shares_whole m d _

/-- The two arrays of the call apart from the others. -/
theorem bufs_split (d : Dev nD) (W : Val₀) :
    bufs d W = iprop(((xLoc d ↦{fullShare} W (Proc.devRef .tc main_v4_8)) ∗ oLoc d ↦{fullShare} W (Proc.devRef .tc main_v5))
      ∗ held (d.tc : Thread nD τ) (Pipeline.ucRefs τ sig \ {Proc.devRef .tc main_v4_8, Proc.devRef .tc main_v5}) W : sProp 𝕄) := by
  rw [bufs_held, StableHlo.held_sub_split _ (T := {Proc.devRef .tc main_v4_8, Proc.devRef .tc main_v5}) (by
    intro b hb
    rcases Finset.mem_insert.mp hb with rfl | hb
    · exact Pipeline.devRef_mem_ucRefs rfl
    · rw [Finset.mem_singleton.mp hb]; exact Pipeline.devRef_mem_ucRefs rfl)]
  congr 1
  unfold held
  rw [SparseCore.bigSep_insert' (by rw [Finset.mem_singleton]; exact StableHlo.devRef_ne_of_ne (by decide +kernel)), bigSep_singleton]

/-- The call from the arrays at `W`. -/
theorem wp_dispatch (m : (d : Dev nD) → Buf (Elt F) (xLoc d) × Buf (Elt F) (oLoc d)) (κ : GSem nD τ sig → ℕ) (d : Dev nD) (W : Val₀)
    (h8 : W (Proc.devRef .tc main_v4_8) = (m d).1) (h5 : W (Proc.devRef .tc main_v5) = (m d).2)
    (k : PUnit → Prog Eff PUnit) {Φ : PUnit → sProp 𝕄} :
    iprop((K (F := F)).ctx EH (P m) κ ∗ (K (F := F)).tcSt EH d 0 ∗ bufs d W)
      ⊢ iprop((((K (F := F)).tcSt EH d 1 ∗ bufs d (Function.update W (Proc.devRef .tc main_v5) (OUT m d)))
            -∗ wp frame (wpE ((K (F := F)).defs (D (F := F))) 𝒱 (T d) none) Set.univ (k ⟨⟩) Φ)
        -∗ wp frame (wpE ((K (F := F)).defs (D (F := F))) 𝒱 (T d) none) Set.univ ((K (F := F)).run d 0 >>= k) Φ) := by
  rw [wp_bind, bufs_split, bufs_split, h8, h5, Function.update_self, Function.update_of_ne (StableHlo.devRef_ne_of_ne (by decide +kernel)), h8,
    StableHlo.held_congr (V := Function.update W (Proc.devRef .tc main_v5) (OUT m d)) (V' := W) _ fun b hb =>
      Function.update_of_ne (fun e => (Finset.mem_sdiff.mp hb).2 (by rw [e]; exact Finset.mem_insert_of_mem (Finset.mem_singleton_self _))) _ _]
  iintro ⟨#Hctx, Hst, Hpts, Hr⟩ Hk
  iapply ((K (F := F)).wp_run (D (F := F)) 𝒱 (EH := EH) (P := P m) κ d 0) $$ [Hst Hpts Hr Hk]
  isplitr; · iexact Hctx
  isplitl [Hst]; · iexact Hst
  isplitl [Hpts]
  · iapply (Entails.of_eq (shares_whole m d _).symm); iexact Hpts
  iintro ⟨Hst, Hdn⟩
  ihave Hdn' := (Entails.of_eq (back_whole m d)) $$ Hdn
  iapply Hk
  isplitl [Hst]; · iexact Hst
  isplitl [Hdn'] <;> iassumption

/-! ## The launch element -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch hands the TensorCore of device `d` beside its arrays: the regions' rounds. -/
abbrev G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

theorem rounds_of (d : Dev nD) : G (F := F) d ⊢ iprop(rounds 0 d ∗ rounds 1 d ∗ rounds 2 d) := by
  unfold G rounds
  rw [show (Finset.univ : Finset (Fin 3)) = {0, 1, 2} by decide]
  rw [SparseCore.bigSep_insert' (by decide), SparseCore.bigSep_insert' (by decide), bigSep_singleton,
    SparseCore.bigSep_insert' (by decide), SparseCore.bigSep_insert' (by decide), bigSep_singleton]
  iintro ⟨⟨Ha, Hb, Hc⟩, Ha', Hb', Hc'⟩
  isplitl [Ha Ha']; · isplitl [Ha] <;> iassumption
  isplitl [Hb Hb']; · isplitl [Hb] <;> iassumption
  isplitl [Hc] <;> iassumption

theorem fund : (BI.own (((Emb.inl : Emb UPR (UPR × Counters)).trans (embR : Emb (UPR × Counters) 𝕄))
      (initOf (Pipeline.cells (Pipeline.pin (pcfgs (F := F)) adm) cellOf_inj) (Pipeline.launchToks (Pipeline.pin (pcfgs (F := F)) adm) cellOf_inj))) : sProp 𝕄)
    ⊢ iprop(|==> ((bigSep Finset.univ fun d : Dev nD => bigSep Finset.univ fun p : Fin 3 => Pipeline.cellsGhost (Pipeline.pin (pcfgs (F := F)) adm) EP p d)
        ∗ bigSep Finset.univ fun d : Dev nD => bigSep Finset.univ fun p : Fin 3 => Pipeline.toksInit (Pipeline.pin (pcfgs (F := F)) adm) EP p d)) :=
  Pipeline.fund_ghost (Pipeline.pin (pcfgs (F := F)) adm) EP cellOf_inj

theorem hu₀ (m : (d : Dev nD) → Buf (Elt F) (xLoc d) × Buf (Elt F) (oLoc d)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, Hp⟩
  ihave H := (own_pair_emb (embR : Emb (UPR × Counters) 𝕄) _ _) $$ Hp
  icases H with ⟨Hp, -⟩
  imod fund $$ Hp with ⟨Hg, Ht⟩
  imodintro
  isplitl [HH]; · iexact HH
  have e : ∀ {I : Type} (s : Finset I), (bigSep s fun _ => iprop(emp)) = (iprop(emp) : sProp 𝕄) := fun s => bigSep_emp_const s
  isplitl [Hg Ht]
  · unfold G; rw [bigSep_sep']; isplitl [Hg] <;> iassumption
  · show _ ⊢ bigSep Finset.univ fun _ : Thread nD τ => bigSep Finset.univ fun _ : Fin 1 => (iprop(emp) : sProp 𝕄)
    rw [show (bigSep Finset.univ fun _ : Thread nD τ => bigSep Finset.univ fun _ : Fin 1 => (iprop(emp) : sProp 𝕄)) = iprop(emp) from (bigSep_congr fun _ _ => e _).trans (e _)]

/-! ## The device's thread -/

abbrev FIN (d : Dev nD) : sProp 𝕄 := iprop(∃ W, ⌜Ends mem d W⌝ ∗ bufs d W)

theorem hmain (κ : GSem nD τ sig → ℕ) (d : Dev nD) :
    iprop((K (F := F)).ctx EH (P (sent mem)) κ ∗ (K (F := F)).tcSt EH d 0 ∗ (K (F := F)).tcRes mem ρ d ∗ G d)
      ⊢ wp frame (wpE ((K (F := F)).defs (D (F := F))) 𝒱 (SparseCore.T d) none) Set.univ (main d)
          fun _ => iprop((K (F := F)).tcSt EH d 1 ∗ FIN mem d ∗ (K (F := F)).tcEnd d) := by
  unfold SparseCore.Cfg.tcRes SparseCore.Cfg.tcEnd
  rw [main_eq]
  iintro ⟨#Hctx, Hst, ⟨Hb, Hub, Hts, -⟩, HG⟩
  ihave #Hl := ((K (F := F)).ctx_levAts κ) $$ Hctx
  ihave Hrd := (rounds_of d) $$ HG
  icases Hrd with ⟨Hr0, Hr1, Hr2⟩
  iapply (wp_line plain1 d (fun b => mem (d, b)) _) $$ [Hb Hub]
  · isplitl [Hb] <;> iassumption
  iintro ⟨Hb, Hub⟩
  iapply (wp_entry 0 0 launch0.to₀ d (W1 mem d) (fun O b d' => body0 O b d' (W1 mem d)) _) $$ [Hb Hub Hst Hr0]
  · isplitl [Hb]; · iexact Hb
    isplitl [Hub]; · iexact Hub
    isplitl [Hst]; · iexact Hst
    isplitr; · iexact Hl
    iexact Hr0
  iintro %W2 %h0 ⟨Hb, Hub, Hst⟩
  iapply (wp_dispatch (sent mem) κ d W2 (weights_out _ _ _ _ _ h0)
    ((out_keeps h0 _ (by decide +kernel : ∀ w : Fin 24, (spec0 w).isOut = true → main_v5 ≠ Pipeline.arrRef spec0 w)).trans (line_keeps plain1 _ _ (by decide +kernel))) _) $$ [Hst Hub]
  · isplitr; · iexact Hctx
    isplitl [Hst] <;> iassumption
  iintro ⟨Hst, Hub⟩
  iapply (wp_line plain2 d _ _) $$ [Hb Hub]
  · isplitl [Hb] <;> iassumption
  iintro ⟨Hb, Hub⟩
  iapply (wp_entry 1 1 launch2.to₀ d _ (fun O b d' => body1 O b d' _) _) $$ [Hb Hub Hst Hr1]
  · isplitl [Hb]; · iexact Hb
    isplitl [Hub]; · iexact Hub
    isplitl [Hst]; · iexact Hst
    isplitr; · iexact Hl
    iexact Hr1
  iintro %W5 %h1 ⟨Hb, Hub, Hst⟩
  iapply (wp_line plain3 d _ _) $$ [Hb Hub]
  · isplitl [Hb] <;> iassumption
  iintro ⟨Hb, Hub⟩
  iapply (wp_entry 2 1 launch₀3 d _ (fun O b d' => body2 O b d' _) _) $$ [Hb Hub Hst Hr2]
  · isplitl [Hb]; · iexact Hb
    isplitl [Hub]; · iexact Hub
    isplitl [Hst]; · iexact Hst
    isplitr; · iexact Hl
    iexact Hr2
  iintro %W7 %h2 ⟨Hb, Hub, Hst⟩
  iapply (wp_line plain4 d _ _) $$ [Hb Hub]
  · isplitl [Hb] <;> iassumption
  iintro ⟨Hb, Hub⟩
  rw [wp_ret]
  imodintro
  isplitl [Hst]; · iexact Hst
  isplitl [Hub]
  · iexists (after ops4 W7)
    isplitr
    · ipureintro; exact ends_of mem d h0 rfl h1 rfl h2
    iexact Hub
  isplitl [Hb] <;> iassumption

/-! ## The run -/

/-- The device's arguments and its result, read off its memory. -/
def fq (d : Dev nD) (s' : Phys nD τ sig (Elt F)) : Prop :=
  (∀ r ∈ args, s'.mem.mem (d, Proc.devRef .tc r) = mem (d, Proc.devRef .tc r)) ∧ s'.mem.mem (d, Proc.devRef .tc main_v18) = lossOf mem d

theorem hfin (d : Dev nD) (s' : Phys nD τ sig (Elt F)) : iprop(FIN mem d ∗ SI s') ⊢ (⌜fq mem d s'⌝ : sProp 𝕄) := by
  have key : ∀ (W : Val₀) (r : Ref sig .tc), (Proc.devRef .tc r : DevRef τ sig).isScoped = false →
      iprop(bufs d W ∗ SI s') ⊢ (⌜s'.mem.mem (d, Proc.devRef .tc r) = W (Proc.devRef .tc r)⌝ : sProp 𝕄) := fun W r hr => by
    rw [bufs_held, StableHlo.held_sub_split _ (T := {Proc.devRef .tc r}) (Finset.singleton_subset_iff.mpr (Pipeline.devRef_mem_ucRefs hr))]
    unfold held
    rw [bigSep_singleton]
    iintro ⟨⟨Hx, -⟩, HSI⟩
    ihave H := (SI_pointsTo_agree (st := s') (ℓ := (d, Proc.devRef .tc r)) (I := Finset.univ) (q := fullShare) (f := W (Proc.devRef .tc r))) $$ [HSI Hx]
    · isplitl [HSI] <;> iassumption
    icases H with %h
    ipureintro; exact funext fun i => h i (Finset.mem_univ i)
  have all : ∀ W : Val₀, Ends mem d W → iprop(bufs d W ∗ SI s') ⊢ (⌜fq mem d s'⌝ : sProp 𝕄) := fun W hW =>
    ((Laws.forall_intro fun r : {r : Ref sig .tc // (Proc.devRef .tc r : DevRef τ sig).isScoped = false} => key W r.1 r.2).trans Laws.pure_forall.2).trans
      (Laws.pure_mono fun h => ⟨fun r hr => (h ⟨r, (by decide +kernel : ∀ r ∈ args, (Proc.devRef .tc r : DevRef τ sig).isScoped = false) r hr⟩).trans (hW.1 r hr),
        (h ⟨main_v18, rfl⟩).trans hW.2⟩)
  iintro ⟨⟨%W, %hW, Hub⟩, HSI⟩
  iapply (all W hW) $$ [Hub HSI]
  isplitl [Hub] <;> iassumption

/-- What a run ends with: the arguments unchanged, the result at the loss, every semaphore at zero. -/
def QC : PUnit × MemSt nD τ sig (Elt F) → Prop := fun r =>
  (∀ c : Dev nD, (∀ a ∈ args, r.2.mem (c, Proc.devRef .tc a) = mem (c, Proc.devRef .tc a)) ∧ r.2.mem (c, Proc.devRef .tc main_v18) = lossOf mem c) ∧ r.2.sem = fun _ => 0

theorem run_main :
    θ_run (Cert.KernelIdeal.defs (F := F)) (Cert.KernelIdeal.threads (F := F)) ⟨mem, fun _ => 0, ρ⟩ (QC mem) :=
  SparseCore.Cfg.θ_run_sc_quiescent (K := K (F := F)) (D := D (F := F)) (𝒱 := 𝒱) (EH := EH) (P := P (sent mem)) (A := ∅) facts v₀
    (fun q hq => match q with | 0 => nomatch hq)
    (fun q _ => match q with | 0 => tileObl (sent mem) facts)
    (fun q _ => match q with | 0 => SparseCore.Cfg.VecSplit.of_plain (vecSplit (sent mem)))
    mem ρ main G (FIN mem) (u₀ (F := F)) (sep_elim_left.trans (hu₀ (sent mem))) (hmain mem ρ) (fq mem) (hfin mem) (QC mem) (fun _ h hz => ⟨h, hz⟩)

end Cert.Proof

end
-- ==== Proof.RefRun.lean ====
/-
  The reference's run: its operations in order, stage by stage, and what each stage leaves as a function of what it reads.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F]

/-! ## The stages as functions -/

/-- A column laid along the rows of a token. -/
abbrev rowed (v : Vec F S4096x1 .f32) : Vec F S4096x8 .f32 := broadcastInDim S4096x8 ![0, 1] bcast_S4096x1_S4096x8_0_1 v
/-- A row repeated for every token. -/
abbrev tiled (v : Vec F S8 .f32) : Vec F S4096x8 .f32 :=
  broadcastInDim S4096x8 ![0, 1] bcast_S1x8_S4096x8_0_1 (broadcastInDim S1x8 ![1] bcast_S8_S1x8_1 v)
/-- Each token's sum over the experts, as a column. -/
abbrev sumRow (L : Vec F S4096x8 .f32) : Vec F S4096x1 .f32 :=
  broadcastInDim S4096x1 ![0] bcast_S4096_S4096x1_0 (Host.reduceAdd L (constant S_ .f32 0x00000000#32) reducesTo_S4096x8_S4096_d1 h_S_)
/-- One number in every row of a column. -/
abbrev col (x : Vec F S_ .f32) : Vec F S4096x1 .f32 := broadcastInDim S4096x1 ![] bcast_S_S4096x1 x

/-- The projection of the tokens on the experts. -/
def proj (x : Vec F S2x2048x1024 .f32) (w : Vec F S8x1024 .f32) : Vec F S4096x8 .f32 :=
  Host.dotGeneral dot_S4096x1024_S1024x8_S4096x8_1_0_0_1_n_n none (shapeCast S4096x1024 x shapeCasts_S2x2048x1024_S4096x1024)
    (transpose S1024x8 [1, 0] w transposes_S8x1024_S1024x8_1_0)

/-- A row less its mean. -/
def less (P : Vec F S4096x8 .f32) : Vec F S4096x8 .f32 :=
  subf P (rowed (Host.divf (sumRow P) (col (constant S_ .f32 0x41000000#32))))

/-- The number `n` less the integer `k`. -/
abbrev fewer (n : BitVec 32) (k : BitVec 32) : Vec F S_ .f32 := subf (constant S_ .f32 n) (sitofp .f32 (constantI S_ 32 k))

/-- Each row's variance. -/
def var (P : Vec F S4096x8 .f32) : Vec F S4096x1 .f32 :=
  select (broadcastInDim S4096x1 ![] bcast_S_S4096x1 (cmpf .ogt (fewer (F := F) 0x41000000#32 0#32) (constant S_ .f32 0x00000000#32)))
    (Host.divf (sumRow (mulf (less P) (less P))) (col (fewer 0x41000000#32 0#32))) (col (constant S_ .f32 0x7FC00000#32))

/-- The layer norm of the projection: the logits. -/
def logits (P : Vec F S4096x8 .f32) (g b : Vec F S8 .f32) : Vec F S4096x8 .f32 :=
  addf (mulf (mulf (less P) (rowed (Host.rsqrt (addf (var P) (col (constant S_ .f32 0x3727C5AC#32)))))) (tiled g)) (tiled b)

/-- The logits over the temperature. -/
def scaled (L : Vec F S4096x8 .f32) (t : Vec F S_ .f32) : Vec F S4096x8 .f32 :=
  Host.divf L (broadcastInDim S4096x8 ![] bcast_S_S4096x8 (addf t (constant S_ .f32 0x358637BD#32)))

/-- The exponentials of the scaled logits less their greatest. -/
def expo (S : Vec F S4096x8 .f32) : Vec F S4096x8 .f32 :=
  Host.exp (subf S (rowed (broadcastInDim S4096x1 ![0] bcast_S4096_S4096x1_0
    (maximumf (broadcastInDim S4096 ![] bcast_S_S4096 (constant S_ .f32 0xFF800000#32))
      (Host.reduce FloatOps.maximumf S (constant S_ .f32 0xFF800000#32) reducesTo_S4096x8_S4096_d1 h_S_)))))

/-- The routing weights of the exponentials. -/
def soft (E : Vec F S4096x8 .f32) : Vec F S4096x8 .f32 := Host.divf E (rowed (sumRow E))

/-- The two largest weights of each token, with their places. -/
abbrev topTwo (R : Vec F S4096x8 .f32) : FVec F S4096x2 .f32 × IVec S4096x2 32 :=
  Host.topK S4096x2 1 (FloatOps.cmpfTotal .gt) R sliceFits_S4096x8_S4096x2

/-- Two columns of indices side by side. -/
def pairUp (a b : Vec F S4096x2x1 .i32) : Vec F S4096x2x2 .i32 :=
  concatenate S4096x2x2 2 [⟨S4096x2x1, a⟩, ⟨S4096x2x1, b⟩] concatenates_S4096x2x1_S4096x2x1_S4096x2x2_d2

/-- Each token's number. -/
abbrev toks : IVec S4096x1 32 := broadcastInDim S4096x1 ![0] bcast_S4096_S4096x1_0 (iotaInDim S4096 32 0)

/-- The token of each pair, a negative one taken from the end. -/
def tokCol : IVec S4096x2x1 32 :=
  broadcastInDim S4096x2x1 ![0, 1] bcast_S4096x2_S4096x2x1_0_1 (broadcastInDim S4096x2 ![0, 1] bcast_S4096x1_S4096x2_0_1
    (select (cmpi .slt toks (broadcastInDim S4096x1 ![] bcast_S_S4096x1 (constantI S_ 32 0#32)))
      (addi toks (broadcastInDim S4096x1 ![] bcast_S_S4096x1 (constantI S_ 32 4096#32))) toks))

/-- The expert of each pair, a negative one taken from the end. -/
def expCol (ix : IVec S4096x2 32) : IVec S4096x2x1 32 :=
  broadcastInDim S4096x2x1 ![0, 1] bcast_S4096x2_S4096x2x1_0_1
    (select (cmpi .slt ix (broadcastInDim S4096x2 ![] bcast_S_S4096x2 (constantI S_ 32 0#32)))
      (addi ix (broadcastInDim S4096x2 ![] bcast_S_S4096x2 (constantI S_ 32 8#32))) ix)

/-- The dispatch weights: each token's two largest weights at their experts, zero elsewhere. -/
def scat (R : Vec F S4096x8 .f32) : Vec F S4096x8 .f32 :=
  Host.scatter scatter_S4096x8_S4096x2x2_S4096x2_n_01_01_2 (fun _ b => b)
    (broadcastInDim S4096x8 ![] bcast_S_S4096x8 (constant S_ .f32 0x00000000#32)) (pairUp (F := F) tokCol (expCol (topTwo R).2)) (topTwo R).1

/-- The experts' loads in each half of the tokens. -/
def loads (D : Vec F S4096x8 .f32) : Vec F S2x8 .f32 :=
  Host.divf (Host.reduceAdd (shapeCast S2x2048x8 D shapeCasts_S4096x8_S2x2048x8) (constant S_ .f32 0x00000000#32) reducesTo_S2x2048x8_S2x8_d1 h_S_)
    (broadcastInDim S2x8 ![] bcast_S_S2x8 (constant S_ .f32 0x45000000#32))

/-- The sum of the loads. -/
abbrev total (A : Vec F S2x8 .f32) : Vec F S_ .f32 := Host.reduceAdd A (constant S_ .f32 0x00000000#32) reducesTo_S2x8_S_d0_1 h_S_

/-- The loads less their mean. -/
def lessAll (A : Vec F S2x8 .f32) : Vec F S2x8 .f32 :=
  subf A (broadcastInDim S2x8 ![0, 1] bcast_S1x1_S2x8_0_1 (Host.divf (broadcastInDim S1x1 ![] bcast_S_S1x1 (total A))
    (broadcastInDim S1x1 ![] bcast_S_S1x1 (constant S_ .f32 0x41800000#32))))

/-- The loads' sample deviation. -/
def dev (A : Vec F S2x8 .f32) : Vec F S_ .f32 :=
  Host.sqrt (select (cmpf .ogt (fewer (F := F) 0x41800000#32 1#32) (constant S_ .f32 0x00000000#32))
    (Host.divf (total (mulf (lessAll A) (lessAll A))) (fewer 0x41800000#32 1#32)) (constant S_ .f32 0x7FC00000#32))

/-- The loss of the loads `A` and the logits `L`. -/
def loss (A : Vec F S2x8 .f32) (L : Vec F S4096x8 .f32) : Vec F S_ .f32 :=
  addf
    (mulf (constant S_ .f32 0x3A83126F#32) (Host.divf (Host.reduceAdd (mulf L L) (constant S_ .f32 0x00000000#32) reducesTo_S4096x8_S_d0_1 h_S_)
      (constant S_ .f32 0x47000000#32)))
    (mulf (constant S_ .f32 0x3DCCCCCD#32) (mulf (Host.divf (dev A) (Host.divf (total A) (constant S_ .f32 0x41800000#32))) (constant S_ .f32 0x41200000#32)))

/-! ## The operations -/

/-- The router projection of the tokens. -/
def opsProj : List (HloOp τ sig (Elt F)) :=
  [reshape main_arg0 main_v0 (rfl : (.f32 : EltTy) = .f32) shapeCasts_S2x2048x1024_S4096x1024,
    unary main_arg1 main_v1 ((transpose S1024x8 [1, 0] · transposes_S8x1024_S1024x8_1_0) : Vec F S8x1024 .f32 → Vec F S1024x8 .f32),
    binary main_v0 main_v1 main_v2 ((fun l r => Host.dotGeneral dot_S4096x1024_S1024x8_S4096x8_1_0_0_1_n_n none l r) : Vec F S4096x1024 .f32 → Vec F S1024x8 .f32 → Vec F S4096x8 .f32)]
/-- The layer norm of the projection. -/
def opsLogits : List (HloOp τ sig (Elt F)) :=
  [nullary main_cst (constant S_ .f32 0x00000000#32),
    binary main_v2 main_cst main_v3 ((fun x v => Host.reduceAdd x v reducesTo_S4096x8_S4096_d1 h_S_) : Vec F S4096x8 .f32 → Vec F S_ .f32 → Vec F S4096 .f32),
    unary main_v3 main_v4 (broadcastInDim S4096x1 ![0] bcast_S4096_S4096x1_0 : Vec F S4096 .f32 → Vec F S4096x1 .f32),
    nullary main_cst_0 (constant S_ .f32 0x41000000#32),
    unary main_cst_0 main_v5 (broadcastInDim S4096x1 ![] bcast_S_S4096x1 : Vec F S_ .f32 → Vec F S4096x1 .f32),
    binary main_v4 main_v5 main_v6 (Host.divf : Vec F S4096x1 .f32 → Vec F S4096x1 .f32 → Vec F S4096x1 .f32),
    nullary main_c (constantI S_ 32 0#32),
    nullary main_call0_cst (constant S_ .f32 0x00000000#32),
    binary main_v2 main_call0_cst main_call0_v0 ((fun x v => Host.reduceAdd x v reducesTo_S4096x8_S4096_d1 h_S_) : Vec F S4096x8 .f32 → Vec F S_ .f32 → Vec F S4096 .f32),
    unary main_call0_v0 main_call0_v1 (broadcastInDim S4096x1 ![0] bcast_S4096_S4096x1_0 : Vec F S4096 .f32 → Vec F S4096x1 .f32),
    nullary main_call0_cst_0 (constant S_ .f32 0x41000000#32),
    unary main_call0_cst_0 main_call0_v2 (broadcastInDim S4096x1 ![] bcast_S_S4096x1 : Vec F S_ .f32 → Vec F S4096x1 .f32),
    binary main_call0_v1 main_call0_v2 main_call0_v3 (Host.divf : Vec F S4096x1 .f32 → Vec F S4096x1 .f32 → Vec F S4096x1 .f32),
    unary main_call0_v3 main_call0_v4 (broadcastInDim S4096x8 ![0, 1] bcast_S4096x1_S4096x8_0_1 : Vec F S4096x1 .f32 → Vec F S4096x8 .f32),
    binary main_v2 main_call0_v4 main_call0_v5 (subf : Vec F S4096x8 .f32 → Vec F S4096x8 .f32 → Vec F S4096x8 .f32),
    binary main_call0_v5 main_call0_v5 main_call0_v6 (mulf : Vec F S4096x8 .f32 → Vec F S4096x8 .f32 → Vec F S4096x8 .f32),
    unary main_c main_call0_v7 (sitofp .f32 : Vec F S_ .i32 → Vec F S_ .f32),
    nullary main_call0_cst_1 (constant S_ .f32 0x41000000#32),
    binary main_call0_cst_1 main_call0_v7 main_call0_v8 (subf : Vec F S_ .f32 → Vec F S_ .f32 → Vec F S_ .f32),
    nullary main_call0_cst_2 (constant S_ .f32 0x00000000#32),
    binary main_call0_v6 main_call0_cst_2 main_call0_v9 ((fun x v => Host.reduceAdd x v reducesTo_S4096x8_S4096_d1 h_S_) : Vec F S4096x8 .f32 → Vec F S_ .f32 → Vec F S4096 .f32),
    unary main_call0_v9 main_call0_v10 (broadcastInDim S4096x1 ![0] bcast_S4096_S4096x1_0 : Vec F S4096 .f32 → Vec F S4096x1 .f32),
    unary main_call0_v8 main_call0_v11 (broadcastInDim S4096x1 ![] bcast_S_S4096x1 : Vec F S_ .f32 → Vec F S4096x1 .f32),
    binary main_call0_v10 main_call0_v11 main_call0_v12 (Host.divf : Vec F S4096x1 .f32 → Vec F S4096x1 .f32 → Vec F S4096x1 .f32),
    nullary main_call0_cst_3 (constant S_ .f32 0x00000000#32),
    binary main_call0_v8 main_call0_cst_3 main_call0_v13 (cmpf .ogt : Vec F S_ .f32 → Vec F S_ .f32 → Vec F S_ .i1),
    nullary main_call0_cst_4 (constant S_ .f32 0x7FC00000#32),
    unary main_call0_cst_4 main_call0_call0_v0 (id : Vec F S_ .f32 → Vec F S_ .f32),
    unary main_call0_call0_v0 main_call0_call0_v1 (broadcastInDim S4096x1 ![] bcast_S_S4096x1 : Vec F S_ .f32 → Vec F S4096x1 .f32),
    ternary main_call0_v13 main_call0_v12 main_call0_call0_v1 main_v7 ((fun p a b => select (broadcastInDim S4096x1 ![] bcast_S_S4096x1 p) a b) : Vec F S_ .i1 → Vec F S4096x1 .f32 → Vec F S4096x1 .f32 → Vec F S4096x1 .f32),
    unary main_v6 main_v8 (broadcastInDim S4096x8 ![0, 1] bcast_S4096x1_S4096x8_0_1 : Vec F S4096x1 .f32 → Vec F S4096x8 .f32),
    binary main_v2 main_v8 main_v9 (subf : Vec F S4096x8 .f32 → Vec F S4096x8 .f32 → Vec F S4096x8 .f32),
    nullary main_cst_1 (constant S_ .f32 0x3727C5AC#32),
    unary main_cst_1 main_v10 (broadcastInDim S4096x1 ![] bcast_S_S4096x1 : Vec F S_ .f32 → Vec F S4096x1 .f32),
    binary main_v7 main_v10 main_v11 (addf : Vec F S4096x1 .f32 → Vec F S4096x1 .f32 → Vec F S4096x1 .f32),
    unary main_v11 main_v12 (Host.rsqrt : Vec F S4096x1 .f32 → Vec F S4096x1 .f32),
    unary main_v12 main_v13 (broadcastInDim S4096x8 ![0, 1] bcast_S4096x1_S4096x8_0_1 : Vec F S4096x1 .f32 → Vec F S4096x8 .f32),
    binary main_v9 main_v13 main_v14 (mulf : Vec F S4096x8 .f32 → Vec F S4096x8 .f32 → Vec F S4096x8 .f32),
    unary main_arg2 main_v15 (broadcastInDim S1x8 ![1] bcast_S8_S1x8_1 : Vec F S8 .f32 → Vec F S1x8 .f32),
    unary main_v15 main_v16 (broadcastInDim S4096x8 ![0, 1] bcast_S1x8_S4096x8_0_1 : Vec F S1x8 .f32 → Vec F S4096x8 .f32),
    binary main_v14 main_v16 main_v17 (mulf : Vec F S4096x8 .f32 → Vec F S4096x8 .f32 → Vec F S4096x8 .f32),
    unary main_arg3 main_v18 (broadcastInDim S1x8 ![1] bcast_S8_S1x8_1 : Vec F S8 .f32 → Vec F S1x8 .f32),
    unary main_v18 main_v19 (broadcastInDim S4096x8 ![0, 1] bcast_S1x8_S4096x8_0_1 : Vec F S1x8 .f32 → Vec F S4096x8 .f32),
    binary main_v17 main_v19 main_v20 (addf : Vec F S4096x8 .f32 → Vec F S4096x8 .f32 → Vec F S4096x8 .f32)]
/-- The softmax over the scaled logits. -/
def opsSoft : List (HloOp τ sig (Elt F)) :=
  [nullary main_cst_2 (constant S_ .f32 0x358637BD#32),
    binary main_arg4 main_cst_2 main_v21 (addf : Vec F S_ .f32 → Vec F S_ .f32 → Vec F S_ .f32),
    unary main_v21 main_v22 (broadcastInDim S4096x8 ![] bcast_S_S4096x8 : Vec F S_ .f32 → Vec F S4096x8 .f32),
    binary main_v20 main_v22 main_v23 (Host.divf : Vec F S4096x8 .f32 → Vec F S4096x8 .f32 → Vec F S4096x8 .f32),
    nullary main_cst_3 (constant S_ .f32 0xFF800000#32),
    binary main_v23 main_cst_3 main_v24 ((fun x v => Host.reduce FloatOps.maximumf x v reducesTo_S4096x8_S4096_d1 h_S_) : Vec F S4096x8 .f32 → Vec F S_ .f32 → Vec F S4096 .f32),
    nullary main_cst_4 (constant S_ .f32 0xFF800000#32),
    unary main_cst_4 main_v25 (broadcastInDim S4096 ![] bcast_S_S4096 : Vec F S_ .f32 → Vec F S4096 .f32),
    binary main_v25 main_v24 main_v26 (maximumf : Vec F S4096 .f32 → Vec F S4096 .f32 → Vec F S4096 .f32),
    unary main_v26 main_v27 (broadcastInDim S4096x1 ![0] bcast_S4096_S4096x1_0 : Vec F S4096 .f32 → Vec F S4096x1 .f32),
    unary main_v27 main_v28 (broadcastInDim S4096x8 ![0, 1] bcast_S4096x1_S4096x8_0_1 : Vec F S4096x1 .f32 → Vec F S4096x8 .f32),
    binary main_v23 main_v28 main_v29 (subf : Vec F S4096x8 .f32 → Vec F S4096x8 .f32 → Vec F S4096x8 .f32),
    unary main_v29 main_v30 (Host.exp : Vec F S4096x8 .f32 → Vec F S4096x8 .f32),
    nullary main_cst_5 (constant S_ .f32 0x00000000#32),
    binary main_v30 main_cst_5 main_v31 ((fun x v => Host.reduceAdd x v reducesTo_S4096x8_S4096_d1 h_S_) : Vec F S4096x8 .f32 → Vec F S_ .f32 → Vec F S4096 .f32),
    unary main_v31 main_v32 (broadcastInDim S4096x1 ![0] bcast_S4096_S4096x1_0 : Vec F S4096 .f32 → Vec F S4096x1 .f32),
    unary main_v32 main_v33 (broadcastInDim S4096x8 ![0, 1] bcast_S4096x1_S4096x8_0_1 : Vec F S4096x1 .f32 → Vec F S4096x8 .f32),
    binary main_v30 main_v33 main_v34 (Host.divf : Vec F S4096x8 .f32 → Vec F S4096x8 .f32 → Vec F S4096x8 .f32)]
/-- The two largest weights of each token and the index pairs they are scattered at, begun. -/
def opsTop : List (HloOp τ sig (Elt F)) :=
  [unary main_v34 main_values ((fun x => (Host.topK S4096x2 1 (FloatOps.cmpfTotal .gt) x sliceFits_S4096x8_S4096x2).1) : Vec F S4096x8 .f32 → Vec F S4096x2 .f32),
    unary main_v34 main_indices ((fun x => (Host.topK S4096x2 1 (FloatOps.cmpfTotal .gt) x sliceFits_S4096x8_S4096x2).2) : Vec F S4096x8 .f32 → Vec F S4096x2 .i32),
    nullary main_cst_6 (constant S_ .f32 0x00000000#32),
    unary main_cst_6 main_v35 (broadcastInDim S4096x8 ![] bcast_S_S4096x8 : Vec F S_ .f32 → Vec F S4096x8 .f32),
    nullary main_v36 (iotaInDim S4096 32 0),
    unary main_v36 main_v37 (broadcastInDim S4096x1 ![0] bcast_S4096_S4096x1_0 : Vec F S4096 .i32 → Vec F S4096x1 .i32),
    nullary main_c_7 (constantI S_ 32 0#32),
    unary main_c_7 main_v38 (broadcastInDim S4096x1 ![] bcast_S_S4096x1 : Vec F S_ .i32 → Vec F S4096x1 .i32),
    binary main_v37 main_v38 main_v39 (cmpi .slt : Vec F S4096x1 .i32 → Vec F S4096x1 .i32 → Vec F S4096x1 .i1),
    nullary main_c_8 (constantI S_ 32 4096#32),
    unary main_c_8 main_v40 (broadcastInDim S4096x1 ![] bcast_S_S4096x1 : Vec F S_ .i32 → Vec F S4096x1 .i32),
    binary main_v37 main_v40 main_v41 (addi : Vec F S4096x1 .i32 → Vec F S4096x1 .i32 → Vec F S4096x1 .i32),
    ternary main_v39 main_v41 main_v37 main_v42 (select : Vec F S4096x1 .i1 → Vec F S4096x1 .i32 → Vec F S4096x1 .i32 → Vec F S4096x1 .i32),
    nullary main_c_9 (constantI S_ 32 0#32),
    unary main_c_9 main_v43 (broadcastInDim S4096x2 ![] bcast_S_S4096x2 : Vec F S_ .i32 → Vec F S4096x2 .i32),
    binary main_indices main_v43 main_v44 (cmpi .slt : Vec F S4096x2 .i32 → Vec F S4096x2 .i32 → Vec F S4096x2 .i1),
    nullary main_c_10 (constantI S_ 32 8#32)]
/-- The index pairs finished, and the scatter. -/
def opsScat : List (HloOp τ sig (Elt F)) :=
  [unary main_c_10 main_v45 (broadcastInDim S4096x2 ![] bcast_S_S4096x2 : Vec F S_ .i32 → Vec F S4096x2 .i32),
    binary main_indices main_v45 main_v46 (addi : Vec F S4096x2 .i32 → Vec F S4096x2 .i32 → Vec F S4096x2 .i32),
    ternary main_v44 main_v46 main_indices main_v47 (select : Vec F S4096x2 .i1 → Vec F S4096x2 .i32 → Vec F S4096x2 .i32 → Vec F S4096x2 .i32),
    unary main_v42 main_v48 (broadcastInDim S4096x2 ![0, 1] bcast_S4096x1_S4096x2_0_1 : Vec F S4096x1 .i32 → Vec F S4096x2 .i32),
    unary main_v48 main_v49 (broadcastInDim S4096x2x1 ![0, 1] bcast_S4096x2_S4096x2x1_0_1 : Vec F S4096x2 .i32 → Vec F S4096x2x1 .i32),
    unary main_v47 main_v50 (broadcastInDim S4096x2x1 ![0, 1] bcast_S4096x2_S4096x2x1_0_1 : Vec F S4096x2 .i32 → Vec F S4096x2x1 .i32),
    binary main_v49 main_v50 main_v51 (pairUp : Vec F S4096x2x1 .i32 → Vec F S4096x2x1 .i32 → Vec F S4096x2x2 .i32),
    ternary main_v35 main_v51 main_values main_v52 ((fun x i u => Host.scatter scatter_S4096x8_S4096x2x2_S4096x2_n_01_01_2 (fun _ b => b) x i u) : Vec F S4096x8 .f32 → Vec F S4096x2x2 .i32 → Vec F S4096x2 .f32 → Vec F S4096x8 .f32)]
/-- The loss of the dispatch weights and the logits. -/
def opsLoss : List (HloOp τ sig (Elt F)) :=
  [reshape main_v52 main_v53 (rfl : (.f32 : EltTy) = .f32) shapeCasts_S4096x8_S2x2048x8,
    nullary main_cst_11 (constant S_ .f32 0x00000000#32),
    binary main_v53 main_cst_11 main_v54 ((fun x v => Host.reduceAdd x v reducesTo_S2x2048x8_S2x8_d1 h_S_) : Vec F S2x2048x8 .f32 → Vec F S_ .f32 → Vec F S2x8 .f32),
    nullary main_cst_12 (constant S_ .f32 0x45000000#32),
    unary main_cst_12 main_v55 (broadcastInDim S2x8 ![] bcast_S_S2x8 : Vec F S_ .f32 → Vec F S2x8 .f32),
    binary main_v54 main_v55 main_v56 (Host.divf : Vec F S2x8 .f32 → Vec F S2x8 .f32 → Vec F S2x8 .f32),
    nullary main_c_13 (constantI S_ 32 1#32),
    nullary main_call1_call0_cst (constant S_ .f32 0x00000000#32),
    binary main_v56 main_call1_call0_cst main_call1_call0_v0 ((fun x v => Host.reduceAdd x v reducesTo_S2x8_S_d0_1 h_S_) : Vec F S2x8 .f32 → Vec F S_ .f32 → Vec F S_ .f32),
    unary main_call1_call0_v0 main_call1_call0_v1 (broadcastInDim S1x1 ![] bcast_S_S1x1 : Vec F S_ .f32 → Vec F S1x1 .f32),
    nullary main_call1_call0_cst_0 (constant S_ .f32 0x41800000#32),
    unary main_call1_call0_cst_0 main_call1_call0_v2 (broadcastInDim S1x1 ![] bcast_S_S1x1 : Vec F S_ .f32 → Vec F S1x1 .f32),
    binary main_call1_call0_v1 main_call1_call0_v2 main_call1_call0_v3 (Host.divf : Vec F S1x1 .f32 → Vec F S1x1 .f32 → Vec F S1x1 .f32),
    unary main_call1_call0_v3 main_call1_call0_v4 (broadcastInDim S2x8 ![0, 1] bcast_S1x1_S2x8_0_1 : Vec F S1x1 .f32 → Vec F S2x8 .f32),
    binary main_v56 main_call1_call0_v4 main_call1_call0_v5 (subf : Vec F S2x8 .f32 → Vec F S2x8 .f32 → Vec F S2x8 .f32),
    binary main_call1_call0_v5 main_call1_call0_v5 main_call1_call0_v6 (mulf : Vec F S2x8 .f32 → Vec F S2x8 .f32 → Vec F S2x8 .f32),
    unary main_c_13 main_call1_call0_v7 (sitofp .f32 : Vec F S_ .i32 → Vec F S_ .f32),
    nullary main_call1_call0_cst_1 (constant S_ .f32 0x41800000#32),
    binary main_call1_call0_cst_1 main_call1_call0_v7 main_call1_call0_v8 (subf : Vec F S_ .f32 → Vec F S_ .f32 → Vec F S_ .f32),
    nullary main_call1_call0_cst_2 (constant S_ .f32 0x00000000#32),
    binary main_call1_call0_v6 main_call1_call0_cst_2 main_call1_call0_v9 ((fun x v => Host.reduceAdd x v reducesTo_S2x8_S_d0_1 h_S_) : Vec F S2x8 .f32 → Vec F S_ .f32 → Vec F S_ .f32),
    binary main_call1_call0_v9 main_call1_call0_v8 main_call1_call0_v10 (Host.divf : Vec F S_ .f32 → Vec F S_ .f32 → Vec F S_ .f32),
    nullary main_call1_call0_cst_3 (constant S_ .f32 0x00000000#32),
    binary main_call1_call0_v8 main_call1_call0_cst_3 main_call1_call0_v11 (cmpf .ogt : Vec F S_ .f32 → Vec F S_ .f32 → Vec F S_ .i1),
    nullary main_call1_call0_cst_4 (constant S_ .f32 0x7FC00000#32),
    unary main_call1_call0_cst_4 main_call1_call0_call0_v0 (id : Vec F S_ .f32 → Vec F S_ .f32),
    ternary main_call1_call0_v11 main_call1_call0_v10 main_call1_call0_call0_v0 main_call1_v0 (select : Vec F S_ .i1 → Vec F S_ .f32 → Vec F S_ .f32 → Vec F S_ .f32),
    unary main_call1_v0 main_v57 (Host.sqrt : Vec F S_ .f32 → Vec F S_ .f32),
    nullary main_cst_14 (constant S_ .f32 0x00000000#32),
    binary main_v56 main_cst_14 main_v58 ((fun x v => Host.reduceAdd x v reducesTo_S2x8_S_d0_1 h_S_) : Vec F S2x8 .f32 → Vec F S_ .f32 → Vec F S_ .f32),
    nullary main_cst_15 (constant S_ .f32 0x41800000#32),
    binary main_v58 main_cst_15 main_v59 (Host.divf : Vec F S_ .f32 → Vec F S_ .f32 → Vec F S_ .f32),
    binary main_v57 main_v59 main_v60 (Host.divf : Vec F S_ .f32 → Vec F S_ .f32 → Vec F S_ .f32),
    nullary main_cst_16 (constant S_ .f32 0x41200000#32),
    binary main_v60 main_cst_16 main_v61 (mulf : Vec F S_ .f32 → Vec F S_ .f32 → Vec F S_ .f32),
    binary main_v20 main_v20 main_v62 (mulf : Vec F S4096x8 .f32 → Vec F S4096x8 .f32 → Vec F S4096x8 .f32),
    nullary main_cst_17 (constant S_ .f32 0x00000000#32),
    binary main_v62 main_cst_17 main_v63 ((fun x v => Host.reduceAdd x v reducesTo_S4096x8_S_d0_1 h_S_) : Vec F S4096x8 .f32 → Vec F S_ .f32 → Vec F S_ .f32),
    nullary main_cst_18 (constant S_ .f32 0x47000000#32),
    binary main_v63 main_cst_18 main_v64 (Host.divf : Vec F S_ .f32 → Vec F S_ .f32 → Vec F S_ .f32),
    nullary main_cst_19 (constant S_ .f32 0x3A83126F#32),
    binary main_cst_19 main_v64 main_v65 (mulf : Vec F S_ .f32 → Vec F S_ .f32 → Vec F S_ .f32),
    nullary main_cst_20 (constant S_ .f32 0x3DCCCCCD#32),
    binary main_cst_20 main_v61 main_v66 (mulf : Vec F S_ .f32 → Vec F S_ .f32 → Vec F S_ .f32),
    binary main_v65 main_v66 main_v67 (addf : Vec F S_ .f32 → Vec F S_ .f32 → Vec F S_ .f32)]

/-- All of them. -/
def opsAll : List (HloOp τ sig (Elt F)) := (opsProj ++ (opsLogits ++ (opsSoft ++ opsTop))) ++ (opsScat ++ opsLoss)

theorem part0_eq (c : Dev nD) : main_part0 (F := F) c = seq (opsProj ++ (opsLogits ++ (opsSoft ++ opsTop))) := rfl
theorem part1_eq (c : Dev nD) : main_part1 (F := F) c = seq (opsScat ++ opsLoss) := rfl
theorem main_eq (c : Dev nD) : main (F := F) c = seq opsAll := by
  rw [opsAll, seq_append, ← part0_eq c, ← part1_eq c]
  rfl

/-- The buffers a stage writes are among `ws`. -/
abbrev Writes (ops : List (HloOp τ sig (Elt F))) (ws : List (Ref sig .tc)) : Prop :=
  ops.Forall fun op => op.writes ⊆ (ws.map (Proc.devRef (τ := τ) .tc)).toFinset

theorem writes_proj : Writes (F := F) opsProj [main_v0, main_v1, main_v2] :=
  forall_writes_sub_of_map rfl
theorem writes_logits : Writes (F := F) opsLogits [main_cst, main_v3, main_v4, main_cst_0, main_v5, main_v6, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v7, main_v8, main_v9, main_cst_1, main_v10, main_v11, main_v12, main_v13, main_v14, main_v15, main_v16, main_v17, main_v18, main_v19, main_v20] :=
  forall_writes_sub_of_map rfl
theorem writes_soft : Writes (F := F) opsSoft [main_cst_2, main_v21, main_v22, main_v23, main_cst_3, main_v24, main_cst_4, main_v25, main_v26, main_v27, main_v28, main_v29, main_v30, main_cst_5, main_v31, main_v32, main_v33, main_v34] :=
  forall_writes_sub_of_map rfl
theorem writes_top : Writes (F := F) opsTop [main_values, main_indices, main_cst_6, main_v35, main_v36, main_v37, main_c_7, main_v38, main_v39, main_c_8, main_v40, main_v41, main_v42, main_c_9, main_v43, main_v44, main_c_10] :=
  forall_writes_sub_of_map rfl
theorem writes_scat : Writes (F := F) opsScat [main_v45, main_v46, main_v47, main_v48, main_v49, main_v50, main_v51, main_v52] :=
  forall_writes_sub_of_map rfl
theorem writes_loss : Writes (F := F) opsLoss [main_v53, main_cst_11, main_v54, main_cst_12, main_v55, main_v56, main_c_13, main_call1_call0_cst, main_call1_call0_v0, main_call1_call0_v1, main_call1_call0_cst_0, main_call1_call0_v2, main_call1_call0_v3, main_call1_call0_v4, main_call1_call0_v5, main_call1_call0_v6, main_call1_call0_v7, main_call1_call0_cst_1, main_call1_call0_v8, main_call1_call0_cst_2, main_call1_call0_v9, main_call1_call0_v10, main_call1_call0_cst_3, main_call1_call0_v11, main_call1_call0_cst_4, main_call1_call0_call0_v0, main_call1_v0, main_v57, main_cst_14, main_v58, main_cst_15, main_v59, main_v60, main_cst_16, main_v61, main_v62, main_cst_17, main_v63, main_cst_18, main_v64, main_cst_19, main_v65, main_cst_20, main_v66, main_v67] :=
  forall_writes_sub_of_map rfl

end Cert.Proof.Ref

end
-- ==== Proof.Token.lean ====
/-
  The router over the extended reals, a token at a time: the projection of its row on the experts, the layer norm, the
  exponentials and the softmax; and the loss of the experts' loads and the sum of squares.
-/
module

public import Idealize.ShloMosaic.Lib.Pointwise

@[expose] public section

noncomputable section

namespace Cert.Proof

open Idealize.ShloMosaic

/-- A token's projection on the experts. -/
def pr (w : Fin 8 → Fin 1024 → EReal) (x : Fin 1024 → EReal) (e : Fin 8) : EReal := ∑ k, w e k * x k

/-- The mean over the experts. -/
def mean8 (v : Fin 8 → EReal) : EReal := Ideal.div (∑ e, v e) (Ideal.ofBits .f32 0x41000000#32)

/-- The layer norm of the projections, with its gain and bias. -/
def lg (p g b : Fin 8 → EReal) (e : Fin 8) : EReal :=
  (p e - mean8 p) * Ideal.rsqrt (mean8 (fun i => (p i - mean8 p) * (p i - mean8 p)) + Ideal.ofBits .f32 0x3727C5AC#32) * g e + b e

/-- A logit over the temperature. -/
def sc (L : Fin 8 → EReal) (t : EReal) (e : Fin 8) : EReal := Ideal.div (L e) (t + Ideal.ofBits .f32 0x358637BD#32)

/-- The exponential of a scaled logit less the greatest. -/
def ex (S : Fin 8 → EReal) (e : Fin 8) : EReal := Ideal.exp (S e - Finset.univ.fold max (Ideal.ofBits .f32 0xFF800000#32) S)

/-- A routing weight of the exponentials. -/
def sm (E : Fin 8 → EReal) (e : Fin 8) : EReal := Ideal.div (E e) (∑ i, E i)

/-- A token's logits. -/
def lgt (w : Fin 8 → Fin 1024 → EReal) (g b : Fin 8 → EReal) (x : Fin 1024 → EReal) : Fin 8 → EReal := lg (pr w x) g b

/-- A token's routing weights. -/
def wt (w : Fin 8 → Fin 1024 → EReal) (g b : Fin 8 → EReal) (t : EReal) (x : Fin 1024 → EReal) : Fin 8 → EReal :=
  sm (ex (sc (lgt w g b x) t))

/-- The sum of the sixteen loads. -/
def sum16 (A : Fin 2 → Fin 8 → EReal) : EReal := ∑ i, ∑ e, A i e

/-- The mean of the sixteen loads. -/
def mean16 (A : Fin 2 → Fin 8 → EReal) : EReal := Ideal.div (sum16 A) (Ideal.ofBits .f32 0x41800000#32)

/-- The balance of the loads: ten times their sample deviation over their mean. -/
def bal (A : Fin 2 → Fin 8 → EReal) : EReal :=
  Ideal.div (Ideal.sqrt (Ideal.div (sum16 fun i e => (A i e - mean16 A) * (A i e - mean16 A)) (Ideal.ofBits .f32 0x41700000#32))) (mean16 A)
    * Ideal.ofBits .f32 0x41200000#32

/-- The loss of the loads and the mean of the logits' squares. -/
def los (A : Fin 2 → Fin 8 → EReal) (z : EReal) : EReal :=
  Ideal.ofBits .f32 0x3A83126F#32 * z + Ideal.ofBits .f32 0x3DCCCCCD#32 * bal A

theorem ofBits_ninf : Ideal.ofBits .f32 0xFF800000#32 = (⊥ : EReal) := by simp [Ideal.ofBits, Ideal.ieee]
theorem ofBits_15 : Ideal.ofBits .f32 0x41700000#32 = ((15 : ℝ) : EReal) := by simp [Ideal.ofBits, Ideal.ieee]; rw [← EReal.coe_mul]; norm_num
theorem ofBits_16 : Ideal.ofBits .f32 0x41800000#32 = ((16 : ℝ) : EReal) := by simp [Ideal.ofBits, Ideal.ieee]; rw [← EReal.coe_mul]; norm_num
theorem ofBits_8 : Ideal.ofBits .f32 0x41000000#32 = ((8 : ℝ) : EReal) := by simp [Ideal.ofBits, Ideal.ieee]; rw [← EReal.coe_mul]; norm_num
theorem ofBits_2048 : Ideal.ofBits .f32 0x45000000#32 = ((2048 : ℝ) : EReal) := by simp [Ideal.ofBits, Ideal.ieee]; rw [← EReal.coe_mul]; norm_num
theorem ofBits_inv2048 : Ideal.ofBits .f32 0x3A000000#32 = ((2048 : ℝ) : EReal)⁻¹ := by
  rw [← EReal.coe_inv]; simp [Ideal.ofBits, Ideal.ieee]; rw [← EReal.coe_mul]; norm_num
theorem ofBits_32768 : Ideal.ofBits .f32 0x47000000#32 = ((32768 : ℝ) : EReal) := by simp [Ideal.ofBits, Ideal.ieee]; rw [← EReal.coe_mul]; norm_num
theorem ofBits_inv32768 : Ideal.ofBits .f32 0x38000000#32 = ((32768 : ℝ) : EReal)⁻¹ := by
  rw [← EReal.coe_inv]; simp [Ideal.ofBits, Ideal.ieee]; rw [← EReal.coe_mul]; norm_num

/-- A quotient by a real other than zero is the product with its inverse. -/
theorem div_coe (x : EReal) {r : ℝ} (h : r ≠ 0) : Ideal.div x (r : EReal) = x * (r : EReal)⁻¹ := by
  unfold Ideal.div
  rw [if_neg (by exact_mod_cast h)]

theorem bot_div {r : ℝ} (h : 0 < r) : Ideal.div ⊥ (r : EReal) = ⊥ := by
  rw [div_coe _ h.ne', ← EReal.coe_inv]
  exact EReal.bot_mul_coe_of_pos (inv_pos.mpr h)

theorem top_div {r : ℝ} (h : 0 < r) : Ideal.div ⊤ (r : EReal) = ⊤ := by
  rw [div_coe _ h.ne', ← EReal.coe_inv]
  exact EReal.top_mul_coe_of_pos (inv_pos.mpr h)

theorem sum_bot {ι : Type} [Fintype ι] [DecidableEq ι] (f : ι → EReal) {i : ι} (h : f i = ⊥) : ∑ j, f j = ⊥ := by
  rw [← Finset.add_sum_erase _ _ (Finset.mem_univ i), h, EReal.bot_add]

theorem exp_nonneg (x : EReal) : 0 ≤ Ideal.exp x := by
  induction x with
  | bot => exact le_rfl
  | top => exact le_top
  | coe r => exact EReal.coe_nonneg.mpr (Real.exp_pos r).le

/-- A token's routing weights are above the least value throughout, or the least value throughout. -/
theorem wt_even (w : Fin 8 → Fin 1024 → EReal) (g b : Fin 8 → EReal) (t : EReal) (x : Fin 1024 → EReal) :
    (∀ e, ⊥ < wt w g b t x e) ∨ ∀ e, wt w g b t x e = ⊥ := by
  unfold wt
  generalize sc (lgt w g b x) t = S
  have h0 : ∀ e, 0 ≤ ex S e := fun e => exp_nonneg _
  by_cases h : ∑ i, ex S i = 0
  · refine .inr fun e => ?_
    have he : ex S e = 0 := (Finset.sum_eq_zero_iff_of_nonneg fun i _ => h0 i).mp h e (Finset.mem_univ e)
    unfold sm Ideal.div
    rw [if_pos h, he, if_neg (lt_irrefl _)]
  · refine .inl fun e => ?_
    unfold sm Ideal.div
    rw [if_neg h]
    exact lt_of_lt_of_le EReal.bot_lt_zero (mul_nonneg (h0 e) (EReal.inv_nonneg_of_nonneg (Finset.sum_nonneg fun i _ => h0 i)))

/-- Loads of which one is the least value have balance zero. -/
theorem bal_bot {A : Fin 2 → Fin 8 → EReal} {i : Fin 2} {e : Fin 8} (h : A i e = ⊥) : bal A = 0 := by
  have hs : sum16 A = ⊥ := sum_bot (fun i => ∑ e, A i e) (i := i) (sum_bot _ h)
  have hm : mean16 A = ⊥ := by rw [mean16, hs, ofBits_16]; exact bot_div (by norm_num)
  have hq : ∀ i e, (A i e - mean16 A) * (A i e - mean16 A) = ⊤ := fun i e => by
    rw [hm]
    by_cases hb : A i e = ⊥
    · rw [hb]; rfl
    · rw [sub_eq_add_neg, EReal.neg_bot, EReal.add_top_of_ne_bot hb]; rfl
  have hv : (sum16 fun i e => (A i e - mean16 A) * (A i e - mean16 A)) = ⊤ := by
    simp only [hq]
    unfold sum16
    simp only [Fin.sum_univ_eight, Fin.sum_univ_two, EReal.top_add_top]
  unfold bal
  rw [hv, ofBits_15, top_div (by norm_num), hm]
  show Ideal.div ⊤ ⊥ * _ = 0
  simp [Ideal.div]

end Cert.Proof

end
-- ==== Proof.KernVal.lean ====
/-
  The kernel's routing weights, sums of squares and loss, read at one element over the extended reals.
-/
module

public import proofs.«01_k».proof.Proof.Run
public import proofs.«01_k».proof.Proof.Token

@[expose] public section

set_option maxRecDepth 16384

noncomputable section

namespace Cert.Proof

open Cert.KernelIdeal Cert.KernelIdeal.Gen
open Idealize.ShloMosaic

/-- The sum of a vector's two entries, read as one block. -/
theorem sum_two (v : FVec Ideal S1x2x1x1 .f32) : Ideal.reduceAdd reduces_S1x2x1x1_S1 v (ix1 0) = ∑ i : Fin 2, v (ix4 0 i 0 0) := by
  haveI : Subsingleton S1.Idx := ⟨fun a b => funext fun x => by
    fin_cases x; exact Subsingleton.elim (α := Fin 1) _ _⟩
  show ∑ i ∈ Finset.univ.filter (fun i => reduces_S1x2x1x1_S1.drop i = ix1 0), v i = _
  rw [Finset.filter_true_of_mem fun i _ => Subsingleton.elim _ _, sum_idx4]
  simp

theorem pay17_apply (w : Vec Ideal S8x1024 .f32) (x : Vec Ideal S1024x1024 .f32) (g b : Vec Ideal S8x1 .f32) (e : Fin 8) (j : Fin 1024) :
    k0_pay17 (F := Ideal) w x g b (ix2 e j)
      = lgt (fun e k => w (ix2 e k)) (fun e => g (ix2 e 0)) (fun e => b (ix2 e 0)) (fun k => x (ix2 j k)) e := by
  unfold lgt lg mean8 pr
  pointwise [k0_pay17]

theorem pay18_apply (w : Vec Ideal S8x1024 .f32) (x : Vec Ideal S1024x1024 .f32) (g b : Vec Ideal S8x1 .f32) (t : Vec Ideal S1x1 .f32) (e : Fin 8) (j : Fin 1024) :
    k0_pay18 (F := Ideal) w x g b t (ix2 e j) = ex (sc (fun e => k0_pay17 (F := Ideal) w x g b (ix2 e j)) (t (ix2 0 0))) e := by
  unfold k0_pay18
  generalize k0_pay17 w x g b = L
  unfold ex sc
  pointwise

theorem pay19_apply (E : FVec Ideal S8x1024 .f32) (e : Fin 8) (j : Fin 1024) :
    k0_pay19 (F := Ideal) E (ix2 e j) = sm (fun e => E (ix2 e j)) e := by
  unfold sm
  pointwise [k0_pay19]

theorem pay20_apply (L : FVec Ideal S8x1024 .f32) :
    k0_pay20 (F := Ideal) L (ix3 0 0 1) = ∑ e : Fin 8, ∑ j : Fin 1024, L (ix2 e j) * L (ix2 e j) := by
  pointwise [k0_pay20]
  rfl

theorem pay15_apply (D : FVec Ideal S8x1024 .f32) (e : Fin 8) :
    k3_pay15 (F := Ideal) D (ix3 0 e 0) = ∑ j : Fin 1024, D (ix2 e j) := by
  pointwise [k3_pay15, k3_pay13]

theorem pay2_apply (A Z : FVec Ideal S2x8x128 .f32) (l : Fin 128) :
    k3_pay2 (F := Ideal) A Z (ix2 0 l) = los (fun i e => A (ix3 i e 0) * Ideal.ofBits .f32 0x3A000000#32)
      ((∑ i : Fin 2, Z (ix3 i 0 1)) * Ideal.ofBits .f32 0x38000000#32) := by
  unfold los bal mean16 sum16
  pointwise [k3_pay2]
  rw [sum_two]
  pointwise
  rfl

end Cert.Proof

end
-- ==== Proof.Loss.lean ====
/-
  The kernel's loss over the extended reals: the loss of the dispatch weights' loads and of the logits' squares.
-/
module

public import proofs.«01_k».proof.Proof.KernVal
public import Idealize.ShloMosaic.Lib.Pipeline.ValueKit.Point

@[expose] public section

set_option maxRecDepth 16384

noncomputable section

namespace Cert.Proof

open Cert.KernelIdeal Cert.KernelIdeal.Gen
open Idealize.ShloMosaic Idealize.ShloMosaic.StableHlo

local notation "Val₀" => Valuation τ sig (Elt Ideal)

/-! ## The blocks -/

theorem idx9 : ∀ t : Fin grid0.N, win0_9.index t 0 = t.val ∧ win0_9.index t 1 = 0 := by decide
theorem idx10 : ∀ t : Fin grid0.N, win0_10.index t 0 = 0 ∧ win0_10.index t 1 = 0 := by decide
theorem idx11 : ∀ t : Fin grid0.N, win0_11.index t 0 = 0 ∧ win0_11.index t 1 = 0 := by decide
theorem idx12 : ∀ t : Fin grid0.N, win0_12.index t 0 = 0 ∧ win0_12.index t 1 = 0 := by decide
theorem idx13a : ∀ t : Fin grid0.N, win0_13.index t 0 = 0 ∧ win0_13.index t 1 = 0 := by decide
theorem idx5 : ∀ t : Fin grid3.N, win3_5.index t 0 = 0 ∧ win3_5.index t 1 = t.val := by decide
theorem idx11a : ∀ t : Fin grid3.N, win3_11.index t 0 = 0 ∧ win3_11.index t 1 = 0 ∧ win3_11.index t 2 = 0 := by decide

variable (W : Val₀)

theorem lt0 (t : Fin cfg0.N) : t.val < 4 := lt_of_lt_of_eq t.isLt N_0
theorem lt3 (t : Fin cfg3.N) : t.val < 4 := lt_of_lt_of_eq t.isLt N_3

theorem tok_apply (t : Fin cfg0.N) (j k : Fin 1024) :
    tok (F := Ideal) W t (ix2 j k) = (W (Proc.devRef .tc main_v0) : Vec Ideal S4096x1024 .f32) (ix2 ⟨1024 * t.val + j.val, by have := lt0 t; omega⟩ k) := by
  have i0 : win0_9.index t (0 : Fin 2) = t.val := (idx9 t).1
  have i1 : win0_9.index t (1 : Fin 2) = 0 := (idx9 t).2
  blk_ext [tok, i0, i1]

theorem rtr_apply (t : Fin cfg0.N) (e : Fin 8) (k : Fin 1024) :
    rtr (F := Ideal) W t (ix2 e k) = (W (Proc.devRef .tc main_arg1) : Vec Ideal S8x1024 .f32) (ix2 e k) := by
  have i0 : win0_10.index t (0 : Fin 2) = 0 := (idx10 t).1
  have i1 : win0_10.index t (1 : Fin 2) = 0 := (idx10 t).2
  blk_ext [rtr, i0, i1]

theorem gain_apply (t : Fin cfg0.N) (e : Fin 8) :
    gain (F := Ideal) W t (ix2 e 0) = (W (Proc.devRef .tc main_v1) : Vec Ideal S8x1 .f32) (ix2 e 0) := by
  have i0 : win0_11.index t (0 : Fin 2) = 0 := (idx11 t).1
  have i1 : win0_11.index t (1 : Fin 2) = 0 := (idx11 t).2
  blk_ext [gain, i0, i1]

theorem bias_apply (t : Fin cfg0.N) (e : Fin 8) :
    bias (F := Ideal) W t (ix2 e 0) = (W (Proc.devRef .tc main_v2) : Vec Ideal S8x1 .f32) (ix2 e 0) := by
  have i0 : win0_12.index t (0 : Fin 2) = 0 := (idx12 t).1
  have i1 : win0_12.index t (1 : Fin 2) = 0 := (idx12 t).2
  blk_ext [bias, i0, i1]

theorem temp_apply (t : Fin cfg0.N) :
    temp (F := Ideal) W t (ix2 0 0) = (W (Proc.devRef .tc main_v3) : Vec Ideal S1x1 .f32) (ix2 0 0) := by
  have i0 : win0_13.index t (0 : Fin 2) = 0 := (idx13a t).1
  have i1 : win0_13.index t (1 : Fin 2) = 0 := (idx13a t).2
  blk_ext [temp, i0, i1]

/-- The dispatch weight of expert `e` and the token in row `c`. -/
def dispatch (e : Fin 8) (c : Fin 4096) : EReal := (W (Proc.devRef .tc main_v5) : Vec Ideal S8x4096 .f32) (ix2 e c)

/-- The sum of squares kept for group `i`. -/
def squareSum (i : Fin 2) : EReal := (W (Proc.devRef .tc main_v4_9) : Vec Ideal S2x8x128 .f32) (ix3 i 0 1)

theorem dispOf_apply (t : Fin cfg3.N) (e : Fin 8) (j : Fin 1024) :
    dispOf (F := Ideal) W t (ix2 e j) = dispatch W e ⟨1024 * t.val + j.val, by have := lt3 t; omega⟩ := by
  have i0 : win3_5.index t (0 : Fin 2) = 0 := (idx5 t).1
  have i1 : win3_5.index t (1 : Fin 2) = t.val := (idx5 t).2
  blk_ext [dispOf, dispatch, i0, i1]

theorem zsum_apply (t : Fin cfg3.N) (i : Fin 2) :
    zsum (F := Ideal) W t (ix3 i 0 1) = squareSum W i := by
  have i0 : win3_11.index t (0 : Fin 3) = 0 := (idx11a t).1
  have i1 : win3_11.index t (1 : Fin 3) = 0 := (idx11a t).2.1
  have i2 : win3_11.index t (2 : Fin 3) = 0 := (idx11a t).2.2
  blk_ext [zsum, squareSum, i0, i1, i2]

/-! ## The arrays of the routing -/

/-- The logits of the token in row `c`. -/
def logitOf (c : Fin 4096) : Fin 8 → EReal :=
  lgt (fun e k => (W (Proc.devRef .tc main_arg1) : Vec Ideal S8x1024 .f32) (ix2 e k)) (fun e => (W (Proc.devRef .tc main_v1) : Vec Ideal S8x1 .f32) (ix2 e 0))
    (fun e => (W (Proc.devRef .tc main_v2) : Vec Ideal S8x1 .f32) (ix2 e 0)) (fun k => (W (Proc.devRef .tc main_v0) : Vec Ideal S4096x1024 .f32) (ix2 c k))

theorem logit_apply (t : Fin cfg0.N) (e : Fin 8) (j : Fin 1024) :
    k0_pay17 (F := Ideal) (rtr W t) (tok W t) (gain W t) (bias W t) (ix2 e j) = logitOf W ⟨1024 * t.val + j.val, by have := lt0 t; omega⟩ e := by
  rw [pay17_apply]
  simp only [rtr_apply, tok_apply, gain_apply, bias_apply]
  rfl

/-- The routing weights of the token in row `c`. -/
def weightOf (c : Fin 4096) : Fin 8 → EReal := sm (ex (sc (logitOf W c) ((W (Proc.devRef .tc main_v3) : Vec Ideal S1x1 .f32) (ix2 0 0))))

theorem weights_apply (t : Fin cfg0.N) (e : Fin 8) (j : Fin 1024) :
    weights (F := Ideal) W t (ix2 e j) = weightOf W ⟨1024 * t.val + j.val, by have := lt0 t; omega⟩ e := by
  rw [weights, pay19_apply]
  simp only [pay18_apply, logit_apply, temp_apply]
  rfl

theorem weightsArr_apply (e : Fin 8) (c : Fin 4096) : weightsArr (F := Ideal) W (ix2 e c) = weightOf W c e := by
  show weights (F := Ideal) W ⟨c.val / 1024, _⟩ (ix2 ⟨e.val, _⟩ ⟨c.val % 1024, _⟩) = _
  refine (weights_apply W _ _ _).trans ?_
  congr 1
  exact Fin.ext (Nat.div_add_mod c.val 1024)

/-- The sum of squares of the logits of block `t`. -/
theorem squares_apply (t : Fin cfg0.N) :
    squares (F := Ideal) W t (ix3 0 0 1) = ∑ e : Fin 8, ∑ j : Fin 1024,
      logitOf W ⟨1024 * t.val + j.val, by have := lt0 t; omega⟩ e * logitOf W ⟨1024 * t.val + j.val, by have := lt0 t; omega⟩ e := by
  rw [squares, pay20_apply]
  simp only [logit_apply]

/-! ## The dispatch sums -/

theorem k3_pay1_apply (v160 v173 : FVec Ideal S1x8x128 .f32) (i : S1x8x128.Idx) : k3_pay1 (F := Ideal) v160 v173 i = v173 i + v160 i := by
  pointwise [k3_pay1]

theorem addFst_apply (w : FVec Ideal S1x8x128 .f32) (Y : Vec Ideal S2x8x128 .f32) (i : Fin 2) (e : Fin 8) (l : Fin 128) :
    addFst w Y (ix3 i e l) = if i = 0 then Y (ix3 0 e l) + w (ix3 0 e l) else Y (ix3 i e l) := by
  unfold addFst VecWindow.put VecWindow.window
  split
  · next h =>
    have hi : i = 0 := Fin.ext (by have := (h (0 : Fin 3)).2; change i.val < 0 + 1 at this; omega)
    subst hi
    rw [if_pos rfl, k3_pay1_apply]
    congr 1
    · refine congrArg Y (funext fun a => Fin.ext ?_)
      fin_cases a
      · rfl
      · show 0 + 1 * (e.val - 0) = e.val; omega
      · show 0 + 1 * (l.val - 0) = l.val; omega
    · exact congrArg w (funext fun a => Fin.ext (by fin_cases a <;> simp [Rect.unitLocal]))
  · next h =>
    rw [if_neg]
    rintro rfl
    refine h fun a => ?_
    fin_cases a
    · exact ⟨Nat.zero_le _, Nat.one_pos⟩
    · exact ⟨Nat.zero_le _, lt_of_lt_of_eq e.isLt rfl⟩
    · exact ⟨Nat.zero_le _, lt_of_lt_of_eq l.isLt rfl⟩

theorem addSnd_apply (w : FVec Ideal S1x8x128 .f32) (Y : Vec Ideal S2x8x128 .f32) (i : Fin 2) (e : Fin 8) (l : Fin 128) :
    addSnd w Y (ix3 i e l) = if i = 1 then Y (ix3 1 e l) + w (ix3 0 e l) else Y (ix3 i e l) := by
  unfold addSnd VecWindow.put VecWindow.window
  split
  · next h =>
    have hi : i = 1 := Fin.ext (by have := (h (0 : Fin 3)).1; change 1 ≤ i.val at this; change i.val = 1; omega)
    subst hi
    rw [if_pos rfl, k3_pay1_apply]
    congr 1
    · refine congrArg Y (funext fun a => Fin.ext ?_)
      fin_cases a
      · rfl
      · show 0 + 1 * (e.val - 0) = e.val; omega
      · show 0 + 1 * (l.val - 0) = l.val; omega
    · exact congrArg w (funext fun a => Fin.ext (by fin_cases a <;> simp [Rect.unitLocal]))
  · next h =>
    rw [if_neg]
    rintro rfl
    refine h fun a => ?_
    fin_cases a
    · exact ⟨le_rfl, Nat.one_lt_two⟩
    · exact ⟨Nat.zero_le _, lt_of_lt_of_eq e.isLt rfl⟩
    · exact ⟨Nat.zero_le _, lt_of_lt_of_eq l.isLt rfl⟩

/-- A sum over two blocks of tokens, block by block. -/
theorem sum_halves (f : Fin 2048 → EReal) :
    ∑ j : Fin 2048, f j = (∑ j : Fin 1024, f ⟨j.val, by omega⟩) + ∑ j : Fin 1024, f ⟨1024 + j.val, by omega⟩ :=
  Fin.sum_univ_add (a := 1024) (b := 1024) f

/-- A sum over all tokens, half by half. -/
theorem sum_tokens (f : Fin 4096 → EReal) :
    ∑ c : Fin 4096, f c = (∑ j : Fin 2048, f ⟨j.val, by omega⟩) + ∑ j : Fin 2048, f ⟨2048 + j.val, by omega⟩ :=
  Fin.sum_univ_add (a := 2048) (b := 2048) f

/-- The dispatch sums of group `i`: the sum over its tokens. -/
theorem sums3_apply (i : Fin 2) (e : Fin 8) :
    sums3 (F := Ideal) W (ix3 i e 0) = ∑ j : Fin 2048, dispatch W e ⟨i.val * 2048 + j.val, by omega⟩ := by
  have h16 : ∀ y, k3_pay16 (F := Ideal) y = (0 : EReal) := fun y => by pointwise [k3_pay16]
  have e10 : (1 : Fin 2) ≠ 0 := by decide
  have e01 : (0 : Fin 2) ≠ 1 := by decide
  unfold sums3 sums2 sums1 sums0
  rw [sum_halves]
  fin_cases i
  · simp only [addFst_apply, addSnd_apply, pay15_apply, dispOf_apply, h16, zero_add, Fin.zero_eta, if_true, e01, if_false]
    congr 1
  · simp only [addFst_apply, addSnd_apply, pay15_apply, dispOf_apply, h16, zero_add, Fin.mk_one, if_true, e10, if_false]
    congr 1

/-- The loss's row: the loss of the loads and of the mean of the squares. -/
theorem lossRow_apply (l : Fin 128) :
    lossRow (F := Ideal) W (ix2 0 l) = los (fun i e => Ideal.div (∑ j : Fin 2048, dispatch W e ⟨i.val * 2048 + j.val, by omega⟩) (Ideal.ofBits .f32 0x45000000#32))
      (Ideal.div (∑ i : Fin 2, squareSum W i) (Ideal.ofBits .f32 0x47000000#32)) := by
  rw [lossRow, pay2_apply]
  simp only [sums3_apply, zsum_apply, ofBits_2048, ofBits_32768, ofBits_inv2048, ofBits_inv32768, div_coe _ (by norm_num : (2048 : ℝ) ≠ 0),
    div_coe _ (by norm_num : (32768 : ℝ) ≠ 0)]

/-- The sum of squares of a token's logits. -/
def squareOf (c : Fin 4096) : EReal := ∑ e : Fin 8, logitOf W c e * logitOf W c e

theorem squares_block (t : Fin cfg0.N) :
    squares (F := Ideal) W t (ix3 0 0 1) = ∑ j : Fin 1024, squareOf W ⟨1024 * t.val + j.val, by have := lt0 t; omega⟩ := by
  rw [squares_apply, Finset.sum_comm]
  rfl

theorem k0_pay1_apply (u v : FVec Ideal S1x8x128 .f32) (i : S1x8x128.Idx) : k0_pay1 (F := Ideal) u v i = v i + u i := by
  pointwise [k0_pay1]

theorem zsArr_fst : zsArr (F := Ideal) W (ix3 0 0 1) = squares W t0_0 (ix3 0 0 1) + squares W t0_1 (ix3 0 0 1) := by
  unfold zsArr
  exact (if_pos rfl).trans (k0_pay1_apply _ _ _)

theorem zsArr_snd : zsArr (F := Ideal) W (ix3 1 0 1) = squares W t0_2 (ix3 0 0 1) + squares W t0_3 (ix3 0 0 1) := by
  unfold zsArr
  exact (if_neg (show ¬ ((1 : Fin 2).val = 0) by decide)).trans (k0_pay1_apply _ _ _)

/-- A block's sum under its first token's number. -/
theorem block_at (f : Fin 4096 → EReal) {n m : ℕ} (h : n = m) (hn : ∀ j : Fin 1024, n + j.val < 4096) (hm : ∀ j : Fin 1024, m + j.val < 4096) :
    ∑ j : Fin 1024, f ⟨n + j.val, hn j⟩ = ∑ j : Fin 1024, f ⟨m + j.val, hm j⟩ := by subst h; rfl

/-- Four blocks' sums add to the sum over all tokens. -/
theorem sum_blocks (f : Fin 4096 → EReal) :
    ∑ c : Fin 4096, f c = ((∑ j : Fin 1024, f ⟨1024 * 0 + j.val, by omega⟩) + ∑ j : Fin 1024, f ⟨1024 * 1 + j.val, by omega⟩)
      + ((∑ j : Fin 1024, f ⟨1024 * 2 + j.val, by omega⟩) + ∑ j : Fin 1024, f ⟨1024 * 3 + j.val, by omega⟩) := by
  rw [sum_tokens, sum_halves, sum_halves]
  refine congrArg₂ (· + ·) (congrArg₂ (· + ·) ?_ ?_) (congrArg₂ (· + ·) ?_ ?_) <;>
    exact Finset.sum_congr rfl fun j _ => congrArg f (Fin.ext (by first | rfl | (dsimp only; omega)))

/-- The sums of squares of the two groups add to the sum over all tokens. -/
theorem zsArr_sum : ∑ i : Fin 2, zsArr (F := Ideal) W (ix3 i 0 1) = ∑ c : Fin 4096, squareOf W c := by
  refine (Fin.sum_univ_two _).trans ?_
  rw [zsArr_fst, zsArr_snd, squares_block, squares_block, squares_block, squares_block, sum_blocks]
  refine congrArg₂ (· + ·) (congrArg₂ (· + ·) ?_ ?_) (congrArg₂ (· + ·) ?_ ?_) <;> exact block_at (squareOf W) rfl _ _

variable (mem : (ℓ : Loc nD τ sig) → Buf (Elt Ideal) ℓ) (d : Dev nD)

/-- The kernel's loss. -/
theorem lossOf_apply (j : S_.Idx) :
    lossOf mem d j = los (fun i e => Ideal.div (∑ k : Fin 2048, disp (F := Ideal) (weightOf (W1 mem d) ⟨i.val * 2048 + k.val, by omega⟩) e) (Ideal.ofBits .f32 0x45000000#32))
      (Ideal.div (∑ c : Fin 4096, squareOf (W1 mem d) c) (Ideal.ofBits .f32 0x47000000#32)) := by
  have hl : lossOf mem d j = lossRow (atLoss mem d) (ix2 0 0) := by
    unfold lossOf
    generalize lossRow (atLoss mem d) = R
    pointwise
  have h9 : ∑ i : Fin 2, squareSum (atLoss mem d) i = ∑ c : Fin 4096, squareOf (W1 mem d) c := by
    rw [← zsArr_sum]
    exact Finset.sum_congr rfl fun i _ => by rw [squareSum, atLoss, Function.update_self]
  have h5 : ∀ (e : Fin 8) (c : Fin 4096), dispatch (atLoss mem d) e c = disp (F := Ideal) (weightOf (W1 mem d) c) e := fun e c => by
    rw [dispatch, atLoss, Function.update_of_ne (StableHlo.devRef_ne_of_ne (by decide +kernel)), Function.update_self]
    show disp (F := Ideal) (fun e => weightsArr (F := Ideal) (W1 mem d) (ix2 e c)) e = _
    simp only [weightsArr_apply]
  rw [hl, lossRow_apply]
  simp only [h5, h9]

end Cert.Proof

end
-- ==== Proof.RefRead.lean ====
/-
  What the reference's stages leave, read at the buffers that later stages use, and the reference's run.
-/
module

public import proofs.«01_k».proof.Proof.RefRun

@[expose] public section

set_option maxRecDepth 16384

noncomputable section

namespace Cert.Proof.Ref

open Cert.ReferenceIdeal Cert.ReferenceIdeal.Gen
open Idealize.ShloMosaic Idealize.ShloMosaic.TcCoe Idealize.SL.Sem Idealize.ShloMosaic.StableHlo

variable {F : FTy → Type} [FloatOps F] (W : Valuation τ sig (Elt F))

theorem read_proj : after opsProj W (Proc.devRef .tc main_v2) = proj (W (Proc.devRef .tc main_arg0)) (W (Proc.devRef .tc main_arg1)) := by
  unfold opsProj; after_results_simp; rfl

set_option maxHeartbeats 2000000 in
theorem read_logits : after opsLogits W (Proc.devRef .tc main_v20) = logits (W (Proc.devRef .tc main_v2)) (W (Proc.devRef .tc main_arg2)) (W (Proc.devRef .tc main_arg3)) := by
  unfold opsLogits; after_results_simp; rfl

set_option maxHeartbeats 2000000 in
theorem read_soft : after opsSoft W (Proc.devRef .tc main_v34) = soft (expo (scaled (W (Proc.devRef .tc main_v20)) (W (Proc.devRef .tc main_arg4)))) := by
  unfold opsSoft; after_results_simp; rfl

set_option maxHeartbeats 2000000 in
theorem read_scat : after opsScat (after opsTop W) (Proc.devRef .tc main_v52) = scat (W (Proc.devRef .tc main_v34)) := by
  unfold opsScat opsTop; after_results_simp; rfl

set_option maxHeartbeats 4000000 in
theorem read_loss : after opsLoss W (Proc.devRef .tc main_v67) = loss (loads (W (Proc.devRef .tc main_v52))) (W (Proc.devRef .tc main_v20)) := by
  unfold opsLoss; after_results_simp; rfl

/-- The reference's result of its arguments. -/
def result (x : Vec F S2x2048x1024 .f32) (w : Vec F S8x1024 .f32) (g b : Vec F S8 .f32) (t : Vec F S_ .f32) : Vec F S_ .f32 :=
  loss (loads (scat (soft (expo (scaled (logits (proj x w) g b) t))))) (logits (proj x w) g b)

theorem after_app (l₁ l₂ : List (HloOp τ sig (Elt F))) (V : Valuation τ sig (Elt F)) : after (l₁ ++ l₂) V = after l₂ (after l₁ V) := by
  induction l₁ generalizing V with
  | nil => rfl
  | cons a l ih => exact ih _

theorem after_all : after opsAll W
    = after opsLoss (after opsScat (after opsTop (after opsSoft (after opsLogits (after opsProj W))))) := by
  simp only [opsAll, after_app]

theorem keep {ops : List (HloOp τ sig (Elt F))} {ws : List (Ref sig .tc)} (h : Writes ops ws) (V : Valuation τ sig (Elt F))
    (r : Ref sig .tc) (hr : r ∉ ws) : after ops V (Proc.devRef .tc r) = (V (Proc.devRef .tc r)) := after_of_writes_sub ops V h hr

/-- The arguments. -/
def args : List (Ref sig .tc) := [main_arg0, main_arg1, main_arg2, main_arg3, main_arg4, main_arg5, main_arg6, main_arg7,
    main_arg8, main_arg9, main_arg10, main_arg11, main_arg12, main_arg13, main_arg14, main_arg15, main_arg16, main_arg17, main_arg18,
    main_arg19, main_arg20, main_arg21, main_arg22]

theorem keep_all (r : Ref sig .tc) (hr : r ∈ args) : after opsAll W (Proc.devRef .tc r) = W (Proc.devRef .tc r) := by
  have ne : ∀ ws : List (Ref sig .tc), (∀ a ∈ args, a ∉ ws) → r ∉ ws := fun ws h => h r hr
  rw [after_all, keep writes_loss _ r (ne _ (by decide)), keep writes_scat _ r (ne _ (by decide)), keep writes_top _ r (ne _ (by decide)),
    keep writes_soft _ r (ne _ (by decide)), keep writes_logits _ r (ne _ (by decide)), keep writes_proj _ r (ne _ (by decide))]

theorem read_all : after opsAll W (Proc.devRef .tc main_v67)
    = result (W (Proc.devRef .tc main_arg0)) (W (Proc.devRef .tc main_arg1)) (W (Proc.devRef .tc main_arg2)) (W (Proc.devRef .tc main_arg3)) (W (Proc.devRef .tc main_arg4)) := by
  rw [after_all, read_loss, read_scat, read_soft,
    keep writes_scat _ main_v20 (by decide), keep writes_top _ main_v20 (by decide), keep writes_soft _ main_v20 (by decide),
    read_logits, keep writes_logits _ main_arg4 (by decide), keep writes_proj _ main_arg4 (by decide), read_proj,
    keep writes_proj _ main_arg2 (by decide), keep writes_proj _ main_arg3 (by decide)]
  rfl

set_option maxHeartbeats 4000000 in
theorem opsAll_bufs : (opsAll (F := F)).Forall fun op => op.bufs ⊆ tcRefs τ sig := by
  refine List.forall_iff_forall_mem.2 ?_
  simp [opsAll, opsProj, opsLogits, opsSoft, opsTop, opsScat, opsLoss]

theorem opsAll_fresh : ∀ op ∈ opsAll (F := F), op.fresh = ∅ := by
  refine List.forall_iff_forall_mem.1 ?_
  simp only [opsAll, opsProj, opsLogits, opsSoft, opsTop, opsScat, opsLoss, List.cons_append, List.nil_append, List.Forall]
  repeat' (refine And.intro ?_ ?_)
  all_goals rfl

/-- The reference runs, leaves its arguments as they were, and its result is `result` of them. -/
theorem run (m : (ℓ : Loc nD τ sig) → Buf (Elt F) ℓ) (ρ : Dev nD → PrngReg) :
    θ_run (defs (F := F)) (onTc (τ := τ) main) ⟨m, fun _ => 0, ρ⟩ fun r =>
      ∀ c : Dev nD, (∀ a ∈ args, r.2.mem ((c.tc : Thread nD τ).loc a) = m ((c.tc : Thread nD τ).loc a))
        ∧ r.2.mem ((c.tc : Thread nD τ).loc main_v67)
          = result (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) := by
  refine (θ_run _ _ _).mono (fun r h c => ⟨fun a ha => (h c a).trans (keep_all _ a ha), (h c main_v67).trans (read_all _)⟩)
    (run_seq (by decide) (by decide) defs main (fun _ => opsAll) main_eq (fun _ => opsAll_bufs) m ρ (fun _ => opsAll_fresh))

end Cert.Proof.Ref

end
-- ==== Proof.RefVal.lean ====
/-
  The reference's logits, routing weights, loads and loss, read at one element over the extended reals.
-/
module

public import proofs.«01_k».proof.Proof.RefRun
public import proofs.«01_k».proof.Proof.Token

@[expose] public section

set_option maxRecDepth 16384

noncomputable section

namespace Cert.Proof.Ref

open Cert.ReferenceIdeal Cert.ReferenceIdeal.Gen
open Idealize.ShloMosaic

/-- The row of token `c`, of its group. -/
abbrev rowX (x : Vec Ideal S2x2048x1024 .f32) (c : Fin 4096) (k : Fin 1024) : EReal :=
  x (ix3 ⟨c.val / 2048, by omega⟩ ⟨c.val % 2048, by omega⟩ k)

theorem proj_apply (x : Vec Ideal S2x2048x1024 .f32) (w : Vec Ideal S8x1024 .f32) (c : Fin 4096) (e : Fin 8) :
    proj (F := Ideal) x w (ix2 c e) = pr (fun e k => w (ix2 e k)) (rowX x c) e := by
  unfold pr
  pointwise [proj]
  exact Finset.sum_congr rfl fun k _ => mul_comm _ _

theorem eight : Ideal.ofBits .f32 0x41000000#32 - FloatOps.sitofp (F := Ideal) .f32 (0#32 : BitVec 32) = Ideal.ofBits .f32 0x41000000#32 := by
  show Ideal.ofBits .f32 0x41000000#32 - ((((0#32 : BitVec 32).toInt : ℤ) : ℝ) : EReal) = _
  simp

theorem fifteen : Ideal.ofBits .f32 0x41800000#32 - FloatOps.sitofp (F := Ideal) .f32 (1#32 : BitVec 32) = Ideal.ofBits .f32 0x41700000#32 := by
  show Ideal.ofBits .f32 0x41800000#32 - ((((1#32 : BitVec 32).toInt : ℤ) : ℝ) : EReal) = _
  rw [ofBits_16, ofBits_15, ← EReal.coe_sub]
  norm_num

theorem logits_apply (P : Vec Ideal S4096x8 .f32) (g b : Vec Ideal S8 .f32) (c : Fin 4096) (e : Fin 8) :
    logits (F := Ideal) P g b (ix2 c e) = lg (fun e => P (ix2 c e)) (fun e => g (ix1 e)) (fun e => b (ix1 e)) e := by
  unfold lg mean8
  pointwise [logits, less, var]
  rw [eight, if_pos (by rw [ofBits_8]; exact_mod_cast (by norm_num : (0 : ℝ) < 8))]

theorem expo_apply (S : Vec Ideal S4096x8 .f32) (c : Fin 4096) (e : Fin 8) :
    expo (F := Ideal) S (ix2 c e) = ex (fun e => S (ix2 c e)) e := by
  unfold ex
  pointwise [expo]
  rw [ofBits_ninf, max_eq_right bot_le]

theorem scaled_apply (S : Vec Ideal S4096x8 .f32) (t : Vec Ideal S_ .f32) (c : Fin 4096) (e : Fin 8) :
    scaled (F := Ideal) S t (ix2 c e) = sc (fun e => S (ix2 c e)) (t ix0) e := by
  unfold sc
  pointwise [scaled]

theorem soft_apply (E : Vec Ideal S4096x8 .f32) (c : Fin 4096) (e : Fin 8) :
    soft (F := Ideal) E (ix2 c e) = sm (fun e => E (ix2 c e)) e := by
  unfold sm
  pointwise [soft]

theorem loads_apply (D : Vec Ideal S4096x8 .f32) (i : Fin 2) (e : Fin 8) :
    loads (F := Ideal) D (ix2 i e) = Ideal.div (∑ j : Fin 2048, D (ix2 ⟨i.val * 2048 + j.val, by omega⟩ e)) (Ideal.ofBits .f32 0x45000000#32) := by
  pointwise [loads]

theorem loss_apply (A : Vec Ideal S2x8 .f32) (L : Vec Ideal S4096x8 .f32) (j : S_.Idx) :
    loss (F := Ideal) A L j = los (fun i e => A (ix2 i e)) (Ideal.div (∑ c : Fin 4096, ∑ e : Fin 8, L (ix2 c e) * L (ix2 c e)) (Ideal.ofBits .f32 0x47000000#32)) := by
  unfold los bal mean16 sum16
  pointwise [loss, dev, lessAll]
  rw [fifteen, if_pos (by rw [ofBits_15]; exact_mod_cast (by norm_num : (0 : ℝ) < 15))]

end Cert.Proof.Ref

end
-- ==== Proof.Rank.lean ====
/-
  Over the extended reals, the running top two of a column is the stable sort's first two rows, whenever the column holds
  two values above minus infinity; so the weights the kernel writes are the column at its two greatest and zero elsewhere.
-/
module

public import proofs.«01_k».proof.Proof.Top2
public import Idealize.ShloMosaic.Lib.Pointwise.Tactic
public import Idealize.ShloMosaic.Lib.SortFacts
public import Idealize.ShloMosaic.Lib.SortPrefix

@[expose] public section

noncomputable section

namespace Cert.Proof

open Cert.KernelIdeal Cert.KernelIdeal.Gen
open Idealize.ShloMosaic

/-! ## Two greatest, ties at the earlier position -/

/-- Position `a` of the list `v` comes before `b`: its value is greater, or as great and `a` is earlier. -/
def Above {n : Nat} (v : Fin n → EReal) (a b : Fin n) : Prop := v b < v a ∨ (v b = v a ∧ a < b)

/-- `p` comes before every other position, and `q` before every other but `p`. -/
structure Greatest2 {n : Nat} (v : Fin n → EReal) (p q : Fin n) : Prop where
  ne : p ≠ q
  first : ∀ e, e ≠ p → Above v p e
  second : ∀ e, e ≠ p → e ≠ q → Above v q e

theorem Above.not_symm {n : Nat} {v : Fin n → EReal} {a b : Fin n} (h : Above v a b) : ¬ Above v b a := by
  rintro (h' | ⟨e, l⟩) <;> rcases h with h | ⟨e2, l2⟩
  · exact lt_asymm h h'
  · exact absurd e2 (ne_of_gt h')
  · exact absurd e (ne_of_gt h)
  · exact lt_asymm l l2

theorem Above.irrefl {n : Nat} {v : Fin n → EReal} {a : Fin n} (h : Above v a a) : False := h.not_symm h

/-! ## The stable sort -/

/-- A stable sort of a list of positions in increasing order by the greater value is its sort by `Above`. -/
theorem stableSort_ties {n : Nat} (v : Fin n → EReal) : ∀ l : List (Fin n), l.Pairwise (· < ·) →
    stableSort (fun a b => decide (v b < v a)) l = stableSort (fun a b => decide (v b < v a) || (decide (v a = v b) && decide (a < b))) l
  | [], _ => rfl
  | a :: l, h => by
    unfold stableSort
    rw [stableSort_ties v l (List.pairwise_cons.mp h).2]
    refine insertBefore_congr _ _ a _ fun b hb => ?_
    have hab : a < b := (List.pairwise_cons.mp h).1 b ((perm_stableSort _ l).mem_iff.mp hb)
    simp [not_lt.mpr hab.le]

theorem sortedFrom_greatest {n : Nat} (v : Fin n → EReal) {p q : Fin n} (h : Greatest2 v p q) (hn : 2 ≤ n) (i : Fin 2) :
    sortedFrom (fun a b => decide (v b < v a)) (i.castLE hn) = ![p, q] i := by
  have e : sortedFrom (fun a b => decide (v b < v a)) (i.castLE hn)
      = sortedFrom (fun a b => decide (v b < v a) || (decide (v a = v b) && decide (a < b))) (i.castLE hn) := by
    unfold sortedFrom sortPositions
    rw [List.get_of_eq (stableSort_ties v _ (List.pairwise_lt_finRange n))]; rfl
  rw [e]
  have hB : StrictTotalBefore fun a b : Fin n => decide (v b < v a) || (decide (v a = v b) && decide (a < b)) :=
    StrictTotalBefore.of_key_then_position (fun x y : EReal => decide (y < x)) v (fun a => by simp)
      (fun a b c hab hbc => by simp only [decide_eq_true_eq] at *; exact lt_trans hbc hab)
      (fun a b => by simp only [decide_eq_true_eq]; rcases lt_trichotomy a b with h | h | h <;> simp [h])
  have hno : ∀ a b : Fin n, Above v a b → (decide (v a < v b) || (decide (v b = v a) && decide (b < a))) = false := by
    intro a b hab
    have := hab.not_symm
    unfold Above at this
    push Not at this
    simp only [Bool.or_eq_false_iff, Bool.and_eq_false_iff, decide_eq_false_iff_not, not_lt]
    refine ⟨this.1, ?_⟩
    by_cases e : v b = v a
    · exact .inr (this.2 e.symm)
    · exact .inl e
  refine hB.sortedFrom_eq_of_prefix hn ![p, q] ?_ ?_ ?_ i
  · intro a b hab
    fin_cases a <;> fin_cases b
    · rfl
    · exact absurd hab h.ne
    · exact absurd hab.symm h.ne
    · rfl
  · intro a b hab
    fin_cases a <;> fin_cases b
    · exact absurd hab (by decide)
    · exact hno _ _ (h.first q h.ne.symm)
    · exact absurd hab (by decide)
    · exact absurd hab (by decide)
  · intro a e he
    have h0 : p ≠ e := he 0
    have h1 : q ≠ e := he 1
    fin_cases a
    · exact hno _ _ (h.first e h0.symm)
    · exact hno _ _ (h.second e h0.symm h1.symm)

/-! ## The running top two -/

theorem ogt_select {α : Type} (x y : Ideal .f32) (a b : α) :
    Scalar.select (FloatOps.cmpf .ogt x y) a b = if (y : EReal) < x then a else b := by
  show Scalar.select (BitVec.ofBool (decide ((y : EReal) < x))) a b = _
  by_cases h : (y : EReal) < x <;> simp [h, Scalar.select]

theorem ninf : (FloatOps.ofBits .f32 0xFF800000#32 : Ideal .f32) = (⊥ : EReal) := by
  show Ideal.ofBits .f32 0xFF800000#32 = _
  simp [Ideal.ofBits, Ideal.ieee]

/-- The two greatest of the first `n` rows, as the running top two holds them. -/
def Seen (v : Fin 8 → Ideal .f32) (n : Nat) (s : Top2 Ideal) : Prop :=
  ∃ p q : Fin 8, p.val < n ∧ q.val < n ∧ p ≠ q ∧ s = ⟨v p, v q, BitVec.ofNat 32 p.val, BitVec.ofNat 32 q.val⟩
    ∧ (∀ e : Fin 8, e.val < n → e ≠ p → Above v p e) ∧ ∀ e : Fin 8, e.val < n → e ≠ p → e ≠ q → Above v q e

theorem seen_two (v : Fin 8 → Ideal .f32) (h0 : (⊥ : EReal) < v 0) (h1 : (⊥ : EReal) < v 1) :
    Seen v 2 (Top2.step 1#32 (v 1) (Top2.step 0#32 (v 0) Top2.init)) := by
  have hv : ∀ e : Fin 8, e.val < 2 → e = 0 ∨ e = 1 := by decide
  have e0 : Top2.step 0#32 (v 0) Top2.init = ⟨v 0, (⊥ : EReal), 0#32, 0#32⟩ := by
    simp only [Top2.step, Top2.init, ogt_select, ninf, if_pos h0]
  rw [e0]
  by_cases h : (v 0 : EReal) < v 1
  · refine ⟨1, 0, by decide, by decide, by decide, by simp only [Top2.step, ogt_select, if_pos h]; rfl, ?_, ?_⟩
    · intro e he hne
      rcases hv e he with rfl | rfl
      · exact .inl h
      · exact absurd rfl hne
    · intro e he hne hne'
      rcases hv e he with rfl | rfl
      · exact absurd rfl hne'
      · exact absurd rfl hne
  · refine ⟨0, 1, by decide, by decide, by decide, by simp only [Top2.step, ogt_select, if_neg h, if_pos h1]; rfl, ?_, ?_⟩
    · intro e he hne
      rcases hv e he with rfl | rfl
      · exact absurd rfl hne
      · rcases lt_or_eq_of_le (not_lt.mp h) with h | h
        · exact .inl h
        · exact .inr ⟨h, by decide⟩
    · intro e he hne hne'
      rcases hv e he with rfl | rfl
      · exact absurd rfl hne
      · exact absurd rfl hne'

theorem Above.trans_lt {v : Fin 8 → EReal} {a b : Fin 8} {x : EReal} (h : Above v a b) (hx : v a < x) : v b < x := by
  rcases h with h | ⟨h, -⟩
  · exact lt_trans h hx
  · exact h ▸ hx

theorem seen_step (v : Fin 8 → Ideal .f32) (n : Fin 8) (s : Top2 Ideal) (h : Seen v n.val s) :
    Seen v (n.val + 1) (Top2.step (BitVec.ofNat 32 n.val) (v n) s) := by
  obtain ⟨p, q, hp, hq, hpq, rfl, h1, h2⟩ := h
  have hlt : ∀ e : Fin 8, e.val < n.val + 1 → e ≠ n → e.val < n.val := fun e he hne =>
    lt_of_le_of_ne (Nat.lt_succ_iff.mp he) fun h => hne (Fin.ext h)
  have hbelow : ∀ r : Fin 8, r.val < n.val → ¬ (v r : EReal) < v n → Above v r n := fun r hr h => by
    rcases lt_or_eq_of_le (not_lt.mp h) with h | h
    · exact .inl h
    · exact .inr ⟨h, hr⟩
  by_cases hm1 : (v p : EReal) < v n
  · refine ⟨n, p, by omega, by omega, fun e => by subst e; omega, by simp only [Top2.step, ogt_select, if_pos hm1], ?_, ?_⟩
    · intro e he hne
      by_cases hep : e = p
      · subst hep; exact .inl hm1
      · exact .inl ((h1 e (hlt e he hne) hep).trans_lt hm1)
    · intro e he hne hep
      exact h1 e (hlt e he hne) hep
  · by_cases hm2 : (v q : EReal) < v n
    · refine ⟨p, n, by omega, by omega, fun e => by subst e; omega, by simp only [Top2.step, ogt_select, if_neg hm1, if_pos hm2], ?_, ?_⟩
      · intro e he hep
        by_cases hen : e = n
        · subst hen; exact hbelow p hp hm1
        · exact h1 e (hlt e he hen) hep
      · intro e he hep hen
        by_cases heq : e = q
        · subst heq; exact .inl hm2
        · exact .inl ((h2 e (hlt e he hen) hep heq).trans_lt hm2)
    · refine ⟨p, q, by omega, by omega, hpq, by simp only [Top2.step, ogt_select, if_neg hm1, if_neg hm2], ?_, ?_⟩
      · intro e he hep
        by_cases hen : e = n
        · subst hen; exact hbelow p hp hm1
        · exact h1 e (hlt e he hen) hep
      · intro e he hep heq
        by_cases hen : e = n
        · subst hen; exact hbelow q hq hm2
        · exact h2 e (hlt e he hen) hep heq

/-- A column above minus infinity: the running top two ends with its two greatest. -/
theorem of_greatest (v : Fin 8 → Ideal .f32) (h0 : (⊥ : EReal) < v 0) (h1 : (⊥ : EReal) < v 1) :
    ∃ p q : Fin 8, Greatest2 v p q ∧ Top2.of v = ⟨v p, v q, BitVec.ofNat 32 p.val, BitVec.ofNat 32 q.val⟩ := by
  have h8 : Seen v 8 (Top2.of v) :=
    seen_step v 7 _ (seen_step v 6 _ (seen_step v 5 _ (seen_step v 4 _ (seen_step v 3 _ (seen_step v 2 _ (seen_two v h0 h1))))))
  obtain ⟨p, q, -, -, hpq, e, a, b⟩ := h8
  exact ⟨p, q, ⟨hpq, fun r hr => a r r.isLt hr, fun r hr hr' => b r r.isLt hr hr'⟩, e⟩

/-- The weights of such a column: its two greatest values at their rows, zero at every other. -/
theorem disp_greatest (v : Fin 8 → Ideal .f32) {p q : Fin 8} (hpq : p ≠ q)
    (h : Top2.of v = ⟨v p, v q, BitVec.ofNat 32 p.val, BitVec.ofNat 32 q.val⟩) (e : Fin 8) :
    disp v e = if e = q then v q else if e = p then v p else (0 : EReal) := by
  have hz : (FloatOps.ofBits .f32 0x00000000#32 : Ideal .f32) = (0 : EReal) := Ideal.ofBits_zero .f32
  have hs : ∀ (r : Fin 8) (x : Ideal .f32), Scalar.select (IntOp.cmpi .eq (BitVec.ofNat 32 r.val) (BitVec.ofNat 32 e.val)) x (FloatOps.ofBits .f32 0x00000000#32)
      = if e = r then x else (0 : EReal) := by
    intro r x
    rw [hz]
    have : IntOp.cmpi .eq (BitVec.ofNat 32 r.val) (BitVec.ofNat 32 e.val) = if e = r then 1#1 else 0#1 := by
      revert r e; decide
    rw [this]
    by_cases her : e = r <;> simp [her, Scalar.select]
  unfold disp Top2.put
  rw [h]
  simp only [hs]
  show ((if e = p then v p else (0 : EReal)) : EReal) + (if e = q then v q else (0 : EReal)) = _
  by_cases h1 : e = p
  · have h2 : e ≠ q := h1 ▸ hpq
    simp [h1, hpq]
  · by_cases h2 : e = q
    · simp [h2, hpq.symm]
    · simp [h1, h2]

end Cert.Proof

end
-- ==== Proof.Scatter.lean ====
/-
  The reference's scatter of its `top_k`, read at one element over the extended reals: the dispatch weight of that
  expert in that token's row.
-/
module

public import proofs.«01_k».proof.Proof.Rank
public import proofs.«01_k».proof.Proof.RefRun
public import Idealize.ShloMosaic.Lib.ScatterToDense.RefScatter
public import Idealize.ShloMosaic.Lib.ReduceAll
public import Idealize.ShloMosaic.Lib.Pipeline.Value

@[expose] public section

noncomputable section

namespace Cert.Proof.Ref

open Cert.ReferenceIdeal Cert.ReferenceIdeal.Gen
open Idealize.ShloMosaic Idealize.ShloMosaic.ScatterToDense

/-- The weights of token `c`. -/
abbrev rowOf (R : FVec Ideal S4096x8 .f32) (c : Fin 4096) : Fin 8 → Ideal .f32 := fun e => R (ix2 c e)

theorem along_one {T C : Nat} (r : Fin T) (a b : Fin C) :
    Shape.Idx.along (s := ⟨2, ![T, C]⟩) (ix2 r a) 1 b = ix2 r b := by
  funext i
  fin_cases i
  · exact Function.update_of_ne (show (0 : Fin 2) ≠ 1 by decide) _ _
  · exact Function.update_self _ _ _

/-- Row `r` of a `top_k` along the second of two axes: entry `k` is the row's entry at the place that the stable sort puts
    at `k`, and that place. -/
theorem topK_rows {α : Type} {T C N : Nat} (gt : α → α → BitVec 1) (x : (⟨2, ![T, C]⟩ : Shape).Idx → α)
    (h : (⟨2, ![T, C]⟩ : Shape).Slices (fun _ => 0) ⟨2, ![T, N]⟩) (hN : N ≤ C) (r : Fin T) (k : Fin N) {w : Fin C}
    (hw : sortedFrom (fun a b => gt (x (ix2 r a)) (x (ix2 r b)) == 1#1) (k.castLE hN) = w) :
    (Host.topK ⟨2, ![T, N]⟩ 1 gt x h).1 (ix2 r k) = x (ix2 r w)
      ∧ (Host.topK ⟨2, ![T, N]⟩ 1 gt x h).2 (ix2 r k) = BitVec.ofNat 32 w.val := by
  have hk : ∀ {β : Type} (y : (⟨2, ![T, C]⟩ : Shape).Idx → β),
      extractStridedSlice ⟨2, ![T, N]⟩ (fun _ => 0) y h (ix2 r k) = y (ix2 r (k.castLE hN)) := fun y =>
    extractStridedSlice_apply _ y h _ _ (by intro a; fin_cases a <;> simp)
  have hπ : ∀ a b : Fin C, Shape.Idx.along (s := ⟨2, ![T, C]⟩) (ix2 r a) 1 b = ix2 r b := along_one r
  unfold Host.topK Host.sort2
  simp only [hk]
  constructor
  · show x (Shape.Idx.along (s := ⟨2, ![T, C]⟩) (ix2 r (k.castLE hN)) 1 (sortedFrom (n := C) (fun a b =>
      gt (x (Shape.Idx.along (s := ⟨2, ![T, C]⟩) (ix2 r (k.castLE hN)) 1 a)) (x (Shape.Idx.along (s := ⟨2, ![T, C]⟩) (ix2 r (k.castLE hN)) 1 b)) == 1#1)
        (k.castLE hN))) = _
    simp only [hπ, hw]
  · show BitVec.ofNat 32 (Shape.Idx.along (s := ⟨2, ![T, C]⟩) (ix2 r (k.castLE hN)) 1 (sortedFrom (n := C) (fun a b =>
      gt (x (Shape.Idx.along (s := ⟨2, ![T, C]⟩) (ix2 r (k.castLE hN)) 1 a)) (x (Shape.Idx.along (s := ⟨2, ![T, C]⟩) (ix2 r (k.castLE hN)) 1 b)) == 1#1)
        (k.castLE hN)) 1).val = _
    simp only [hπ, hw]
    rfl

theorem topTwo_apply (R : FVec Ideal S4096x8 .f32) (c : Fin 4096) (k : Fin 2) {p q : Fin 8} (h : Greatest2 (rowOf R c) p q) :
    (topTwo (F := Ideal) R).1 (ix2 c k) = rowOf R c (![p, q] k) ∧ (topTwo (F := Ideal) R).2 (ix2 c k) = BitVec.ofNat 32 (![p, q] k).val := by
  have hs := sortedFrom_greatest (rowOf R c) h (by decide) k
  exact topK_rows (FloatOps.cmpfTotal .gt) R sliceFits_S4096x8_S4096x2 (by decide) c k (w := ![p, q] k) (by
      rw [← hs]
      refine congrArg (fun f => sortedFrom f _) (funext fun a => funext fun b => ?_)
      show (BitVec.ofBool (decide _) == 1#1) = _
      by_cases hh : rowOf R c b < rowOf R c a <;> simp [hh])

/-- The index pairs: each token's number, and the place of an entry of its top two. -/
abbrev pairs (R : FVec Ideal S4096x8 .f32) : IVec S4096x2x2 32 := pairUp (F := Ideal) tokCol (expCol (topTwo (F := Ideal) R).2)

/-- Two columns side by side, along the last of three axes. -/
theorem pair_apply {α : Type} (x y : S4096x2x1.Idx → α) (i : Fin 4096) (k : Fin 2) :
    concatenate S4096x2x2 2 [⟨S4096x2x1, x⟩, ⟨S4096x2x1, y⟩] concatenates_S4096x2x1_S4096x2x1_S4096x2x2_d2 (ix3 i k (0 : Fin 2)) = x (ix3 i k (0 : Fin 1))
    ∧ concatenate S4096x2x2 2 [⟨S4096x2x1, x⟩, ⟨S4096x2x1, y⟩] concatenates_S4096x2x1_S4096x2x1_S4096x2x2_d2 (ix3 i k (1 : Fin 2)) = y (ix3 i k (0 : Fin 1)) := by
  let xs : List ((s : Shape) × (s.Idx → α)) := [⟨S4096x2x1, x⟩, ⟨S4096x2x1, y⟩]
  exact ⟨concatenate_apply_piece (t := S4096x2x2) 2 xs concatenates_S4096x2x1_S4096x2x1_S4096x2x2_d2 (ix3 i k (0 : Fin 2)) 0 (by show 0 < 2; omega)
      S4096x2x1 x rfl rfl 0 rfl (ix3 i k (0 : Fin 1)) (fun b hb => match b, hb with | ⟨0, _⟩, _ => rfl | ⟨1, _⟩, _ => rfl | ⟨2, _⟩, hb => absurd rfl hb) rfl,
    concatenate_apply_piece (t := S4096x2x2) 2 xs concatenates_S4096x2x1_S4096x2x1_S4096x2x2_d2 (ix3 i k (1 : Fin 2)) 1 (by show 1 < 2; omega)
      S4096x2x1 y rfl rfl 1 rfl (ix3 i k (0 : Fin 1)) (fun b hb => match b, hb with | ⟨0, _⟩, _ => rfl | ⟨1, _⟩, _ => rfl | ⟨2, _⟩, hb => absurd rfl hb) rfl⟩

theorem pairs_token (R : FVec Ideal S4096x8 .f32) (i : Fin 4096) (k : Fin 2) : pairs R (ix3 i k (0 : Fin 2)) = BitVec.ofNat 32 i.val := by
  refine (show pairs R (ix3 i k (0 : Fin 2)) = tokCol (ix3 i k (0 : Fin 1)) from (pair_apply (α := BitVec 32) tokCol (expCol (topTwo (F := Ideal) R).2) i k).1).trans ?_
  refine Eq.trans ?_ (Routing.wrap_of_lt (BitVec.ofNat 32 i.val) (BitVec.ofNat 32 i.val + 4096#32) ?_)
  · rfl
  · rw [BitVec.toNat_ofNat, Nat.mod_eq_of_lt (by omega)]; omega

/-- A place below `8` is not taken from the end. -/
theorem expCol_apply (ix : IVec S4096x2 32) (i : Fin 4096) (k : Fin 2) {n : Fin 8} (h : ix (ix2 i k) = BitVec.ofNat 32 n.val) :
    expCol ix (ix3 i k (0 : Fin 1)) = BitVec.ofNat 32 n.val := by
  have hlt : (BitVec.ofNat 32 n.val).toNat < 2 ^ 31 := by
    rw [BitVec.toNat_ofNat, Nat.mod_eq_of_lt (by omega)]; omega
  refine Eq.trans ?_ (Routing.wrap_of_lt _ (BitVec.ofNat 32 n.val + 8#32) hlt)
  rw [← h]
  refine congrArg (fun j => Scalar.select (IntOp.cmpi .slt (ix j) 0#32) (ix j + 8#32) (ix j)) ?_
  funext a
  fin_cases a <;> rfl

theorem pairs_place (R : FVec Ideal S4096x8 .f32) (i : Fin 4096) (k : Fin 2) {p q : Fin 8} (h : Greatest2 (rowOf R i) p q) :
    pairs R (ix3 i k (1 : Fin 2)) = BitVec.ofNat 32 (![p, q] k).val :=
  (show pairs R (ix3 i k (1 : Fin 2)) = expCol (topTwo (F := Ideal) R).2 (ix3 i k (0 : Fin 1)) from
    (pair_apply (α := BitVec 32) tokCol (expCol (topTwo (F := Ideal) R).2) i k).2).trans (expCol_apply _ i k (topTwo_apply R i k h).2)

/-- The scatter's entry: the two greatest weights of the row at their places, zero elsewhere. -/
theorem scat_greatest (R : FVec Ideal S4096x8 .f32) {p q : Fin 4096 → Fin 8} (hg : ∀ c, Greatest2 (rowOf R c) (p c) (q c)) (c : Fin 4096) (e : Fin 8) :
    scat (F := Ideal) R (ix2 c e) = if e = q c then rowOf R c (q c) else if e = p c then rowOf R c (p c) else (0 : EReal) := by
  have hr : ∀ (i : Fin 4096) (k : Fin 2), ![p i, q i] k = if k.val = 0 then p i else q i := fun i k => by fin_cases k <;> rfl
  have hGS := scatter_eq_GS (T := 4096) (C := 8) (K := 2) scatter_S4096x8_S4096x2x2_S4096x2_n_01_01_2 rfl rfl rfl (by norm_num) (by norm_num)
    (broadcastInDim S4096x8 ![] bcast_S_S4096x8 (constant S_ .f32 0x00000000#32)) (pairs R) (topTwo (F := Ideal) R).1
    (fun i k => BitVec.ofNat 32 (if k = 0 then p i else q i).val) (fun i k => rowOf R i (if k = 0 then p i else q i))
  have hw := hGS (pairs_token R) (fun i k => (pairs_place R i k (hg i)).trans (by rw [hr])) (fun i k => (topTwo_apply R i k (hg i)).1.trans (by rw [hr])) c e
  refine hw.trans ?_
  rw [GS_succ, GS_succ, GS_zero]
  have hn : ∀ r : Fin 8, (BitVec.ofNat 32 r.val).toNat = r.val := fun r => by
    rw [BitVec.toNat_ofNat, Nat.mod_eq_of_lt (by omega)]
  simp only [hn, Fin.val_inj, if_true, one_ne_zero, if_false]
  have h0 : ∀ i, broadcastInDim S4096x8 ![] bcast_S_S4096x8 (constant (F := Ideal) S_ .f32 0x00000000#32) i = (0 : EReal) := fun i => by
    show (FloatOps.ofBits .f32 0x00000000#32 : Ideal .f32) = (0 : EReal)
    simp
  rw [h0]

/-- A row is above the least value throughout, or the least value throughout. -/
def Even (v : Fin 8 → Ideal .f32) : Prop := (∀ e, (⊥ : EReal) < v e) ∨ ∀ e, v e = (⊥ : EReal)

theorem even_greatest {v : Fin 8 → Ideal .f32} (h : Even v) : ∃ p q, Greatest2 v p q ∧ ((∀ e, (⊥ : EReal) < v e) →
    Top2.of v = ⟨v p, v q, BitVec.ofNat 32 p.val, BitVec.ofNat 32 q.val⟩) := by
  rcases h with h | h
  · obtain ⟨p, q, hg, e⟩ := of_greatest v (h 0) (h 1)
    exact ⟨p, q, hg, fun _ => e⟩
  · refine ⟨0, 1, ⟨by decide, fun e he => .inr ⟨by rw [h, h], ?_⟩, fun e h0 h1 => .inr ⟨by rw [h, h], ?_⟩⟩, fun hb => absurd (h 0) (hb 0).ne'⟩
    · revert e; decide
    · revert e; decide

/-- Where the row is above the least value, the scatter's entry is the kernel's dispatch weight. -/
theorem scat_apply (R : FVec Ideal S4096x8 .f32) (hR : ∀ c, Even (rowOf R c)) (c : Fin 4096) (hc : ∀ e, (⊥ : EReal) < rowOf R c e) (e : Fin 8) :
    scat (F := Ideal) R (ix2 c e) = disp (rowOf R c) e := by
  choose p q hg hof using fun c => even_greatest (hR c)
  rw [disp_greatest (rowOf R c) (hg c).ne (hof c hc) e, scat_greatest R hg c e]

/-- Where it is the least value, so is one of the scatter's entries. -/
theorem scat_bot (R : FVec Ideal S4096x8 .f32) (hR : ∀ c, Even (rowOf R c)) (c : Fin 4096) (hc : ∀ e, rowOf R c e = (⊥ : EReal)) :
    ∃ e, scat (F := Ideal) R (ix2 c e) = (⊥ : EReal) := by
  choose p q hg hof using fun c => even_greatest (hR c)
  exact ⟨q c, by rw [scat_greatest R hg c, if_pos rfl]; exact hc _⟩

/-- And so is one of the kernel's. -/
theorem disp_bot {v : Fin 8 → Ideal .f32} (h : ∀ e, v e = (⊥ : EReal)) : disp v 0 = (⊥ : EReal) := by
  have hv : v = fun _ => (⊥ : EReal) := funext h
  subst hv
  have hs : Top2.of (F := Ideal) (fun _ : Fin 8 => (⊥ : EReal)) = ⟨(⊥ : EReal), (⊥ : EReal), 0#32, 0#32⟩ := by
    simp only [Top2.of, Top2.step, Top2.init, ogt_select, ninf, lt_irrefl, if_false]
  unfold disp
  rw [hs]
  show ((_ : EReal) + _) = _
  simp [Top2.put, Scalar.select, IntOp.cmpi]

end Cert.Proof.Ref

end
-- ==== Proof.Value.lean ====
/-
  Over the extended reals the kernel's loss is the reference's.
-/
module

public import proofs.«01_k».proof.Proof.Loss
public import proofs.«01_k».proof.Proof.RefRead
public import proofs.«01_k».proof.Proof.RefVal
public import proofs.«01_k».proof.Proof.Scatter

@[expose] public section

set_option maxRecDepth 16384

noncomputable section

namespace Cert.Proof

open Idealize.ShloMosaic Idealize.ShloMosaic.StableHlo

namespace Ref

open Cert.ReferenceIdeal Cert.ReferenceIdeal.Gen

variable (x : Vec Ideal S2x2048x1024 .f32) (w : Vec Ideal S8x1024 .f32) (g b : Vec Ideal S8 .f32) (t : Vec Ideal S_ .f32)

/-- The reference's logits of token `c`. -/
def logitAt (c : Fin 4096) : Fin 8 → EReal := lgt (fun e k => w (ix2 e k)) (fun e => g (ix1 e)) (fun e => b (ix1 e)) (rowX x c)
/-- Its routing weights. -/
def weightAt (c : Fin 4096) : Fin 8 → EReal := wt (fun e k => w (ix2 e k)) (fun e => g (ix1 e)) (fun e => b (ix1 e)) (t ix0) (rowX x c)

theorem logits_at (c : Fin 4096) (e : Fin 8) : logits (F := Ideal) (proj x w) g b (ix2 c e) = logitAt x w g b c e := by
  rw [logits_apply]
  simp only [proj_apply]
  rfl

/-- All routing weights. -/
def weightArr : Vec Ideal S4096x8 .f32 := soft (F := Ideal) (expo (scaled (logits (proj x w) g b) t))

theorem weights_at (c : Fin 4096) (e : Fin 8) : weightArr x w g b t (ix2 c e) = weightAt x w g b t c e := by
  rw [weightArr, soft_apply]
  simp only [expo_apply, scaled_apply, logits_at]
  rfl

theorem rowOf_eq (c : Fin 4096) : rowOf (weightArr x w g b t) c = weightAt x w g b t c := funext fun e => weights_at x w g b t c e

/-- Two tables of dispatch weights have the same balance when each token's rows agree, or both hold a `⊥`. -/
theorem bal_congr (D D' : Fin 4096 → Fin 8 → EReal)
    (h : (∀ c e, D c e = D' c e) ∨ ∃ c, (∃ e, D c e = ⊥) ∧ ∃ e, D' c e = ⊥) :
    bal (fun i e => Ideal.div (∑ k : Fin 2048, D ⟨i.val * 2048 + k.val, by omega⟩ e) (Ideal.ofBits .f32 0x45000000#32))
      = bal fun i e => Ideal.div (∑ k : Fin 2048, D' ⟨i.val * 2048 + k.val, by omega⟩ e) (Ideal.ofBits .f32 0x45000000#32) := by
  have hb : ∀ (D : Fin 4096 → Fin 8 → EReal) (c : Fin 4096) (e : Fin 8), D c e = ⊥ →
      Ideal.div (∑ k : Fin 2048, D ⟨(⟨c.val / 2048, by omega⟩ : Fin 2).val * 2048 + k.val, by simp only; omega⟩ e) (Ideal.ofBits .f32 0x45000000#32) = ⊥ := fun D c e h => by
    have hc : (⟨c.val / 2048 * 2048 + c.val % 2048, by omega⟩ : Fin 4096) = c := Fin.ext (Nat.div_add_mod' c.val 2048)
    rw [sum_bot (i := (⟨c.val % 2048, by omega⟩ : Fin 2048)) _ (by simp only [hc, h]), ofBits_2048]
    exact bot_div (by norm_num)
  rcases h with h | ⟨c, ⟨e, he⟩, e', he'⟩
  · simp only [h]
  · rw [bal_bot (hb D c e he), bal_bot (hb D' c e' he')]

/-- The loads of the reference's dispatch weights and of the kernel's have the same balance. -/
theorem bal_eq (R : FVec Ideal S4096x8 .f32) (hev : ∀ c, Even (rowOf R c)) :
    bal (fun i e => loads (F := Ideal) (scat R) (ix2 i e))
      = bal fun i e => Ideal.div (∑ k : Fin 2048, disp (F := Ideal) (rowOf R ⟨i.val * 2048 + k.val, by omega⟩) e) (Ideal.ofBits .f32 0x45000000#32) := by
  have hs := scat_apply R hev
  have ht := scat_bot R hev
  generalize scat (F := Ideal) R = D at hs ht ⊢
  simp only [loads_apply]
  refine bal_congr (fun c e => D (ix2 c e)) (fun c e => disp (F := Ideal) (rowOf R c) e) ?_
  by_cases h : ∀ c, ∀ e, (⊥ : EReal) < rowOf R c e
  · exact .inl fun c e => hs c (h c) e
  · push Not at h
    obtain ⟨c, e, h⟩ := h
    have hall : ∀ e, rowOf R c e = (⊥ : EReal) := (hev c).resolve_left fun h' => absurd (h' e) (not_lt.mpr h)
    exact .inr ⟨c, ht c hall, 0, disp_bot hall⟩

theorem even_at (c : Fin 4096) : Even (rowOf (weightArr x w g b t) c) := by rw [rowOf_eq]; exact wt_even _ _ _ _ _

theorem result_apply (j : S_.Idx) :
    result (F := Ideal) x w g b t j = los (fun i e => Ideal.div (∑ k : Fin 2048, disp (F := Ideal) (weightAt x w g b t ⟨i.val * 2048 + k.val, by omega⟩) e) (Ideal.ofBits .f32 0x45000000#32))
      (Ideal.div (∑ c : Fin 4096, ∑ e : Fin 8, logitAt x w g b c e * logitAt x w g b c e) (Ideal.ofBits .f32 0x47000000#32)) := by
  show loss (F := Ideal) (loads (scat (weightArr x w g b t))) (logits (proj x w) g b) j = _
  rw [loss_apply]
  simp only [logits_at]
  unfold los
  rw [bal_eq _ (even_at x w g b t)]
  simp only [rowOf_eq]

end Ref

open Cert.KernelIdeal Cert.KernelIdeal.Gen

variable (mem : (ℓ : Loc nD τ sig) → Buf (Elt Ideal) ℓ) (d : Dev nD)

theorem W1_v0 : W1 mem d (Proc.devRef .tc main_v0) = shapeCast S4096x1024 (mem (d, Proc.devRef .tc main_arg0) : Vec Ideal S2x2048x1024 .f32) shapeCasts_S2x2048x1024_S4096x1024 := by
  unfold W1 ops1; after_results_simp; rfl
theorem W1_v1 : W1 mem d (Proc.devRef .tc main_v1) = shapeCast S8x1 (mem (d, Proc.devRef .tc main_arg2) : Vec Ideal S8 .f32) shapeCasts_S8_S8x1 := by
  unfold W1 ops1; after_results_simp; rfl
theorem W1_v2 : W1 mem d (Proc.devRef .tc main_v2) = shapeCast S8x1 (mem (d, Proc.devRef .tc main_arg3) : Vec Ideal S8 .f32) shapeCasts_S8_S8x1 := by
  unfold W1 ops1; after_results_simp; rfl
theorem W1_v3 : W1 mem d (Proc.devRef .tc main_v3) = shapeCast S1x1 (mem (d, Proc.devRef .tc main_arg4) : Vec Ideal S_ .f32) shapeCasts_S_S1x1 := by
  unfold W1 ops1; after_results_simp; rfl
theorem W1_arg1 : W1 mem d (Proc.devRef .tc main_arg1) = mem (d, Proc.devRef .tc main_arg1) := by
  unfold W1 ops1; after_results_simp

theorem cast_tokens (X : Vec Ideal S2x2048x1024 .f32) (c : Fin 4096) (k : Fin 1024) :
    shapeCast S4096x1024 X shapeCasts_S2x2048x1024_S4096x1024 (ix2 c k) = Ref.rowX X c k := by pointwise
theorem cast_row (g : Vec Ideal S8 .f32) (e : Fin 8) : shapeCast S8x1 g shapeCasts_S8_S8x1 (ix2 e 0) = g (ix1 e) := by pointwise
theorem cast_one (t : Vec Ideal S_ .f32) : shapeCast S1x1 t shapeCasts_S_S1x1 (ix2 0 0) = t ix0 := by pointwise

theorem logitOf_eq (c : Fin 4096) : logitOf (W1 mem d) c = Ref.logitAt (mem (d, Proc.devRef .tc main_arg0)) (mem (d, Proc.devRef .tc main_arg1))
    (mem (d, Proc.devRef .tc main_arg2)) (mem (d, Proc.devRef .tc main_arg3)) c := by
  unfold logitOf Ref.logitAt
  rw [W1_v0, W1_v1, W1_v2, W1_arg1]
  exact congr (congr (congrArg (lgt _) (funext fun e => cast_row _ e)) (funext fun e => cast_row _ e)) (funext fun k => cast_tokens _ c k)

theorem weightOf_eq (c : Fin 4096) : weightOf (W1 mem d) c = Ref.weightAt (mem (d, Proc.devRef .tc main_arg0)) (mem (d, Proc.devRef .tc main_arg1))
    (mem (d, Proc.devRef .tc main_arg2)) (mem (d, Proc.devRef .tc main_arg3)) (mem (d, Proc.devRef .tc main_arg4)) c := by
  unfold weightOf
  rw [logitOf_eq, W1_v3]
  exact congrArg (fun t => sm (ex (sc _ t))) (cast_one _)

/-- The kernel's loss is the reference's, of the same arguments. -/
theorem lossOf_eq : lossOf mem d = Ref.result (F := Ideal) (mem (d, Proc.devRef .tc main_arg0)) (mem (d, Proc.devRef .tc main_arg1))
    (mem (d, Proc.devRef .tc main_arg2)) (mem (d, Proc.devRef .tc main_arg3)) (mem (d, Proc.devRef .tc main_arg4)) := by
  funext j
  rw [lossOf_apply]
  refine Eq.trans ?_ (Ref.result_apply _ _ _ _ _ j).symm
  simp only [weightOf_eq, squareOf, logitOf_eq]

end Cert.Proof

end
-- ==== Proof.SharedRow.lean ====
/-
  The shared expert over the extended reals, a token at a time: the gated hidden layer, the adapters' projections with their
  layer norm, and the expert's output beside its token.
-/
module

public import Idealize.ShloMosaic.Lib.Pointwise

@[expose] public section

noncomputable section

namespace Cert.Proof.Expert

open Idealize.ShloMosaic

/-- The inner product of a row with a row of weights. -/
def dot {n : ℕ} (x w : Fin n → EReal) : EReal := ∑ k, x k * w k

/-- The mean of 128 values. -/
def mean (v : Fin 128 → EReal) : EReal := Ideal.div (∑ e, v e) (Ideal.ofBits .f32 0x43000000#32)

/-- The layer norm of 128 values, with its gain and bias. -/
def norm (v g b : Fin 128 → EReal) (e : Fin 128) : EReal :=
  (v e - mean v) * Ideal.rsqrt (mean (fun i => (v i - mean v) * (v i - mean v)) + Ideal.ofBits .f32 0x3727C5AC#32) * g e + b e

/-- The sigmoid-weighted gate times the other branch. -/
def gated (q p : EReal) : EReal := q * Ideal.logistic q * p

/-- The hidden layer of a token: up and gate projections with their biases, gated. -/
def hid (x : Fin 1024 → EReal) (wu wg : Fin 2048 → Fin 1024 → EReal) (bu bg : Fin 2048 → EReal) (h : Fin 2048) : EReal :=
  gated (dot x (wg h) + bg h) (dot x (wu h) + bu h)

/-- A row projected on 128 rows of weights, with a bias. -/
def adapt {n : ℕ} (x : Fin n → EReal) (w : Fin 128 → Fin n → EReal) (b : Fin 128 → EReal) (e : Fin 128) : EReal := dot x (w e) + b e

/-- The token plus the expert's output. -/
def out (x : Fin 1024 → EReal) (y : Fin 2048 → EReal) (w : Fin 1024 → Fin 2048 → EReal) (b : Fin 1024 → EReal) (k : Fin 1024) : EReal :=
  x k + (dot y (w k) + b k)

theorem ofBits_128 : Ideal.ofBits .f32 0x43000000#32 = ((128 : ℝ) : EReal) := by simp [Ideal.ofBits, Ideal.ieee]; rw [← EReal.coe_mul]; norm_num

theorem ofBits_one : Ideal.ofBits .f32 0x3F800000#32 = (1 : EReal) := by
  simp [Ideal.ofBits, Ideal.ieee]; rw [← EReal.coe_mul, ← EReal.coe_one]; norm_num

end Cert.Proof.Expert

end
-- ==== Proof.SharedRef.lean ====
/-
  The shared expert's reference, its stages as functions of arrays, read at one element over the extended reals.
-/
module

public import proofs.«01_k».proof.Proof.SharedRow
public import proofs.«01_k».proof.Proof.Gen.SharedReferenceIdeal.Run

@[expose] public section

set_option maxRecDepth 16384

noncomputable section

namespace Cert.Proof.Expert.Ref

open Cert.SharedReferenceIdeal Cert.SharedReferenceIdeal.Gen
open Idealize.ShloMosaic Idealize.ShloMosaic.TcCoe Idealize.SL.Sem

variable {F : FTy → Type} [FloatOps F]

/-- The tokens as rows. -/
def rows (x : Vec F S2x2048x1024 .f32) : Vec F S4096x1024 .f32 := shapeCast _ x shapeCasts_S2x2048x1024_S4096x1024

/-- A projection of the rows to the hidden layer's width, with its bias. -/
def wide (x : Vec F S4096x1024 .f32) (w : Vec F S2048x1024 .bf16) (b : Vec F S2048 .f32) : Vec F S4096x2048 .f32 :=
  addf (Host.dotGeneral dot_S4096x1024_S1024x2048_S4096x2048_1_0_0_1_n_n none x
      (transpose S1024x2048 [1, 0] (extf .f32 w bitsLt_bf16_f32) transposes_S2048x1024_S1024x2048_1_0))
    (broadcastInDim S4096x2048 ![0, 1] bcast_S1x2048_S4096x2048_0_1 (broadcastInDim S1x2048 ![1] bcast_S2048_S1x2048_1 b))

/-- The gate's sigmoid-weighted value times the other branch. -/
def gate (q p : Vec F S4096x2048 .f32) : Vec F S4096x2048 .f32 :=
  mulf (mulf q (Host.divf (broadcastInDim S4096x2048 ![] bcast_S_S4096x2048 (constant S_ .f32 0x3F800000#32))
    (addf (broadcastInDim S4096x2048 ![] bcast_S_S4096x2048 (constant S_ .f32 0x3F800000#32)) (Host.exp (Host.negf q))))) p

/-- The first adapter's projection of the rows. -/
def low (x : Vec F S4096x1024 .f32) (w : Vec F S128x1024 .bf16) : Vec F S4096x128 .f32 :=
  Host.dotGeneral dot_S4096x1024_S1024x128_S4096x128_1_0_0_1_n_n none x
    (transpose S1024x128 [1, 0] (extf .f32 w bitsLt_bf16_f32) transposes_S128x1024_S1024x128_1_0)

/-- The second adapter's projection of the hidden layer. -/
def lowHid (y : Vec F S4096x2048 .f32) (w : Vec F S128x2048 .bf16) : Vec F S4096x128 .f32 :=
  Host.dotGeneral dot_S4096x2048_S2048x128_S4096x128_1_0_0_1_n_n none y
    (transpose S2048x128 [1, 0] (extf .f32 w bitsLt_bf16_f32) transposes_S128x2048_S2048x128_1_0)

/-- A row of 128 values along every token. -/
def along (b : Vec F S128 .f32) : Vec F S4096x128 .f32 :=
  broadcastInDim S4096x128 ![0, 1] bcast_S1x128_S4096x128_0_1 (broadcastInDim S1x128 ![1] bcast_S128_S1x128_1 b)

/-- Values less their token's mean. -/
def less (v : Vec F S4096x128 .f32) : Vec F S4096x128 .f32 :=
  subf v (broadcastInDim S4096x128 ![0, 1] bcast_S4096x1_S4096x128_0_1
    (Host.divf (broadcastInDim S4096x1 ![0] bcast_S4096_S4096x1_0 (Host.reduceAdd v (constant S_ .f32 0x00000000#32) reducesTo_S4096x128_S4096_d1 h_S_))
      (broadcastInDim S4096x1 ![] bcast_S_S4096x1 (constant S_ .f32 0x43000000#32))))

/-- The divisor of the variance, 128 less zero. -/
def count : Vec F S_ .f32 := (subf (constant S_ .f32 0x43000000#32) (sitofp .f32 (constantI S_ 32 0#32)) : (⟨S_, .f32⟩ : BufTy).Contents (Elt F))

/-- Each token's variance. -/
def var (v : Vec F S4096x128 .f32) : Vec F S4096x1 .f32 :=
  select (broadcastInDim S4096x1 ![] bcast_S_S4096x1 (cmpf .ogt (count (F := F)) (constant S_ .f32 0x00000000#32)))
    (Host.divf (broadcastInDim S4096x1 ![0] bcast_S4096_S4096x1_0
        (Host.reduceAdd (mulf (less v) (less v)) (constant S_ .f32 0x00000000#32) reducesTo_S4096x128_S4096_d1 h_S_))
      (broadcastInDim S4096x1 ![] bcast_S_S4096x1 (count (F := F))))
    (broadcastInDim S4096x1 ![] bcast_S_S4096x1 (id (constant S_ .f32 0x7FC00000#32)))

/-- The layer norm, rounded. -/
def normed (v : Vec F S4096x128 .f32) (g b : Vec F S128 .f32) : Vec F S4096x128 .bf16 :=
  truncf .bf16 (addf (mulf (mulf (less v) (broadcastInDim S4096x128 ![0, 1] bcast_S4096x1_S4096x128_0_1
    (Host.rsqrt (addf (var v) (broadcastInDim S4096x1 ![] bcast_S_S4096x1 (constant S_ .f32 0x3727C5AC#32))))) ) (along g)) (along b)) bitsLt_bf16_f32

/-- The rows plus the expert's output, rounded. -/
def total (x : Vec F S4096x1024 .f32) (y : Vec F S4096x2048 .f32) (w : Vec F S1024x2048 .bf16) (b : Vec F S1024 .f32) : Vec F S4096x1024 .bf16 :=
  truncf .bf16 (addf x (addf (Host.dotGeneral dot_S4096x2048_S2048x1024_S4096x1024_1_0_0_1_n_n none y
      (transpose S2048x1024 [1, 0] (extf .f32 w bitsLt_bf16_f32) transposes_S1024x2048_S2048x1024_1_0))
    (broadcastInDim S4096x1024 ![0, 1] bcast_S1x1024_S4096x1024_0_1 (broadcastInDim S1x1024 ![1] bcast_S1024_S1x1024_1 b)))) bitsLt_bf16_f32

/-! ## At one element -/

/-- The row of token `c`, of its group. -/
abbrev row (x : Vec Ideal S2x2048x1024 .f32) (c : Fin 4096) (k : Fin 1024) : EReal :=
  x (ix3 ⟨c.val / 2048, by omega⟩ ⟨c.val % 2048, by omega⟩ k)

theorem rows_apply (x : Vec Ideal S2x2048x1024 .f32) (c : Fin 4096) (k : Fin 1024) : rows (F := Ideal) x (ix2 c k) = row x c k := by
  pointwise [rows]

theorem wide_apply (x : Vec Ideal S4096x1024 .f32) (w : Vec Ideal S2048x1024 .bf16) (b : Vec Ideal S2048 .f32) (c : Fin 4096) (h : Fin 2048) :
    wide (F := Ideal) x w b (ix2 c h) = dot (fun k => x (ix2 c k)) (fun k => w (ix2 h k)) + b (ix1 h) := by
  unfold dot
  pointwise [wide]

theorem gate_apply (q p : Vec Ideal S4096x2048 .f32) (c : Fin 4096) (h : Fin 2048) :
    gate (F := Ideal) q p (ix2 c h) = gated (q (ix2 c h)) (p (ix2 c h)) := by
  unfold gated
  pointwise [gate]
  rfl

theorem low_apply (x : Vec Ideal S4096x1024 .f32) (w : Vec Ideal S128x1024 .bf16) (c : Fin 4096) (e : Fin 128) :
    low (F := Ideal) x w (ix2 c e) = dot (fun k => x (ix2 c k)) (fun k => w (ix2 e k)) := by
  unfold dot
  pointwise [low]

theorem lowHid_apply (y : Vec Ideal S4096x2048 .f32) (w : Vec Ideal S128x2048 .bf16) (c : Fin 4096) (e : Fin 128) :
    lowHid (F := Ideal) y w (ix2 c e) = dot (fun k => y (ix2 c k)) (fun k => w (ix2 e k)) := by
  unfold dot
  pointwise [lowHid]

theorem along_apply (b : Vec Ideal S128 .f32) (c : Fin 4096) (e : Fin 128) : along (F := Ideal) b (ix2 c e) = b (ix1 e) := by
  pointwise [along]

theorem all128 : Ideal.ofBits .f32 0x43000000#32 - FloatOps.sitofp (F := Ideal) .f32 (0#32 : BitVec 32) = Ideal.ofBits .f32 0x43000000#32 := by
  show Ideal.ofBits .f32 0x43000000#32 - ((((0#32 : BitVec 32).toInt : ℤ) : ℝ) : EReal) = _
  simp

theorem normed_apply (v : Vec Ideal S4096x128 .f32) (g b : Vec Ideal S128 .f32) (c : Fin 4096) (e : Fin 128) :
    normed (F := Ideal) v g b (ix2 c e) = norm (fun e => v (ix2 c e)) (fun e => g (ix1 e)) (fun e => b (ix1 e)) e := by
  unfold norm mean
  pointwise [normed, less, var, count, along]
  rw [all128, if_pos (by rw [ofBits_128]; exact_mod_cast (by norm_num : (0 : ℝ) < 128))]

theorem total_apply (x : Vec Ideal S4096x1024 .f32) (y : Vec Ideal S4096x2048 .f32) (w : Vec Ideal S1024x2048 .bf16) (b : Vec Ideal S1024 .f32)
    (c : Fin 4096) (k : Fin 1024) :
    total (F := Ideal) x y w b (ix2 c k)
      = out (fun k => x (ix2 c k)) (fun h => y (ix2 c h)) (fun k h => w (ix2 k h)) (fun k => b (ix1 k)) k := by
  unfold out dot
  pointwise [total]

/-! ## The results of the arguments -/

section Results

variable (X : Vec Ideal S2x2048x1024 .f32) (wu wg : Vec Ideal S2048x1024 .bf16) (wi : Vec Ideal S128x1024 .bf16) (wo : Vec Ideal S128x2048 .bf16)
  (wd : Vec Ideal S1024x2048 .bf16) (bu bg : Vec Ideal S2048 .f32) (bi bo g β : Vec Ideal S128 .f32) (bd : Vec Ideal S1024 .f32)

/-- The hidden layer of the token in row `c`. -/
def hidAt (c : Fin 4096) : Fin 2048 → EReal :=
  hid (row X c) (fun h k => wu (ix2 h k)) (fun h k => wg (ix2 h k)) (fun h => bu (ix1 h)) (fun h => bg (ix1 h))

/-- The first result: the tokens plus the expert's output. -/
def outArr : Vec Ideal S4096x1024 .bf16 := fun i =>
  out (row X (i 0)) (hidAt X wu wg bu bg (i 0)) (fun k h => wd (ix2 k h)) (fun k => bd (ix1 k)) (i 1)

/-- The second result: the first adapter's projection of the tokens, normed. -/
def inArr : Vec Ideal S4096x128 .bf16 := fun i =>
  norm (adapt (row X (i 0)) (fun e k => wi (ix2 e k)) (fun e => bi (ix1 e))) (fun e => g (ix1 e)) (fun e => β (ix1 e)) (i 1)

/-- The third result: the second adapter's projection of the hidden layer, normed. -/
def hidArr : Vec Ideal S4096x128 .bf16 := fun i =>
  norm (adapt (hidAt X wu wg bu bg (i 0)) (fun e k => wo (ix2 e k)) (fun e => bo (ix1 e))) (fun e => g (ix1 e)) (fun e => β (ix1 e)) (i 1)

/-- The fourth result: the tokens' projection without its bias, normed. -/
def lowArr : Vec Ideal S4096x128 .bf16 := fun i =>
  norm (fun e => dot (row X (i 0)) (fun k => wi (ix2 e k))) (fun e => g (ix1 e)) (fun e => β (ix1 e)) (i 1)

/-- The hidden layer of all tokens, as the reference computes it. -/
def hidden : Vec Ideal S4096x2048 .f32 := gate (wide (rows X) wg bg) (wide (rows X) wu bu)

theorem hidden_apply (c : Fin 4096) (h : Fin 2048) : hidden X wu wg bu bg (ix2 c h) = hidAt X wu wg bu bg c h := by
  unfold hidden hidAt hid
  rw [gate_apply, wide_apply, wide_apply]
  simp only [rows_apply]

theorem eq_ix2 {a b : ℕ} (i : (⟨2, ![a, b]⟩ : Shape).Idx) : i = ix2 (i 0) (i 1) := funext fun x => by fin_cases x <;> rfl

theorem total_eq : total (F := Ideal) (rows X) (hidden X wu wg bu bg) wd bd = outArr X wu wg wd bu bg bd := by
  funext i
  obtain ⟨c, k, rfl⟩ : ∃ (c : Fin 4096) (k : Fin 1024), i = ix2 c k := ⟨i 0, i 1, eq_ix2 i⟩
  rw [total_apply]
  simp only [rows_apply, hidden_apply]
  rfl

theorem in_eq : normed (F := Ideal) (addf (low (rows X) wi) (along bi)) g β = inArr X wi bi g β := by
  funext i
  obtain ⟨c, e, rfl⟩ : ∃ (c : Fin 4096) (e : Fin 128), i = ix2 c e := ⟨i 0, i 1, eq_ix2 i⟩
  rw [normed_apply]
  have h : ∀ c e, addf (low (F := Ideal) (rows X) wi) (along bi) (ix2 c e) = adapt (row X c) (fun e k => wi (ix2 e k)) (fun e => bi (ix1 e)) e := fun c e => by
    show low (F := Ideal) (rows X) wi (ix2 c e) + along (F := Ideal) bi (ix2 c e) = _
    rw [low_apply, along_apply]
    simp only [rows_apply]
    rfl
  simp only [h]
  rfl

theorem hid_eq : normed (F := Ideal) (addf (lowHid (hidden X wu wg bu bg) wo) (along bo)) g β = hidArr X wu wg wo bu bg bo g β := by
  funext i
  obtain ⟨c, e, rfl⟩ : ∃ (c : Fin 4096) (e : Fin 128), i = ix2 c e := ⟨i 0, i 1, eq_ix2 i⟩
  rw [normed_apply]
  have h : ∀ c e, addf (lowHid (F := Ideal) (hidden X wu wg bu bg) wo) (along bo) (ix2 c e)
      = adapt (hidAt X wu wg bu bg c) (fun e k => wo (ix2 e k)) (fun e => bo (ix1 e)) e := fun c e => by
    show lowHid (F := Ideal) (hidden X wu wg bu bg) wo (ix2 c e) + along (F := Ideal) bo (ix2 c e) = _
    rw [lowHid_apply, along_apply]
    simp only [hidden_apply]
    rfl
  simp only [h]
  rfl

theorem low_eq : normed (F := Ideal) (low (rows X) wi) g β = lowArr X wi g β := by
  funext i
  obtain ⟨c, e, rfl⟩ : ∃ (c : Fin 4096) (e : Fin 128), i = ix2 c e := ⟨i 0, i 1, eq_ix2 i⟩
  rw [normed_apply]
  simp only [low_apply, rows_apply]
  rfl

end Results

/-! ## The run -/

variable (m : (ℓ : Loc nD τ sig) → Buf (Elt Ideal) ℓ) (ρ : Dev nD → PrngReg)

local notation "arg[" c "," r "]" => m (Thread.loc (Dev.tc c : Thread nD τ) r)

/-- The four results of the arguments in the memory, at the four buffers of `r`. -/
def Ends (c : Dev nD) (r : (ℓ : Loc nD τ sig) → Buf (Elt Ideal) ℓ) : Prop :=
  r ((c.tc : Thread nD τ).loc main_v90) = outArr (arg[c, main_arg0]) (arg[c, main_arg1]) (arg[c, main_arg2]) (arg[c, main_arg5]) (arg[c, main_arg6]) (arg[c, main_arg7]) (arg[c, main_arg12])
  ∧ r ((c.tc : Thread nD τ).loc main_v91) = inArr (arg[c, main_arg0]) (arg[c, main_arg3]) (arg[c, main_arg8]) (arg[c, main_arg10]) (arg[c, main_arg11])
  ∧ r ((c.tc : Thread nD τ).loc main_v92) = hidArr (arg[c, main_arg0]) (arg[c, main_arg1]) (arg[c, main_arg2]) (arg[c, main_arg4]) (arg[c, main_arg6]) (arg[c, main_arg7]) (arg[c, main_arg9]) (arg[c, main_arg10]) (arg[c, main_arg11])
  ∧ r ((c.tc : Thread nD τ).loc main_v93) = lowArr (arg[c, main_arg0]) (arg[c, main_arg3]) (arg[c, main_arg10]) (arg[c, main_arg11])

set_option maxHeartbeats 2000000 in
/-- The reference runs, its results are those of its arguments, and it leaves these as they were. -/
theorem run : θ_run (defs (F := Ideal)) (onTc (τ := τ) main) ⟨m, fun _ => 0, ρ⟩ fun r => ∀ c : Dev nD, Ends m c r.2.mem
    ∧ ∀ a ∈ [main_arg0, main_arg1, main_arg2, main_arg3, main_arg4, main_arg5, main_arg6, main_arg7, main_arg8, main_arg9, main_arg10, main_arg11, main_arg12],
      r.2.mem ((c.tc : Thread nD τ).loc a) = m ((c.tc : Thread nD τ).loc a) := by
  refine (θ_run _ _ _).mono (fun r h c => ?_) (Value.run (F := Ideal) m ρ)
  obtain ⟨h0, h1, h2, h3, hk⟩ := h c
  refine ⟨⟨h0.trans ?_, h1.trans ?_, h2.trans ?_, h3.trans ?_⟩, ?_⟩
  · exact total_eq _ _ _ _ _ _ _
  · unfold Value.res_main_v91; exact in_eq _ _ _ _ _
  · unfold Value.res_main_v92; exact hid_eq _ _ _ _ _ _ _ _ _
  · exact low_eq _ _ _ _
  · simpa only [List.forall_mem_cons, List.not_mem_nil, false_imp_iff, implies_true, and_true] using hk

end Cert.Proof.Expert.Ref

end
-- ==== Proof.SharedKern.lean ====
/-
  The shared expert's body, read at one element over the extended reals.
-/
module

public import proofs.«01_k».proof.Proof.SharedRow
public import proofs.«01_k».proof.Proof.Gen.SharedIdeal.Skeleton

@[expose] public section

set_option maxRecDepth 16384

noncomputable section

namespace Cert.Proof.Expert

open Cert.SharedIdeal Cert.SharedIdeal.Gen
open Idealize.ShloMosaic

theorem pay3_apply (x : Vec Ideal S1024x1024 .f32) (wu : Vec Ideal S2048x1024 .bf16) (bu : Vec Ideal S1x2048 .f32) (wg : Vec Ideal S2048x1024 .bf16)
    (bg : Vec Ideal S1x2048 .f32) (r : Fin 1024) (h : Fin 2048) :
    k0_pay3 (F := Ideal) x wu bu wg bg (ix2 r h)
      = hid (fun k => x (ix2 r k)) (fun h k => wu (ix2 h k)) (fun h k => wg (ix2 h k)) (fun h => bu (ix2 0 h)) (fun h => bg (ix2 0 h)) h := by
  unfold hid gated dot
  pointwise [k0_pay3, k0_pay2, k0_pay1]

theorem pay4_apply (x : Vec Ideal S1024x1024 .f32) (w : Vec Ideal S128x1024 .bf16) (r : Fin 1024) (e : Fin 128) :
    k0_pay4 (F := Ideal) x w (ix2 r e) = dot (fun k => x (ix2 r k)) (fun k => w (ix2 e k)) := by
  unfold dot
  pointwise [k0_pay4, k0_pay2, k0_pay1]

theorem pay7_apply (x : Vec Ideal S1024x1024 .f32) (w : Vec Ideal S128x1024 .bf16) (b : Vec Ideal S1x128 .f32) (r : Fin 1024) (e : Fin 128) :
    k0_pay7 (F := Ideal) x w b (ix2 r e) = adapt (fun k => x (ix2 r k)) (fun e k => w (ix2 e k)) (fun e => b (ix2 0 e)) e := by
  unfold adapt
  rw [← pay4_apply]
  unfold k0_pay7
  generalize k0_pay4 x w = p
  pointwise

theorem pay13_apply (y : FVec Ideal S1024x2048 .bf16) (w : Vec Ideal S128x2048 .bf16) (b : Vec Ideal S1x128 .f32) (r : Fin 1024) (e : Fin 128) :
    k0_pay13 (F := Ideal) y w b (ix2 r e) = adapt (fun k => y (ix2 r k)) (fun e k => w (ix2 e k)) (fun e => b (ix2 0 e)) e := by
  unfold adapt dot
  pointwise [k0_pay13]

theorem pay11_apply (x : Vec Ideal S1024x1024 .f32) (w : Vec Ideal S128x1024 .bf16) (b g β : Vec Ideal S1x128 .f32) (r : Fin 1024) (e : Fin 128) :
    k0_pay14 (F := Ideal) (k0_pay11 (k0_pay5 g) (k0_pay6 β) (k0_pay7 x w b) (k0_pay8 x w b) (k0_pay9 x w b) (k0_pay10 x w b)) (ix2 r e)
      = norm (fun e => k0_pay7 (F := Ideal) x w b (ix2 r e)) (fun e => g (ix2 0 e)) (fun e => β (ix2 0 e)) e := by
  unfold k0_pay10 k0_pay9 k0_pay8
  generalize k0_pay7 x w b = v
  unfold norm mean
  pointwise [k0_pay14, k0_pay11, k0_pay5, k0_pay6]

theorem pay15_apply (v : FVec Ideal S1024x128 .f32) (g β : Vec Ideal S1x128 .f32) (r : Fin 1024) (e : Fin 128) :
    k0_pay15 (F := Ideal) (k0_pay5 g) (k0_pay6 β) v (ix2 r e)
      = norm (fun e => v (ix2 r e)) (fun e => g (ix2 0 e)) (fun e => β (ix2 0 e)) e := by
  unfold norm mean
  pointwise [k0_pay15, k0_pay5, k0_pay6]

theorem pay16_apply (v : FVec Ideal S1024x128 .f32) (g β : Vec Ideal S1x128 .f32) (r : Fin 1024) (e : Fin 128) :
    k0_pay16 (F := Ideal) (k0_pay12 v (k0_pay5 g) (k0_pay6 β)) (ix2 r e)
      = norm (fun e => v (ix2 r e)) (fun e => g (ix2 0 e)) (fun e => β (ix2 0 e)) e := by
  unfold norm mean
  pointwise [k0_pay16, k0_pay12, k0_pay5, k0_pay6]

theorem pay17_apply (x : Vec Ideal S1024x1024 .f32) (y : FVec Ideal S1024x2048 .bf16) (b : Vec Ideal S1x1024 .f32) (w : Vec Ideal S1024x2048 .bf16)
    (r k : Fin 1024) :
    k0_pay17 (F := Ideal) (k0_pay1 x) y b w (ix2 r k)
      = out (fun k => x (ix2 r k)) (fun h => y (ix2 r h)) (fun k h => w (ix2 k h)) (fun k => b (ix2 0 k)) k := by
  unfold out dot
  pointwise [k0_pay17, k0_pay1]
  rw [add_assoc, add_comm (b (ix2 0 k))]

end Cert.Proof.Expert

end
-- ==== Proof.SharedEnd.lean ====
/-
  The shared expert's call over the extended reals: its four arrays after the run are the reference's results of its arguments.
-/
module

public import proofs.«01_k».proof.Proof.SharedKern
public import proofs.«01_k».proof.Proof.SharedRef
public import proofs.«01_k».proof.Proof.Gen.SharedIdeal.Value
public import Idealize.ShloMosaic.Lib.Pipeline.ValueKit.Point

@[expose] public section

set_option maxRecDepth 16384

noncomputable section

namespace Cert.Proof.Expert

open Cert.SharedIdeal Cert.SharedIdeal.Gen Cert.SharedIdeal.Value
open Idealize.ShloMosaic Idealize.ShloMosaic.TcCoe Idealize.ShloMosaic.StableHlo Idealize.SL.Sem

/-! ## The windows' places -/

theorem at0 : ∀ t : Fin grid0.N, win0_0.index t 0 = t.val ∧ win0_0.index t 1 = 0 := by decide
theorem at1 : ∀ t : Fin grid0.N, win0_1.index t 0 = 0 ∧ win0_1.index t 1 = 0 := by decide
theorem at2 : ∀ t : Fin grid0.N, win0_2.index t 0 = 0 ∧ win0_2.index t 1 = 0 := by decide
theorem at3 : ∀ t : Fin grid0.N, win0_3.index t 0 = 0 ∧ win0_3.index t 1 = 0 := by decide
theorem at4 : ∀ t : Fin grid0.N, win0_4.index t 0 = 0 ∧ win0_4.index t 1 = 0 := by decide
theorem at5 : ∀ t : Fin grid0.N, win0_5.index t 0 = 0 ∧ win0_5.index t 1 = 0 := by decide
theorem at6 : ∀ t : Fin grid0.N, win0_6.index t 0 = 0 ∧ win0_6.index t 1 = 0 := by decide
theorem at7 : ∀ t : Fin grid0.N, win0_7.index t 0 = 0 ∧ win0_7.index t 1 = 0 := by decide
theorem at8 : ∀ t : Fin grid0.N, win0_8.index t 0 = 0 ∧ win0_8.index t 1 = 0 := by decide
theorem at9 : ∀ t : Fin grid0.N, win0_9.index t 0 = 0 ∧ win0_9.index t 1 = 0 := by decide
theorem at10 : ∀ t : Fin grid0.N, win0_10.index t 0 = 0 ∧ win0_10.index t 1 = 0 := by decide
theorem at11 : ∀ t : Fin grid0.N, win0_11.index t 0 = 0 ∧ win0_11.index t 1 = 0 := by decide
theorem at12 : ∀ t : Fin grid0.N, win0_12.index t 0 = 0 ∧ win0_12.index t 1 = 0 := by decide
theorem at13 : ∀ t : Fin grid0.N, win0_13.index t 0 = t.val ∧ win0_13.index t 1 = 0 := by decide
theorem at14 : ∀ t : Fin grid0.N, win0_14.index t 0 = t.val ∧ win0_14.index t 1 = 0 := by decide
theorem at15 : ∀ t : Fin grid0.N, win0_15.index t 0 = t.val ∧ win0_15.index t 1 = 0 := by decide
theorem at16 : ∀ t : Fin grid0.N, win0_16.index t 0 = t.val ∧ win0_16.index t 1 = 0 := by decide

theorem lt_four (t : Fin cfg0.N) : t.val < 4 := t.isLt

variable (m : (ℓ : Loc nD τ sig) → Buf (Elt Ideal) ℓ) (ρ : Dev nD → PrngReg) (c : Dev nD)

local notation "arg[" r "]" => m (Thread.loc (Dev.tc c : Thread nD τ) r)

/-! ## The reshaped operands -/

theorem cast_x (X : Vec Ideal S2x2048x1024 .f32) (i : Fin 4096) (k : Fin 1024) :
    shapeCast S4096x1024 X shapeCasts_S2x2048x1024_S4096x1024 (ix2 i k) = Ref.row X i k := by pointwise
theorem cast_2048 (v : Vec Ideal S2048 .f32) (h : Fin 2048) : shapeCast S1x2048 v shapeCasts_S2048_S1x2048 (ix2 0 h) = v (ix1 h) := by pointwise
theorem cast_128 (v : Vec Ideal S128 .f32) (h : Fin 128) : shapeCast S1x128 v shapeCasts_S128_S1x128 (ix2 0 h) = v (ix1 h) := by pointwise
theorem cast_1024 (v : Vec Ideal S1024 .f32) (h : Fin 1024) : shapeCast S1x1024 v shapeCasts_S1024_S1x1024 (ix2 0 h) = v (ix1 h) := by pointwise

theorem entry_v0 : V m c main_v0 = shapeCast S4096x1024 (arg[main_arg0] : Vec Ideal S2x2048x1024 .f32) shapeCasts_S2x2048x1024_S4096x1024 := by
  unfold V hostOps0; after_results_simp; rfl
theorem entry_v1 : V m c main_v1 = shapeCast S1x2048 (arg[main_arg6] : Vec Ideal S2048 .f32) shapeCasts_S2048_S1x2048 := by
  unfold V hostOps0; after_results_simp; rfl
theorem entry_v2 : V m c main_v2 = shapeCast S1x2048 (arg[main_arg7] : Vec Ideal S2048 .f32) shapeCasts_S2048_S1x2048 := by
  unfold V hostOps0; after_results_simp; rfl
theorem entry_v3 : V m c main_v3 = shapeCast S1x128 (arg[main_arg8] : Vec Ideal S128 .f32) shapeCasts_S128_S1x128 := by
  unfold V hostOps0; after_results_simp; rfl
theorem entry_v4 : V m c main_v4 = shapeCast S1x128 (arg[main_arg9] : Vec Ideal S128 .f32) shapeCasts_S128_S1x128 := by
  unfold V hostOps0; after_results_simp; rfl
theorem entry_v5 : V m c main_v5 = shapeCast S1x128 (arg[main_arg10] : Vec Ideal S128 .f32) shapeCasts_S128_S1x128 := by
  unfold V hostOps0; after_results_simp; rfl
theorem entry_v6 : V m c main_v6 = shapeCast S1x128 (arg[main_arg11] : Vec Ideal S128 .f32) shapeCasts_S128_S1x128 := by
  unfold V hostOps0; after_results_simp; rfl
theorem entry_v7 : V m c main_v7 = shapeCast S1x1024 (arg[main_arg12] : Vec Ideal S1024 .f32) shapeCasts_S1024_S1x1024 := by
  unfold V hostOps0; after_results_simp; rfl

/-! ## The blocks -/

theorem blk0 (t : Fin cfg0.N) (r k : Fin 1024) :
    (iblk m c 0 t : Vec Ideal S1024x1024 .f32) (ix2 r k) = Ref.row (arg[main_arg0]) ⟨1024 * t.val + r.val, by have := lt_four t; omega⟩ k := by
  have i0 : win0_0.index t (0 : Fin 2) = t.val := (at0 t).1
  have i1 : win0_0.index t (1 : Fin 2) = 0 := (at0 t).2
  refine Eq.trans ?_ ((congrFun (entry_v0 m c) _).trans (cast_x _ _ k))
  show ((cfg0.win 0).blk t).view.read (Elt Ideal) (V m c main_v0) (ix2 r k) = _
  generalize V m c main_v0 = X
  blk_ext [i0, i1]

theorem blk1 (t : Fin cfg0.N) (h : Fin 2048) (k : Fin 1024) :
    (iblk m c 1 t : Vec Ideal S2048x1024 .bf16) (ix2 h k) = (arg[main_arg1] : Vec Ideal S2048x1024 .bf16) (ix2 h k) := by
  have i0 : win0_1.index t (0 : Fin 2) = 0 := (at1 t).1
  have i1 : win0_1.index t (1 : Fin 2) = 0 := (at1 t).2
  refine Eq.trans ?_ (congrFun (V_main_arg1 m c) _)
  show ((cfg0.win 1).blk t).view.read (Elt Ideal) (V m c main_arg1) (ix2 h k) = _
  generalize V m c main_arg1 = X
  blk_ext [i0, i1]

theorem blk2 (t : Fin cfg0.N) (h : Fin 2048) (k : Fin 1024) :
    (iblk m c 2 t : Vec Ideal S2048x1024 .bf16) (ix2 h k) = (arg[main_arg2] : Vec Ideal S2048x1024 .bf16) (ix2 h k) := by
  have i0 : win0_2.index t (0 : Fin 2) = 0 := (at2 t).1
  have i1 : win0_2.index t (1 : Fin 2) = 0 := (at2 t).2
  refine Eq.trans ?_ (congrFun (V_main_arg2 m c) _)
  show ((cfg0.win 2).blk t).view.read (Elt Ideal) (V m c main_arg2) (ix2 h k) = _
  generalize V m c main_arg2 = X
  blk_ext [i0, i1]

theorem blk3 (t : Fin cfg0.N) (h : Fin 128) (k : Fin 1024) :
    (iblk m c 3 t : Vec Ideal S128x1024 .bf16) (ix2 h k) = (arg[main_arg3] : Vec Ideal S128x1024 .bf16) (ix2 h k) := by
  have i0 : win0_3.index t (0 : Fin 2) = 0 := (at3 t).1
  have i1 : win0_3.index t (1 : Fin 2) = 0 := (at3 t).2
  refine Eq.trans ?_ (congrFun (V_main_arg3 m c) _)
  show ((cfg0.win 3).blk t).view.read (Elt Ideal) (V m c main_arg3) (ix2 h k) = _
  generalize V m c main_arg3 = X
  blk_ext [i0, i1]

theorem blk4 (t : Fin cfg0.N) (h : Fin 128) (k : Fin 2048) :
    (iblk m c 4 t : Vec Ideal S128x2048 .bf16) (ix2 h k) = (arg[main_arg4] : Vec Ideal S128x2048 .bf16) (ix2 h k) := by
  have i0 : win0_4.index t (0 : Fin 2) = 0 := (at4 t).1
  have i1 : win0_4.index t (1 : Fin 2) = 0 := (at4 t).2
  refine Eq.trans ?_ (congrFun (V_main_arg4 m c) _)
  show ((cfg0.win 4).blk t).view.read (Elt Ideal) (V m c main_arg4) (ix2 h k) = _
  generalize V m c main_arg4 = X
  blk_ext [i0, i1]

theorem blk5 (t : Fin cfg0.N) (h : Fin 1024) (k : Fin 2048) :
    (iblk m c 5 t : Vec Ideal S1024x2048 .bf16) (ix2 h k) = (arg[main_arg5] : Vec Ideal S1024x2048 .bf16) (ix2 h k) := by
  have i0 : win0_5.index t (0 : Fin 2) = 0 := (at5 t).1
  have i1 : win0_5.index t (1 : Fin 2) = 0 := (at5 t).2
  refine Eq.trans ?_ (congrFun (V_main_arg5 m c) _)
  show ((cfg0.win 5).blk t).view.read (Elt Ideal) (V m c main_arg5) (ix2 h k) = _
  generalize V m c main_arg5 = X
  blk_ext [i0, i1]

theorem blk6 (t : Fin cfg0.N) (h : Fin 2048) :
    (iblk m c 6 t : Vec Ideal S1x2048 .f32) (ix2 0 h) = (arg[main_arg6] : Vec Ideal S2048 .f32) (ix1 h) := by
  have i0 : win0_6.index t (0 : Fin 2) = 0 := (at6 t).1
  have i1 : win0_6.index t (1 : Fin 2) = 0 := (at6 t).2
  refine Eq.trans ?_ ((congrFun (entry_v1 m c) _).trans (cast_2048 _ h))
  show ((cfg0.win 6).blk t).view.read (Elt Ideal) (V m c main_v1) (ix2 0 h) = _
  generalize V m c main_v1 = X
  blk_ext [i0, i1]

theorem blk7 (t : Fin cfg0.N) (h : Fin 2048) :
    (iblk m c 7 t : Vec Ideal S1x2048 .f32) (ix2 0 h) = (arg[main_arg7] : Vec Ideal S2048 .f32) (ix1 h) := by
  have i0 : win0_7.index t (0 : Fin 2) = 0 := (at7 t).1
  have i1 : win0_7.index t (1 : Fin 2) = 0 := (at7 t).2
  refine Eq.trans ?_ ((congrFun (entry_v2 m c) _).trans (cast_2048 _ h))
  show ((cfg0.win 7).blk t).view.read (Elt Ideal) (V m c main_v2) (ix2 0 h) = _
  generalize V m c main_v2 = X
  blk_ext [i0, i1]

theorem blk8 (t : Fin cfg0.N) (h : Fin 128) :
    (iblk m c 8 t : Vec Ideal S1x128 .f32) (ix2 0 h) = (arg[main_arg8] : Vec Ideal S128 .f32) (ix1 h) := by
  have i0 : win0_8.index t (0 : Fin 2) = 0 := (at8 t).1
  have i1 : win0_8.index t (1 : Fin 2) = 0 := (at8 t).2
  refine Eq.trans ?_ ((congrFun (entry_v3 m c) _).trans (cast_128 _ h))
  show ((cfg0.win 8).blk t).view.read (Elt Ideal) (V m c main_v3) (ix2 0 h) = _
  generalize V m c main_v3 = X
  blk_ext [i0, i1]

theorem blk9 (t : Fin cfg0.N) (h : Fin 128) :
    (iblk m c 9 t : Vec Ideal S1x128 .f32) (ix2 0 h) = (arg[main_arg9] : Vec Ideal S128 .f32) (ix1 h) := by
  have i0 : win0_9.index t (0 : Fin 2) = 0 := (at9 t).1
  have i1 : win0_9.index t (1 : Fin 2) = 0 := (at9 t).2
  refine Eq.trans ?_ ((congrFun (entry_v4 m c) _).trans (cast_128 _ h))
  show ((cfg0.win 9).blk t).view.read (Elt Ideal) (V m c main_v4) (ix2 0 h) = _
  generalize V m c main_v4 = X
  blk_ext [i0, i1]

theorem blk10 (t : Fin cfg0.N) (h : Fin 128) :
    (iblk m c 10 t : Vec Ideal S1x128 .f32) (ix2 0 h) = (arg[main_arg10] : Vec Ideal S128 .f32) (ix1 h) := by
  have i0 : win0_10.index t (0 : Fin 2) = 0 := (at10 t).1
  have i1 : win0_10.index t (1 : Fin 2) = 0 := (at10 t).2
  refine Eq.trans ?_ ((congrFun (entry_v5 m c) _).trans (cast_128 _ h))
  show ((cfg0.win 10).blk t).view.read (Elt Ideal) (V m c main_v5) (ix2 0 h) = _
  generalize V m c main_v5 = X
  blk_ext [i0, i1]

theorem blk11 (t : Fin cfg0.N) (h : Fin 128) :
    (iblk m c 11 t : Vec Ideal S1x128 .f32) (ix2 0 h) = (arg[main_arg11] : Vec Ideal S128 .f32) (ix1 h) := by
  have i0 : win0_11.index t (0 : Fin 2) = 0 := (at11 t).1
  have i1 : win0_11.index t (1 : Fin 2) = 0 := (at11 t).2
  refine Eq.trans ?_ ((congrFun (entry_v6 m c) _).trans (cast_128 _ h))
  show ((cfg0.win 11).blk t).view.read (Elt Ideal) (V m c main_v6) (ix2 0 h) = _
  generalize V m c main_v6 = X
  blk_ext [i0, i1]

theorem blk12 (t : Fin cfg0.N) (h : Fin 1024) :
    (iblk m c 12 t : Vec Ideal S1x1024 .f32) (ix2 0 h) = (arg[main_arg12] : Vec Ideal S1024 .f32) (ix1 h) := by
  have i0 : win0_12.index t (0 : Fin 2) = 0 := (at12 t).1
  have i1 : win0_12.index t (1 : Fin 2) = 0 := (at12 t).2
  refine Eq.trans ?_ ((congrFun (entry_v7 m c) _).trans (cast_1024 _ h))
  show ((cfg0.win 12).blk t).view.read (Elt Ideal) (V m c main_v7) (ix2 0 h) = _
  generalize V m c main_v7 = X
  blk_ext [i0, i1]

theorem hz : (![0, 0] : Fin 2 → Nat) = fun _ => 0 := funext fun a => by fin_cases a <;> rfl
theorem ld0 {e : EltTy} (x : Vec Ideal S1024x1024 e) : View.ld x r0_0 = x := View.ld_unit_zero hz _ _
theorem ld1 {e : EltTy} (x : Vec Ideal S2048x1024 e) : View.ld x r0_1 = x := View.ld_unit_zero hz _ _
theorem ld2 {e : EltTy} (x : Vec Ideal S1x2048 e) : View.ld x r0_2 = x := View.ld_unit_zero hz _ _
theorem ld3 {e : EltTy} (x : Vec Ideal S128x1024 e) : View.ld x r0_3 = x := View.ld_unit_zero hz _ _
theorem ld4 {e : EltTy} (x : Vec Ideal S1x128 e) : View.ld x r0_4 = x := View.ld_unit_zero hz _ _
theorem ld5 {e : EltTy} (x : Vec Ideal S128x2048 e) : View.ld x r0_5 = x := View.ld_unit_zero hz _ _
theorem ld7 {e : EltTy} (x : Vec Ideal S1x1024 e) : View.ld x r0_7 = x := View.ld_unit_zero hz _ _
theorem ld8 {e : EltTy} (x : Vec Ideal S1024x2048 e) : View.ld x r0_8 = x := View.ld_unit_zero hz _ _

/-! ## What a point writes back -/

theorem pay18_at (t : Fin cfg0.N) (r : Fin 1024) (h : Fin 2048) :
    k0_pay3 (F := Ideal) (iblk m c 0 t) (iblk m c 1 t) (iblk m c 6 t) (iblk m c 2 t) (iblk m c 7 t) (ix2 r h)
      = Ref.hidAt (arg[main_arg0]) (arg[main_arg1]) (arg[main_arg2]) (arg[main_arg6]) (arg[main_arg7]) ⟨1024 * t.val + r.val, by have := lt_four t; omega⟩ h := by
  rw [pay3_apply]
  simp only [blk0, blk1, blk2, blk6, blk7]
  rfl

theorem place13 (t : Fin cfg0.N) (r : Fin 1024) (k : Fin 1024) :
    ((cfg0.win 13).blk t).view.emb (ix2 r k : (⟨2, ![1024, 1024]⟩ : Shape).Idx) = (ix2 ⟨1024 * t.val + r.val, by have := lt_four t; omega⟩ k : (⟨2, ![4096, 1024]⟩ : Shape).Idx) := by
  have i0 : win0_13.index t (0 : Fin 2) = t.val := (at13 t).1
  have i1 : win0_13.index t (1 : Fin 2) = 0 := (at13 t).2
  funext a; apply Fin.ext
  match a with
  | ⟨0, _⟩ => show win0_13.index t (0 : Fin 2) * 1024 + 1 * r.val = 1024 * t.val + r.val; omega
  | ⟨1, _⟩ => show win0_13.index t (1 : Fin 2) * 1024 + 1 * k.val = k.val; omega

theorem wrote13 (t : Fin cfg0.N) :
    (dats m 0 c).flushed 13 t = ((cfg0.win 13).blk t).view.read (Elt Ideal) (Ref.outArr (arg[main_arg0]) (arg[main_arg1]) (arg[main_arg2]) (arg[main_arg5]) (arg[main_arg6]) (arg[main_arg7]) (arg[main_arg12])) := by
  rw [flushed13]
  funext j
  obtain ⟨r, k, rfl⟩ : ∃ (r : Fin 1024) (k : Fin 1024), j = ix2 r k := ⟨j 0, j 1, Ref.eq_ix2 j⟩
  refine Eq.trans ?_ (congrArg (Ref.outArr (arg[main_arg0]) (arg[main_arg1]) (arg[main_arg2]) (arg[main_arg5]) (arg[main_arg6]) (arg[main_arg7]) (arg[main_arg12])) (place13 t r k)).symm
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = _
  unfold out0_13 k0_pay18
  rw [View.canon_unit_zero hz]
  simp only [ld0, ld1, ld2, ld3, ld4, ld5, ld7, ld8]
  rw [pay17_apply]
  simp only [pay18_at, blk0, blk5, blk12]
  rfl

/-- The array after the run. -/
theorem end13 : (dats m 0 c).arrAt 13 cfg0.N = Ref.outArr (arg[main_arg0]) (arg[main_arg1]) (arg[main_arg2]) (arg[main_arg5]) (arg[main_arg6]) (arg[main_arg7]) (arg[main_arg12]) := by
  refine (dats m 0 c).arrAt_eq_of_cover 13 (Ref.outArr (arg[main_arg0]) (arg[main_arg1]) (arg[main_arg2]) (arg[main_arg5]) (arg[main_arg6]) (arg[main_arg7]) (arg[main_arg12])) (fun t _ => wrote13 m c t) fun i => ?_
  obtain ⟨p, k, rfl⟩ : ∃ (p : Fin 4096) (k : Fin 1024), i = ix2 p k := ⟨i 0, i 1, Ref.eq_ix2 i⟩
  have e := (place13 (⟨p.val / 1024, by show p.val / 1024 < 4; omega⟩ : Fin cfg0.N) ⟨p.val % 1024, Nat.mod_lt _ (by norm_num)⟩ k).trans
    (congrArg (fun p => (ix2 p k : (⟨2, ![4096, 1024]⟩ : Shape).Idx)) (Fin.ext (Nat.div_add_mod p.val 1024)))
  exact ⟨_, flush0_13 _, Eq.subst (motive := fun i => i ∈ ((cfg0.win 13).blk _).view.set) e (((cfg0.win 13).blk _).view.emb_mem_set _)⟩

theorem place14 (t : Fin cfg0.N) (r : Fin 1024) (k : Fin 128) :
    ((cfg0.win 14).blk t).view.emb (ix2 r k : (⟨2, ![1024, 128]⟩ : Shape).Idx) = (ix2 ⟨1024 * t.val + r.val, by have := lt_four t; omega⟩ k : (⟨2, ![4096, 128]⟩ : Shape).Idx) := by
  have i0 : win0_14.index t (0 : Fin 2) = t.val := (at14 t).1
  have i1 : win0_14.index t (1 : Fin 2) = 0 := (at14 t).2
  funext a; apply Fin.ext
  match a with
  | ⟨0, _⟩ => show win0_14.index t (0 : Fin 2) * 1024 + 1 * r.val = 1024 * t.val + r.val; omega
  | ⟨1, _⟩ => show win0_14.index t (1 : Fin 2) * 128 + 1 * k.val = k.val; omega

theorem wrote14 (t : Fin cfg0.N) :
    (dats m 0 c).flushed 14 t = ((cfg0.win 14).blk t).view.read (Elt Ideal) (Ref.inArr (arg[main_arg0]) (arg[main_arg3]) (arg[main_arg8]) (arg[main_arg10]) (arg[main_arg11])) := by
  rw [flushed14]
  funext j
  obtain ⟨r, k, rfl⟩ : ∃ (r : Fin 1024) (k : Fin 128), j = ix2 r k := ⟨j 0, j 1, Ref.eq_ix2 j⟩
  refine Eq.trans ?_ (congrArg (Ref.inArr (arg[main_arg0]) (arg[main_arg3]) (arg[main_arg8]) (arg[main_arg10]) (arg[main_arg11])) (place14 t r k)).symm
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = _
  unfold out0_14 k0_pay20 k0_pay19
  rw [View.canon_unit_zero hz]
  simp only [ld0, ld1, ld2, ld3, ld4, ld5, ld7, ld8]
  rw [pay11_apply]
  simp only [pay7_apply, blk0, blk3, blk8, blk10, blk11]
  rfl

/-- The array after the run. -/
theorem end14 : (dats m 0 c).arrAt 14 cfg0.N = Ref.inArr (arg[main_arg0]) (arg[main_arg3]) (arg[main_arg8]) (arg[main_arg10]) (arg[main_arg11]) := by
  refine (dats m 0 c).arrAt_eq_of_cover 14 (Ref.inArr (arg[main_arg0]) (arg[main_arg3]) (arg[main_arg8]) (arg[main_arg10]) (arg[main_arg11])) (fun t _ => wrote14 m c t) fun i => ?_
  obtain ⟨p, k, rfl⟩ : ∃ (p : Fin 4096) (k : Fin 128), i = ix2 p k := ⟨i 0, i 1, Ref.eq_ix2 i⟩
  have e := (place14 (⟨p.val / 1024, by show p.val / 1024 < 4; omega⟩ : Fin cfg0.N) ⟨p.val % 1024, Nat.mod_lt _ (by norm_num)⟩ k).trans
    (congrArg (fun p => (ix2 p k : (⟨2, ![4096, 128]⟩ : Shape).Idx)) (Fin.ext (Nat.div_add_mod p.val 1024)))
  exact ⟨_, flush0_14 _, Eq.subst (motive := fun i => i ∈ ((cfg0.win 14).blk _).view.set) e (((cfg0.win 14).blk _).view.emb_mem_set _)⟩

theorem place15 (t : Fin cfg0.N) (r : Fin 1024) (k : Fin 128) :
    ((cfg0.win 15).blk t).view.emb (ix2 r k : (⟨2, ![1024, 128]⟩ : Shape).Idx) = (ix2 ⟨1024 * t.val + r.val, by have := lt_four t; omega⟩ k : (⟨2, ![4096, 128]⟩ : Shape).Idx) := by
  have i0 : win0_15.index t (0 : Fin 2) = t.val := (at15 t).1
  have i1 : win0_15.index t (1 : Fin 2) = 0 := (at15 t).2
  funext a; apply Fin.ext
  match a with
  | ⟨0, _⟩ => show win0_15.index t (0 : Fin 2) * 1024 + 1 * r.val = 1024 * t.val + r.val; omega
  | ⟨1, _⟩ => show win0_15.index t (1 : Fin 2) * 128 + 1 * k.val = k.val; omega

theorem wrote15 (t : Fin cfg0.N) :
    (dats m 0 c).flushed 15 t = ((cfg0.win 15).blk t).view.read (Elt Ideal) (Ref.hidArr (arg[main_arg0]) (arg[main_arg1]) (arg[main_arg2]) (arg[main_arg4]) (arg[main_arg6]) (arg[main_arg7]) (arg[main_arg9]) (arg[main_arg10]) (arg[main_arg11])) := by
  rw [flushed15]
  funext j
  obtain ⟨r, k, rfl⟩ : ∃ (r : Fin 1024) (k : Fin 128), j = ix2 r k := ⟨j 0, j 1, Ref.eq_ix2 j⟩
  refine Eq.trans ?_ (congrArg (Ref.hidArr (arg[main_arg0]) (arg[main_arg1]) (arg[main_arg2]) (arg[main_arg4]) (arg[main_arg6]) (arg[main_arg7]) (arg[main_arg9]) (arg[main_arg10]) (arg[main_arg11])) (place15 t r k)).symm
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = _
  unfold out0_15 k0_pay20 k0_pay19 k0_pay18
  rw [View.canon_unit_zero hz]
  simp only [ld0, ld1, ld2, ld3, ld4, ld5, ld7, ld8]
  rw [pay15_apply]
  simp only [pay13_apply, pay18_at, blk4, blk9, blk10, blk11]
  rfl

/-- The array after the run. -/
theorem end15 : (dats m 0 c).arrAt 15 cfg0.N = Ref.hidArr (arg[main_arg0]) (arg[main_arg1]) (arg[main_arg2]) (arg[main_arg4]) (arg[main_arg6]) (arg[main_arg7]) (arg[main_arg9]) (arg[main_arg10]) (arg[main_arg11]) := by
  refine (dats m 0 c).arrAt_eq_of_cover 15 (Ref.hidArr (arg[main_arg0]) (arg[main_arg1]) (arg[main_arg2]) (arg[main_arg4]) (arg[main_arg6]) (arg[main_arg7]) (arg[main_arg9]) (arg[main_arg10]) (arg[main_arg11])) (fun t _ => wrote15 m c t) fun i => ?_
  obtain ⟨p, k, rfl⟩ : ∃ (p : Fin 4096) (k : Fin 128), i = ix2 p k := ⟨i 0, i 1, Ref.eq_ix2 i⟩
  have e := (place15 (⟨p.val / 1024, by show p.val / 1024 < 4; omega⟩ : Fin cfg0.N) ⟨p.val % 1024, Nat.mod_lt _ (by norm_num)⟩ k).trans
    (congrArg (fun p => (ix2 p k : (⟨2, ![4096, 128]⟩ : Shape).Idx)) (Fin.ext (Nat.div_add_mod p.val 1024)))
  exact ⟨_, flush0_15 _, Eq.subst (motive := fun i => i ∈ ((cfg0.win 15).blk _).view.set) e (((cfg0.win 15).blk _).view.emb_mem_set _)⟩

theorem place16 (t : Fin cfg0.N) (r : Fin 1024) (k : Fin 128) :
    ((cfg0.win 16).blk t).view.emb (ix2 r k : (⟨2, ![1024, 128]⟩ : Shape).Idx) = (ix2 ⟨1024 * t.val + r.val, by have := lt_four t; omega⟩ k : (⟨2, ![4096, 128]⟩ : Shape).Idx) := by
  have i0 : win0_16.index t (0 : Fin 2) = t.val := (at16 t).1
  have i1 : win0_16.index t (1 : Fin 2) = 0 := (at16 t).2
  funext a; apply Fin.ext
  match a with
  | ⟨0, _⟩ => show win0_16.index t (0 : Fin 2) * 1024 + 1 * r.val = 1024 * t.val + r.val; omega
  | ⟨1, _⟩ => show win0_16.index t (1 : Fin 2) * 128 + 1 * k.val = k.val; omega

theorem wrote16 (t : Fin cfg0.N) :
    (dats m 0 c).flushed 16 t = ((cfg0.win 16).blk t).view.read (Elt Ideal) (Ref.lowArr (arg[main_arg0]) (arg[main_arg3]) (arg[main_arg10]) (arg[main_arg11])) := by
  rw [flushed16]
  funext j
  obtain ⟨r, k, rfl⟩ : ∃ (r : Fin 1024) (k : Fin 128), j = ix2 r k := ⟨j 0, j 1, Ref.eq_ix2 j⟩
  refine Eq.trans ?_ (congrArg (Ref.lowArr (arg[main_arg0]) (arg[main_arg3]) (arg[main_arg10]) (arg[main_arg11])) (place16 t r k)).symm
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k) = _
  unfold out0_16 k0_pay20 k0_pay19
  rw [View.canon_unit_zero hz]
  simp only [ld0, ld1, ld2, ld3, ld4, ld5, ld7, ld8]
  rw [pay16_apply]
  simp only [pay4_apply, blk0, blk3, blk10, blk11]
  rfl

/-- The array after the run. -/
theorem end16 : (dats m 0 c).arrAt 16 cfg0.N = Ref.lowArr (arg[main_arg0]) (arg[main_arg3]) (arg[main_arg10]) (arg[main_arg11]) := by
  refine (dats m 0 c).arrAt_eq_of_cover 16 (Ref.lowArr (arg[main_arg0]) (arg[main_arg3]) (arg[main_arg10]) (arg[main_arg11])) (fun t _ => wrote16 m c t) fun i => ?_
  obtain ⟨p, k, rfl⟩ : ∃ (p : Fin 4096) (k : Fin 128), i = ix2 p k := ⟨i 0, i 1, Ref.eq_ix2 i⟩
  have e := (place16 (⟨p.val / 1024, by show p.val / 1024 < 4; omega⟩ : Fin cfg0.N) ⟨p.val % 1024, Nat.mod_lt _ (by norm_num)⟩ k).trans
    (congrArg (fun p => (ix2 p k : (⟨2, ![4096, 128]⟩ : Shape).Idx)) (Fin.ext (Nat.div_add_mod p.val 1024)))
  exact ⟨_, flush0_16 _, Eq.subst (motive := fun i => i ∈ ((cfg0.win 16).blk _).view.set) e (((cfg0.win 16).blk _).view.emb_mem_set _)⟩

end Cert.Proof.Expert

end
-- ==== Proof.LastRow.lean ====
/-
  The last call over the extended reals, a token at a time: the adapters' clipped and gated attention, the experts' projections
  with their layer norm, the mixture over the experts, and the token's output. Then what lets eight rows of 128 values be kept as
  one row of 1024: sums over the long row taken by group and by lane, and the variance of finite values as the mean of their
  squares less their squared mean.
-/
module

public import proofs.«01_k».proof.Proof.SharedRow

@[expose] public section

noncomputable section

namespace Cert.Proof.Last

open Idealize.ShloMosaic
open Cert.Proof.Expert (dot mean norm ofBits_128)

/-- A score held between -5 and 5, then weighted by its sigmoid. -/
def weigh (s : EReal) : EReal :=
  min (Ideal.ofBits .f32 0x40A00000#32) (max (Ideal.ofBits .f32 0xC0A00000#32) s)
    * Ideal.logistic (min (Ideal.ofBits .f32 0x40A00000#32) (max (Ideal.ofBits .f32 0xC0A00000#32) s))

/-- The weighted sum of the values, each by the score of its key against the query. -/
def attend (q : Fin 128 → EReal) (K V : Fin 2048 → Fin 128 → EReal) (e : Fin 128) : EReal := ∑ t, weigh (dot q (K t)) * V t e

/-- The place of lane `o` of group `e` in the long row. -/
def at8 (e : Fin 8) (o : Fin 128) : Fin 1024 := ⟨e.val * 128 + o.val, by omega⟩

/-- The experts' normed projections of a token, summed with the token's weights. -/
def mixed (d : Fin 8 → EReal) (x : Fin 128 → EReal) (w : Fin 128 → Fin 1024 → EReal) (g b : Fin 8 → Fin 128 → EReal) (o : Fin 128) : EReal :=
  ∑ e, d e * norm (fun o => dot x (fun a => w a (at8 e o))) (g e) (b e) o

theorem mixed_swap (d : Fin 8 → EReal) (x : Fin 128 → EReal) (w : Fin 128 → Fin 1024 → EReal) (g b : Fin 8 → Fin 128 → EReal) :
    (fun o => ∑ e, norm (fun o => dot x (fun a => w a (at8 e o))) (g e) (b e) o * d e) = mixed d x w g b :=
  funext fun _ => Finset.sum_congr rfl fun _ _ => mul_comm _ _

/-- The token's output: what came in, the attention's part and the experts' part. -/
def total (y : EReal) (a v : Fin 128 → EReal) (wd wc : Fin 128 → EReal) : EReal := y + dot a wd + dot v wc

/-! ## The long row by group and by lane -/

/-- Whether place `j` is in group `e`. -/
def group (e : Fin 8) (j : Fin 1024) : EReal := if j.val / 128 = e.val then 1 else 0

/-- Whether place `j` is lane `o` of its group. -/
def lane (j : Fin 1024) (o : Fin 128) : EReal := if j.val % 128 = o.val then 1 else 0

theorem group_at (e e' : Fin 8) (o : Fin 128) : group e (at8 e' o) = if e' = e then 1 else 0 := by
  unfold group at8
  congr 1
  simp only [Fin.ext_iff, eq_iff_iff]
  omega

theorem lane_at (e : Fin 8) (o o' : Fin 128) : lane (at8 e o) o' = if o = o' then 1 else 0 := by
  unfold lane at8
  congr 1
  simp only [Fin.ext_iff, eq_iff_iff]
  omega

theorem at_surj (j : Fin 1024) : ∃ e o, j = at8 e o :=
  ⟨⟨j.val / 128, by omega⟩, ⟨j.val % 128, by omega⟩, Fin.ext (Nat.div_add_mod' _ _).symm⟩

theorem sum_at (f : Fin 1024 → EReal) : ∑ j, f j = ∑ e, ∑ o, f (at8 e o) := by
  rw [← Fintype.sum_prod_type' (f := fun e o => f (at8 e o))]
  refine ((finProdFinEquiv : Fin 8 × Fin 128 ≃ Fin 1024).sum_comp f).symm.trans (Fintype.sum_congr _ _ fun p => congrArg f ?_)
  exact Fin.ext (show p.2.val + 128 * p.1.val = p.1.val * 128 + p.2.val by omega)

/-- A value of each group, given to all its lanes. -/
theorem sum_group (m : Fin 8 → EReal) (e : Fin 8) (o : Fin 128) : ∑ e', m e' * group e' (at8 e o) = m e := by
  simp [group_at]

/-- The sum over one group. -/
theorem sum_over (v : Fin 1024 → EReal) (k : EReal) (e : Fin 8) : ∑ j, v j * (group e j * k) = ∑ o, v (at8 e o) * k := by
  rw [sum_at]
  simp only [group_at]
  refine (Finset.sum_eq_single e (fun e' _ h => ?_) (by simp)).trans ?_
  · simp [h]
  · simp

/-- The sum over one lane. -/
theorem sum_lane (f : Fin 1024 → EReal) (o : Fin 128) : ∑ j, f j * lane j o = ∑ e, f (at8 e o) := by
  rw [sum_at]
  simp [lane_at]

/-! ## Finite values -/

/-- Every value is finite. -/
def Finite {a b : ℕ} (x : Fin a → Fin b → EReal) : Prop := ∀ i j, ∃ v : ℝ, x i j = v

theorem dot_coe {n : ℕ} (x w : Fin n → ℝ) : dot (fun k => (x k : EReal)) (fun k => (w k : EReal)) = ((∑ k, x k * w k : ℝ) : EReal) := by
  unfold dot
  simp only [← EReal.coe_mul]
  exact (map_sum (⟨⟨Real.toEReal, EReal.coe_zero⟩, EReal.coe_add⟩ : ℝ →+ EReal) (fun k => x k * w k) Finset.univ).symm

theorem sum_coe {n : ℕ} (x : Fin n → ℝ) : ∑ k, (x k : EReal) = ((∑ k, x k : ℝ) : EReal) :=
  (map_sum (⟨⟨Real.toEReal, EReal.coe_zero⟩, EReal.coe_add⟩ : ℝ →+ EReal) x Finset.univ).symm

theorem mean_coe (x : Fin 128 → ℝ) : mean (fun k => (x k : EReal)) = (((∑ k, x k) * (1 / 128) : ℝ) : EReal) := by
  unfold mean
  rw [sum_coe, ofBits_128, Ideal.div_coe (by norm_num), ← EReal.coe_mul]

/-- The mean of finite values as the sum of their parts. -/
theorem mean_parts (x : Fin 128 → ℝ) : ∑ k, (x k : EReal) * ((1 / 128 : ℝ) : EReal) = mean (fun k => (x k : EReal)) := by
  rw [mean_coe]
  simp only [← EReal.coe_mul]
  rw [sum_coe, ← Finset.sum_mul]

/-- The mean of the squares less the squared mean, not below zero, is the variance. -/
theorem var_parts (x : Fin 128 → ℝ) :
    max (∑ k, ((x k : EReal) * (x k : EReal)) * ((1 / 128 : ℝ) : EReal) - mean (fun k => (x k : EReal)) * mean (fun k => (x k : EReal))) 0
      = mean (fun i => ((x i : EReal) - mean (fun k => (x k : EReal))) * ((x i : EReal) - mean (fun k => (x k : EReal)))) := by
  rw [mean_coe]
  simp only [← EReal.coe_mul, ← EReal.coe_sub]
  rw [mean_coe, sum_coe, ← EReal.coe_sub, ← EReal.coe_zero, ← EReal.coe_strictMono.monotone.map_max]
  congr 1
  set s := ∑ k, x k with hs
  have e : (∑ k, (x k - s * (1 / 128)) * (x k - s * (1 / 128))) = (∑ k, x k * x k) - s * s * (1 / 128) := by
    have : ∀ k, (x k - s * (1 / 128)) * (x k - s * (1 / 128)) = x k * x k - x k * (s * (1 / 64)) + s * s * (1 / 16384) := fun k => by ring
    simp only [this, Finset.sum_add_distrib, Finset.sum_sub_distrib, ← Finset.sum_mul, ← hs]
    simp only [Finset.sum_const, Finset.card_univ, Fintype.card_fin, nsmul_eq_mul]
    push_cast
    ring
  have h : 0 ≤ ∑ k, (x k - s * (1 / 128)) * (x k - s * (1 / 128)) := Finset.sum_nonneg fun k _ => mul_self_nonneg _
  rw [← Finset.sum_mul, max_eq_left]
  · rw [e]; ring
  · rw [e] at h; nlinarith

end Cert.Proof.Last

end
-- ==== Proof.LastRef.lean ====
/-
  The last call's reference, its stages as functions of arrays, read at one element over the extended reals.
-/
module

public import proofs.«01_k».proof.Proof.LastRow
public import proofs.«01_k».proof.Proof.Gen.LastReferenceIdeal.Run

@[expose] public section

set_option maxRecDepth 16384

noncomputable section

namespace Cert.Proof.Last.Ref

open Cert.LastReferenceIdeal Cert.LastReferenceIdeal.Gen
open Idealize.ShloMosaic Idealize.ShloMosaic.TcCoe Idealize.SL.Sem
open Cert.Proof.Expert (dot mean norm ofBits_128)

variable {F : FTy → Type} [FloatOps F]

/-- The rows of each sequence. -/
def seqs (x : Vec F S4096x128 .bf16) : Vec F S2x2048x128 .f32 := shapeCast _ (extf .f32 x bitsLt_bf16_f32) shapeCasts_S4096x128_S2x2048x128

/-- The scores of a sequence's rows against its keys, held between -5 and 5. -/
def scores (q k : Vec F S2x2048x128 .f32) : Vec F S2x2048x2048 .f32 :=
  minimumf (broadcastInDim S2x2048x2048 ![] bcast_S_S2x2048x2048 (id (constant S_ .f32 0x40A00000#32)))
    (maximumf (broadcastInDim S2x2048x2048 ![] bcast_S_S2x2048x2048 (id (constant S_ .f32 0xC0A00000#32)))
      (Host.dotGeneral dot_S2x2048x128_S2x2048x128_S2x2048x2048_2_2_1_1_0_0 none q k))

/-- The scores weighted by their sigmoid. -/
def gate (s : Vec F S2x2048x2048 .f32) : Vec F S2x2048x2048 .f32 :=
  mulf s (Host.divf (broadcastInDim S2x2048x2048 ![] bcast_S_S2x2048x2048 (constant S_ .f32 0x3F800000#32))
    (addf (broadcastInDim S2x2048x2048 ![] bcast_S_S2x2048x2048 (constant S_ .f32 0x3F800000#32)) (Host.exp (Host.negf s))))

/-- The attention's values, by row. -/
def attended (q k : Vec F S2x2048x128 .f32) : Vec F S4096x128 .f32 :=
  shapeCast _ (Host.dotGeneral dot_S2x2048x2048_S2x2048x128_S2x2048x128_2_1_1_2_0_0 none (gate (scores q k)) q) shapeCasts_S2x2048x128_S4096x128

/-- Every expert's projection of every row. -/
def heads (x : Vec F S4096x128 .bf16) (w : Vec F S128x1024 .bf16) : Vec F S4096x8x128 .f32 :=
  Host.dotGeneral dot_S4096x128_S128x8x128_S4096x8x128_1_0_0_12_n_n none (extf .f32 x bitsLt_bf16_f32)
    (shapeCast _ (extf .f32 w bitsLt_bf16_f32) shapeCasts_S128x1024_S128x8x128)

/-- A row of 128 values for each expert, along every token. -/
def along (b : Vec F S8x128 .f32) : Vec F S4096x8x128 .f32 :=
  broadcastInDim S4096x8x128 ![0, 1, 2] bcast_S1x8x128_S4096x8x128_0_1_2 (broadcastInDim S1x8x128 ![1, 2] bcast_S8x128_S1x8x128_1_2 b)

/-- Values less the mean of their token and expert. -/
def less (v : Vec F S4096x8x128 .f32) : Vec F S4096x8x128 .f32 :=
  subf v (broadcastInDim S4096x8x128 ![0, 1, 2] bcast_S4096x8x1_S4096x8x128_0_1_2
    (Host.divf (broadcastInDim S4096x8x1 ![0, 1] bcast_S4096x8_S4096x8x1_0_1
        (Host.reduceAdd v (constant S_ .f32 0x00000000#32) reducesTo_S4096x8x128_S4096x8_d2 h_S_))
      (broadcastInDim S4096x8x1 ![] bcast_S_S4096x8x1 (constant S_ .f32 0x43000000#32))))

/-- The divisor of the variance, 128 less zero. -/
def count : Vec F S_ .f32 := (subf (constant S_ .f32 0x43000000#32) (sitofp .f32 (constantI S_ 32 0#32)) : (⟨S_, .f32⟩ : BufTy).Contents (Elt F))

/-- The variance of each token and expert. -/
def var (v : Vec F S4096x8x128 .f32) : Vec F S4096x8x1 .f32 :=
  select (broadcastInDim S4096x8x1 ![] bcast_S_S4096x8x1 (cmpf .ogt (count (F := F)) (constant S_ .f32 0x00000000#32)))
    (Host.divf (broadcastInDim S4096x8x1 ![0, 1] bcast_S4096x8_S4096x8x1_0_1
        (Host.reduceAdd (mulf (less v) (less v)) (constant S_ .f32 0x00000000#32) reducesTo_S4096x8x128_S4096x8_d2 h_S_))
      (broadcastInDim S4096x8x1 ![] bcast_S_S4096x8x1 (count (F := F))))
    (broadcastInDim S4096x8x1 ![] bcast_S_S4096x8x1 (id (constant S_ .f32 0x7FC00000#32)))

/-- The layer norm of each token and expert. -/
def normed (v : Vec F S4096x8x128 .f32) (g b : Vec F S8x128 .f32) : Vec F S4096x8x128 .f32 :=
  addf (mulf (mulf (less v) (broadcastInDim S4096x8x128 ![0, 1, 2] bcast_S4096x8x1_S4096x8x128_0_1_2
    (Host.rsqrt (addf (var v) (broadcastInDim S4096x8x1 ![] bcast_S_S4096x8x1 (constant S_ .f32 0x3727C5AC#32)))))) (along g)) (along b)

/-- The experts' values, summed with each token's weights. -/
def mix (d : Vec F S8x4096 .f32) (v : Vec F S4096x8x128 .f32) : Vec F S4096x128 .f32 :=
  Host.dotGeneral dot_S4096x8_S4096x8x128_S4096x128_1_1_n_2_0_0 none (transpose S4096x8 [1, 0] d transposes_S8x4096_S4096x8_1_0) v

/-- A projection of the rows to the model's width. -/
def wide (x : Vec F S4096x128 .f32) (w : Vec F S1024x128 .bf16) : Vec F S4096x1024 .f32 :=
  Host.dotGeneral dot_S4096x128_S128x1024_S4096x1024_1_0_0_1_n_n none x
    (transpose S128x1024 [1, 0] (extf .f32 w bitsLt_bf16_f32) transposes_S1024x128_S128x1024_1_0)

/-- The output of the eleven arguments, of which the last has no part in it. -/
def result (y : Vec F S4096x1024 .bf16) (q k x : Vec F S4096x128 .bf16) (d : Vec F S8x4096 .f32) (w : Vec F S128x1024 .bf16)
    (wd wc : Vec F S1024x128 .bf16) (g b : Vec F S8x128 .f32) : Vec F S4096x1024 .f32 :=
  addf (addf (extf .f32 y bitsLt_bf16_f32) (wide (attended (seqs q) (seqs k)) wd)) (wide (mix d (normed (heads x w) g b)) wc)

/-! ## At one element -/

/-- Row `t` of the sequence that row `c` is of. -/
def mate (c : Fin 4096) (t : Fin 2048) : Fin 4096 := ⟨c.val / 2048 * 2048 + t.val, by omega⟩

theorem seqs_apply (x : Vec Ideal S4096x128 .bf16) (s : Fin 2) (t : Fin 2048) (a : Fin 128) :
    seqs (F := Ideal) x (ix3 s t a) = x (ix2 ⟨s.val * 2048 + t.val, by omega⟩ a) := by
  pointwise [seqs]

theorem scores_apply (q k : Vec Ideal S2x2048x128 .f32) (s : Fin 2) (t u : Fin 2048) :
    scores (F := Ideal) q k (ix3 s t u) = min (Ideal.ofBits .f32 0x40A00000#32) (max (Ideal.ofBits .f32 0xC0A00000#32)
      (dot (fun a => q (ix3 s t a)) (fun a => k (ix3 s u a)))) := by
  unfold dot
  pointwise [scores]
  rfl

theorem gate_apply (x : Vec Ideal S2x2048x2048 .f32) (s : Fin 2) (t u : Fin 2048) :
    gate (F := Ideal) x (ix3 s t u) = x (ix3 s t u) * Ideal.logistic (x (ix3 s t u)) := by
  pointwise [gate]
  rfl

theorem attended_apply (q k : Vec Ideal S4096x128 .bf16) (c : Fin 4096) (e : Fin 128) :
    attended (F := Ideal) (seqs q) (seqs k) (ix2 c e)
      = attend (fun a => q (ix2 c a)) (fun t a => k (ix2 (mate c t) a)) (fun t a => q (ix2 (mate c t) a)) e := by
  unfold attend weigh mate
  pointwise [attended]
  simp only [gate_apply, scores_apply, seqs_apply]
  have h : (⟨c.val / 2048 * 2048 + c.val % 2048, by omega⟩ : Fin 4096) = c := Fin.ext (Nat.div_add_mod' _ _)
  simp only [h]

theorem heads_apply (x : Vec Ideal S4096x128 .bf16) (w : Vec Ideal S128x1024 .bf16) (c : Fin 4096) (e : Fin 8) (o : Fin 128) :
    heads (F := Ideal) x w (ix3 c e o) = dot (fun a => x (ix2 c a)) (fun a => w (ix2 a (at8 e o))) := by
  unfold dot at8
  pointwise [heads]

theorem all128 : Ideal.ofBits .f32 0x43000000#32 - FloatOps.sitofp (F := Ideal) .f32 (0#32 : BitVec 32) = Ideal.ofBits .f32 0x43000000#32 := by
  show Ideal.ofBits .f32 0x43000000#32 - ((((0#32 : BitVec 32).toInt : ℤ) : ℝ) : EReal) = _
  simp

theorem normed_apply (v : Vec Ideal S4096x8x128 .f32) (g b : Vec Ideal S8x128 .f32) (c : Fin 4096) (e : Fin 8) (o : Fin 128) :
    normed (F := Ideal) v g b (ix3 c e o) = norm (fun o => v (ix3 c e o)) (fun o => g (ix2 e o)) (fun o => b (ix2 e o)) o := by
  unfold Expert.norm mean
  pointwise [normed, less, var, count, along]
  rw [all128, if_pos (by rw [ofBits_128]; exact_mod_cast (by norm_num : (0 : ℝ) < 128))]

theorem mix_apply (d : Vec Ideal S8x4096 .f32) (v : Vec Ideal S4096x8x128 .f32) (c : Fin 4096) (o : Fin 128) :
    mix (F := Ideal) d v (ix2 c o) = ∑ e, d (ix2 e c) * v (ix3 c e o) := by
  pointwise [mix]

theorem wide_apply (x : Vec Ideal S4096x128 .f32) (w : Vec Ideal S1024x128 .bf16) (c : Fin 4096) (k : Fin 1024) :
    wide (F := Ideal) x w (ix2 c k) = dot (fun a => x (ix2 c a)) (fun a => w (ix2 k a)) := by
  unfold dot
  pointwise [wide]

/-- The output, an element at a time. -/
def outArr (y : Vec Ideal S4096x1024 .bf16) (q k x : Vec Ideal S4096x128 .bf16) (d : Vec Ideal S8x4096 .f32) (w : Vec Ideal S128x1024 .bf16)
    (wd wc : Vec Ideal S1024x128 .bf16) (g b : Vec Ideal S8x128 .f32) : Vec Ideal S4096x1024 .f32 := fun i =>
  total (y (ix2 (i 0) (i 1)))
    (attend (fun a => q (ix2 (i 0) a)) (fun t a => k (ix2 (mate (i 0) t) a)) (fun t a => q (ix2 (mate (i 0) t) a)))
    (mixed (fun e => d (ix2 e (i 0))) (fun a => x (ix2 (i 0) a)) (fun a j => w (ix2 a j)) (fun e o => g (ix2 e o)) (fun e o => b (ix2 e o)))
    (fun o => wd (ix2 (i 1) o)) (fun o => wc (ix2 (i 1) o))

theorem outArr_apply (y : Vec Ideal S4096x1024 .bf16) (q k x : Vec Ideal S4096x128 .bf16) (d : Vec Ideal S8x4096 .f32) (w : Vec Ideal S128x1024 .bf16)
    (wd wc : Vec Ideal S1024x128 .bf16) (g b : Vec Ideal S8x128 .f32) (c : Fin 4096) (j : Fin 1024) :
    outArr y q k x d w wd wc g b (ix2 c j)
      = total (y (ix2 c j)) (attend (fun a => q (ix2 c a)) (fun t a => k (ix2 (mate c t) a)) (fun t a => q (ix2 (mate c t) a)))
        (mixed (fun e => d (ix2 e c)) (fun a => x (ix2 c a)) (fun a j => w (ix2 a j)) (fun e o => g (ix2 e o)) (fun e o => b (ix2 e o)))
        (fun o => wd (ix2 j o)) (fun o => wc (ix2 j o)) := rfl

theorem eq_ix2 {a b : ℕ} (i : (⟨2, ![a, b]⟩ : Shape).Idx) : i = ix2 (i 0) (i 1) := funext fun x => by fin_cases x <;> rfl

theorem result_eq (y : Vec Ideal S4096x1024 .bf16) (q k x : Vec Ideal S4096x128 .bf16) (d : Vec Ideal S8x4096 .f32) (w : Vec Ideal S128x1024 .bf16)
    (wd wc : Vec Ideal S1024x128 .bf16) (g b : Vec Ideal S8x128 .f32) :
    result (F := Ideal) y q k x d w wd wc g b = outArr y q k x d w wd wc g b := by
  funext i
  obtain ⟨c, j, rfl⟩ : ∃ (c : Fin 4096) (j : Fin 1024), i = ix2 c j := ⟨i 0, i 1, eq_ix2 i⟩
  show y (ix2 c j) + wide (F := Ideal) (attended (seqs q) (seqs k)) wd (ix2 c j) + wide (F := Ideal) (mix d (normed (heads x w) g b)) wc (ix2 c j) = _
  rw [wide_apply, wide_apply]
  simp only [attended_apply, mix_apply, normed_apply, heads_apply]
  rfl

/-! ## The run -/

variable (m : (ℓ : Loc nD τ sig) → Buf (Elt Ideal) ℓ) (ρ : Dev nD → PrngReg)

local notation "arg[" c "," r "]" => m (Thread.loc (Dev.tc c : Thread nD τ) r)

/-- The output of the arguments in the memory, at the buffer of `r`. -/
def Ends (c : Dev nD) (r : (ℓ : Loc nD τ sig) → Buf (Elt Ideal) ℓ) : Prop :=
  r ((c.tc : Thread nD τ).loc main_v41) = outArr (arg[c, main_arg0]) (arg[c, main_arg1]) (arg[c, main_arg2]) (arg[c, main_arg3]) (arg[c, main_arg4])
    (arg[c, main_arg5]) (arg[c, main_arg6]) (arg[c, main_arg7]) (arg[c, main_arg8]) (arg[c, main_arg9])

set_option maxHeartbeats 2000000 in
/-- The reference runs, its result is that of its arguments, and it leaves these as they were. -/
theorem run : θ_run (defs (F := Ideal)) (onTc (τ := τ) main) ⟨m, fun _ => 0, ρ⟩ fun r => ∀ c : Dev nD, Ends m c r.2.mem
    ∧ ∀ a ∈ [main_arg0, main_arg1, main_arg2, main_arg3, main_arg4, main_arg5, main_arg6, main_arg7, main_arg8, main_arg9, main_arg10],
      r.2.mem ((c.tc : Thread nD τ).loc a) = m ((c.tc : Thread nD τ).loc a) := by
  refine (θ_run _ _ _).mono (fun r h c => ?_) (Value.run (F := Ideal) m ρ)
  obtain ⟨h0, hk⟩ := h c
  refine ⟨h0.trans ?_, ?_⟩
  · unfold Value.res_main_v41; exact result_eq _ _ _ _ _ _ _ _ _ _
  · simpa only [List.forall_mem_cons, List.not_mem_nil, false_imp_iff, implies_true, and_true] using hk

end Cert.Proof.Last.Ref

end
-- ==== Proof.LastKern.lean ====
/-
  The last call's body, read at one element over the extended reals.
-/
module

public import proofs.«01_k».proof.Proof.LastRow
public import proofs.«01_k».proof.Proof.Gen.LastIdeal.Skeleton

@[expose] public section

set_option maxRecDepth 16384

noncomputable section

namespace Cert.Proof.Last

open Cert.LastIdeal Cert.LastIdeal.Gen
open Idealize.ShloMosaic
open Cert.Proof.Expert (dot mean norm)

/-! ## The 0/1 matrices -/

/-- The floor of a place over 128, as the body takes it. -/
theorem floor_eq : ∀ j : Fin 1024, (Scalar.select
            (IntOp.andi
              (IntOp.cmpi CmpIPredicate.ne
                (IntOp.subi (BitVec.setWidth 32 (IntOp.cmpi CmpIPredicate.sgt (BitVec.ofNat 32 ↑j) 0#32))
                  (BitVec.setWidth 32 (IntOp.cmpi CmpIPredicate.slt (BitVec.ofNat 32 ↑j) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 ↑j) 128#32) 0#32))
            (IntOp.subi (IntOp.divsi ArithUnit.vector (BitVec.ofNat 32 ↑j) 128#32) 1#32)
            (IntOp.divsi ArithUnit.vector (BitVec.ofNat 32 ↑j) 128#32)) = BitVec.ofNat 32 (j.val / 128) := by
  decide +kernel

/-- The remainder of a place by 128, as the body takes it. -/
theorem rem_eq : ∀ j : Fin 1024, (Scalar.select
            (IntOp.andi
              (IntOp.xori
                (IntOp.cmpi CmpIPredicate.slt
                  (IntOp.remsi ArithUnit.vector (BitVec.ofNat 32 ↑j)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 ↑j)
                  (Scalar.select (Scalar.cmpi CmpIPredicate.eq 128#32 0#32) 1#32 128#32))
                0#32))
            (IntOp.addi
              (IntOp.remsi ArithUnit.vector (BitVec.ofNat 32 ↑j)
                (Scalar.select (Scalar.cmpi CmpIPredicate.eq 128#32 0#32) 1#32 128#32))
              128#32)
            (IntOp.remsi ArithUnit.vector (BitVec.ofNat 32 ↑j)
              (Scalar.select (Scalar.cmpi CmpIPredicate.eq 128#32 0#32) 1#32 128#32))) = BitVec.ofNat 32 (j.val % 128) := by
  decide +kernel

/-- Equality of two small numbers as a number. -/
theorem flag (a b : ℕ) (ha : a < 1024) (hb : b < 1024) :
    FloatOps.sitofp (F := Ideal) .f32 (BitVec.setWidth 32 (IntOp.cmpi .eq (BitVec.ofNat 32 a) (BitVec.ofNat 32 b)))
      = if a = b then (1 : EReal) else 0 := by
  show ((((BitVec.setWidth 32 (IntOp.cmpi .eq (BitVec.ofNat 32 a) (BitVec.ofNat 32 b))).toInt : ℤ) : ℝ) : EReal) = _
  have h : (BitVec.ofNat 32 a = BitVec.ofNat 32 b) ↔ a = b := by
    rw [← BitVec.toNat_inj, BitVec.toNat_ofNat, BitVec.toNat_ofNat]
    omega
  by_cases hab : a = b
  · subst hab; simp [IntOp.cmpi]
  · have e : (BitVec.ofNat 32 a == BitVec.ofNat 32 b) = false := beq_eq_false_iff_ne.2 (mt h.1 hab)
    simp [IntOp.cmpi, hab, e]

theorem pay3_apply (e : Fin 8) (j : Fin 1024) : k0_pay3 (F := Ideal) (ix2 e j) = group e j := by
  unfold group
  pointwise [k0_pay3]
  rw [floor_eq]
  exact flag _ _ (by omega) (by omega)

/-- One over 128, rounded. -/
theorem part128 : Ideal.ofBits .bf16 15360#16 = ((1 / 128 : ℝ) : EReal) := by
  simp [Ideal.ofBits, Ideal.ieee]
  rw [← EReal.coe_mul]
  norm_num

theorem pay4_apply (e : Fin 8) (j : Fin 1024) : k0_pay4 (F := Ideal) (ix2 j e) = group e j * ((1 / 128 : ℝ) : EReal) := by
  unfold group
  pointwise [k0_pay4]
  rw [floor_eq, part128]
  exact congrArg (· * _) (flag _ _ (by omega) (by omega))

theorem pay7_apply (o : Fin 128) (j : Fin 1024) : k0_pay7 (F := Ideal) 128#32 k0_pay5 k0_pay6 (ix2 j o) = lane j o := by
  unfold lane
  pointwise [k0_pay7, k0_pay6, k0_pay5]
  rw [rem_eq]
  exact flag _ _ (by omega) (by omega)

/-! ## The body's values -/

theorem low5 : Ideal.ofBits .bf16 0xC0A0#16 = Ideal.ofBits .f32 0xC0A00000#32 := by simp [Ideal.ofBits, Ideal.ieee]; rw [← EReal.coe_mul, ← EReal.coe_mul]; norm_num
theorem high5 : Ideal.ofBits .bf16 0x40A0#16 = Ideal.ofBits .f32 0x40A00000#32 := by simp [Ideal.ofBits, Ideal.ieee]; rw [← EReal.coe_mul, ← EReal.coe_mul]; norm_num

theorem pay2_apply (q : Vec Ideal S1024x128 .bf16) (K V : Vec Ideal S2048x128 .bf16) (r : Fin 1024) (e : Fin 128) :
    k0_pay2 (F := Ideal) q K V (ix2 r e) = attend (fun a => q (ix2 r a)) (fun t a => K (ix2 t a)) (fun t a => V (ix2 t a)) e := by
  unfold attend weigh dot
  rw [← low5, ← high5]
  pointwise [k0_pay2]

/-- With finite operands the body's layer norm, kept in the long row, is each group's layer norm; it is then weighted. -/
theorem pay8_apply (P : Vec Ideal S8x1024 .bf16) (Q : Vec Ideal S1024x8 .bf16) (x : Vec Ideal S1024x128 .bf16) (w : Vec Ideal S128x1024 .bf16)
    (g b : Vec Ideal S1x1024 .f32) (d : Vec Ideal S8x1024 .f32) (hP : ∀ e j, P (ix2 e j) = group e j)
    (hQ : ∀ e j, Q (ix2 j e) = group e j * ((1 / 128 : ℝ) : EReal)) (r : Fin 1024) (hx : ∀ a, ∃ v : ℝ, x (ix2 r a) = v)
    (hw : ∀ a j, ∃ v : ℝ, w (ix2 a j) = v) (e : Fin 8) (o : Fin 128) :
    k0_pay8 (F := Ideal) P Q x w g b d (ix2 r (at8 e o))
      = norm (fun o => dot (fun a => x (ix2 r a)) (fun a => w (ix2 a (at8 e o)))) (fun o => g (ix2 0 (at8 e o))) (fun o => b (ix2 0 (at8 e o))) o
        * d (ix2 e r) := by
  choose X hX using hx
  choose W hW using hw
  have hs : ∀ j, ∑ a, x (ix2 r a) * w (ix2 a j) = ((∑ a, X a * W a j : ℝ) : EReal) := fun j => by
    simp only [hX, hW]; exact dot_coe X (fun a => W a j)
  have hd : ∀ j, dot (fun a => x (ix2 r a)) (fun a => w (ix2 a j)) = ((∑ a, X a * W a j : ℝ) : EReal) := hs
  unfold Expert.norm
  simp only [hd]
  rw [← var_parts]
  pointwise [k0_pay8]
  simp only [hs, hP, hQ, sum_over, sum_group, mean_parts]

theorem pay9_apply (a : Vec Ideal S1024x128 .f32) (L : Vec Ideal S1024x128 .bf16) (n : Vec Ideal S1024x1024 .bf16) (y : Vec Ideal S1024x1024 .bf16)
    (wd wc : Vec Ideal S1024x128 .bf16) (r k : Fin 1024) :
    k0_pay9 (F := Ideal) a L n y wd wc (ix2 r k)
      = total (y (ix2 r k)) (fun o => a (ix2 r o)) (fun o => ∑ j, n (ix2 r j) * L (ix2 j o)) (fun o => wd (ix2 k o)) (fun o => wc (ix2 k o)) := by
  unfold total dot
  pointwise [k0_pay9]

/-- What the body stores, of its blocks. -/
def body (y : Vec Ideal S1024x1024 .bf16) (V K : Vec Ideal S2048x128 .bf16) (q x : Vec Ideal S1024x128 .bf16) (d : Vec Ideal S8x1024 .f32)
    (w : Vec Ideal S128x1024 .bf16) (wd wc : Vec Ideal S1024x128 .bf16) (g b : Vec Ideal S1x1024 .f32) : Vec Ideal S1024x1024 .f32 :=
  k0_pay9 (k0_pay2 q K V) (k0_pay7 128#32 k0_pay5 k0_pay6) (k0_pay8 k0_pay3 k0_pay4 x w g b d) y wd wc

theorem body_apply (y : Vec Ideal S1024x1024 .bf16) (V K : Vec Ideal S2048x128 .bf16) (q x : Vec Ideal S1024x128 .bf16) (d : Vec Ideal S8x1024 .f32)
    (w : Vec Ideal S128x1024 .bf16) (wd wc : Vec Ideal S1024x128 .bf16) (g b : Vec Ideal S1x1024 .f32) (hx : Finite fun r a => x (ix2 r a))
    (hw : Finite fun a j => w (ix2 a j)) (r k : Fin 1024) :
    body y V K q x d w wd wc g b (ix2 r k)
      = total (y (ix2 r k)) (attend (fun a => q (ix2 r a)) (fun t a => K (ix2 t a)) (fun t a => V (ix2 t a)))
        (mixed (fun e => d (ix2 e r)) (fun a => x (ix2 r a)) (fun a j => w (ix2 a j)) (fun e o => g (ix2 0 (at8 e o))) (fun e o => b (ix2 0 (at8 e o))))
        (fun o => wd (ix2 k o)) (fun o => wc (ix2 k o)) := by
  unfold body
  rw [pay9_apply, ← mixed_swap]
  simp only [pay2_apply, pay7_apply, sum_lane, pay8_apply _ _ x w g b d pay3_apply (fun e j => pay4_apply e j) r (hx r) hw]

end Cert.Proof.Last

end
-- ==== Proof.LastEnd.lean ====
/-
  The last call over the extended reals: its array after the run is the reference's result of its arguments.
-/
module

public import proofs.«01_k».proof.Proof.LastKern
public import proofs.«01_k».proof.Proof.LastRef
public import proofs.«01_k».proof.Proof.Gen.LastIdeal.Value
public import Idealize.ShloMosaic.Lib.Pipeline.ValueKit.Point

@[expose] public section

set_option maxRecDepth 16384

noncomputable section

namespace Cert.Proof.Last

open Cert.LastIdeal Cert.LastIdeal.Gen Cert.LastIdeal.Value
open Idealize.ShloMosaic Idealize.ShloMosaic.TcCoe Idealize.ShloMosaic.StableHlo Idealize.SL.Sem

theorem hz : (![0, 0] : Fin 2 → Nat) = fun _ => 0 := funext fun a => by fin_cases a <;> rfl

/-! ## The windows' places -/

theorem place0 : ∀ t : Fin grid0.N, win0_0.index t 0 = t.val ∧ win0_0.index t 1 = 0 := by decide
theorem place1 : ∀ t : Fin grid0.N, win0_1.index t 0 = t.val / 2 ∧ win0_1.index t 1 = 0 := by decide
theorem place2 : ∀ t : Fin grid0.N, win0_2.index t 0 = t.val / 2 ∧ win0_2.index t 1 = 0 := by decide
theorem place3 : ∀ t : Fin grid0.N, win0_3.index t 0 = t.val ∧ win0_3.index t 1 = 0 := by decide
theorem place4 : ∀ t : Fin grid0.N, win0_4.index t 0 = t.val ∧ win0_4.index t 1 = 0 := by decide
theorem place5 : ∀ t : Fin grid0.N, win0_5.index t 0 = 0 ∧ win0_5.index t 1 = t.val := by decide
theorem place6 : ∀ t : Fin grid0.N, win0_6.index t 0 = 0 ∧ win0_6.index t 1 = 0 := by decide
theorem place7 : ∀ t : Fin grid0.N, win0_7.index t 0 = 0 ∧ win0_7.index t 1 = 0 := by decide
theorem place8 : ∀ t : Fin grid0.N, win0_8.index t 0 = 0 ∧ win0_8.index t 1 = 0 := by decide
theorem place9 : ∀ t : Fin grid0.N, win0_9.index t 0 = 0 ∧ win0_9.index t 1 = 0 := by decide
theorem place10 : ∀ t : Fin grid0.N, win0_10.index t 0 = 0 ∧ win0_10.index t 1 = 0 := by decide
theorem place12 : ∀ t : Fin grid0.N, win0_12.index t 0 = t.val ∧ win0_12.index t 1 = 0 := by decide

/-! ## What a point stores -/

variable (m : (ℓ : Loc nD τ sig) → Buf (Elt Ideal) ℓ) (ρ : Dev nD → PrngReg) (c : Dev nD)

theorem lt_four (t : Fin cfg0.N) : t.val < 4 := t.isLt

/-- A whole block, read whole, is what it was held at. -/
theorem held {d : Fin 2 → ℕ} {e : EltTy} (a : Memref sig .tc .vmem ⟨2, d⟩ e) (h : a.IsWhole) (inb) (x : Vec Ideal ⟨2, d⟩ e) :
    a.view.readAt (Elt Ideal) (Rect.unit ![0, 0] d inb).toLoadRect (h.unread x) = x := by
  rw [View.readAt_eq_ld, h.read_unread]
  exact View.ld_unit_zero hz _ _

theorem cut_whole (i : grid0.Coords) (v : Vec Ideal S1024x1024 .f32) : (cfg0.win 12).cut i v = v := rfl

set_option maxHeartbeats 1000000 in
/-- At every point the body stores its value of the blocks there, whichever of its branches it takes. -/
theorem stored (t : Fin cfg0.N) :
    (dats m 0 c).flushed 12 t = body (iblk m c 0 t) (iblk m c 1 t) (iblk m c 2 t) (iblk m c 3 t) (iblk m c 4 t) (iblk m c 5 t) (iblk m c 6 t)
      (iblk m c 7 t) (iblk m c 8 t) (iblk m c 9 t) (iblk m c 10 t) := by
  have ht := lt_four t
  rcases (by omega : t.val = 0 ∨ t.val = 1 ∨ t.val = 2 ∨ t.val = 3) with h | h | h | h
  · rw [flushed12_A m c t (by omega) (by omega) (by omega) (by omega)]
    unfold out0_A_12
    rw [View.read_writes_eq_canon _ _ _ (by intro y; apply cover0_A_12)]
    unfold kernelRun0_A
    dsimp only
    sl_unfold_words
    rw [View.canon_unit_zero hz]
    simp only [held]
    exact cut_whole _ _
  · rw [flushed12_B m c t (by omega) (by omega) (by omega) (by omega)]
    unfold out0_B_12
    rw [View.read_writes_eq_canon _ _ _ (by intro y; apply cover0_B_12)]
    unfold kernelRun0_B
    dsimp only
    sl_unfold_words
    rw [View.canon_unit_zero hz]
    simp only [held]
    exact cut_whole _ _
  · rw [flushed12_C m c t (by omega) (by omega) (by omega) (by omega)]
    unfold out0_C_12
    rw [View.read_writes_eq_canon _ _ _ (by intro y; apply cover0_C_12)]
    unfold kernelRun0_C
    dsimp only
    sl_unfold_words
    rw [View.canon_unit_zero hz]
    simp only [held]
    exact cut_whole _ _
  · rw [flushed12_D m c t (by omega) (by omega) (by omega) (by omega)]
    unfold out0_D_12
    rw [View.read_writes_eq_canon _ _ _ (by intro y; apply cover0_D_12)]
    unfold kernelRun0_D
    dsimp only
    sl_unfold_words
    rw [View.canon_unit_zero hz]
    simp only [held]
    exact cut_whole _ _

/-! ## The blocks -/

local notation "arg[" r "]" => m (Thread.loc (Dev.tc c : Thread nD τ) r)

theorem cast_heads (v : Vec Ideal S8x128 .f32) (e : Fin 8) (o : Fin 128) :
    shapeCast S1x1024 v shapeCasts_S8x128_S1x1024 (ix2 0 (at8 e o)) = v (ix2 e o) := by
  unfold at8
  pointwise

theorem entry_v0 : V m c main_v0 = shapeCast S1x1024 (arg[main_arg8] : Vec Ideal S8x128 .f32) shapeCasts_S8x128_S1x1024 := by
  unfold V hostOps0; after_results_simp; rfl
theorem entry_v1 : V m c main_v1 = shapeCast S1x1024 (arg[main_arg9] : Vec Ideal S8x128 .f32) shapeCasts_S8x128_S1x1024 := by
  unfold V hostOps0; after_results_simp; rfl

/-- Row `r` of the block of point `t`. -/
def rowOf (t : Fin cfg0.N) (r : Fin 1024) : Fin 4096 := ⟨t.val * 1024 + r.val, by have := lt_four t; omega⟩

theorem blk0 (t : Fin cfg0.N) (r : Fin 1024) (k : Fin 1024) :
    (iblk m c 0 t : Vec Ideal S1024x1024 .bf16) (ix2 r k) = (arg[main_arg0] : Vec Ideal S4096x1024 .bf16) (ix2 (rowOf t r) k) := by
  have i0 : win0_0.index t (0 : Fin 2) = t.val := (place0 t).1
  have i1 : win0_0.index t (1 : Fin 2) = 0 := (place0 t).2
  refine Eq.trans ?_ (congrFun (V_main_arg0 m c) _)
  show ((cfg0.win 0).blk t).view.read (Elt Ideal) (V m c main_arg0) (ix2 r k) = _
  generalize V m c main_arg0 = X
  blk_ext [i0, i1, rowOf]

theorem blk1 (t : Fin cfg0.N) (u : Fin 2048) (a : Fin 128) :
    (iblk m c 1 t : Vec Ideal S2048x128 .bf16) (ix2 u a) = (arg[main_arg1] : Vec Ideal S4096x128 .bf16) (ix2 ⟨t.val / 2 * 2048 + u.val, by have := lt_four t; omega⟩ a) := by
  have i0 : win0_1.index t (0 : Fin 2) = t.val / 2 := (place1 t).1
  have i1 : win0_1.index t (1 : Fin 2) = 0 := (place1 t).2
  refine Eq.trans ?_ (congrFun (V_main_arg1 m c) _)
  show ((cfg0.win 1).blk t).view.read (Elt Ideal) (V m c main_arg1) (ix2 u a) = _
  generalize V m c main_arg1 = X
  blk_ext [i0, i1]

theorem blk2 (t : Fin cfg0.N) (u : Fin 2048) (a : Fin 128) :
    (iblk m c 2 t : Vec Ideal S2048x128 .bf16) (ix2 u a) = (arg[main_arg2] : Vec Ideal S4096x128 .bf16) (ix2 ⟨t.val / 2 * 2048 + u.val, by have := lt_four t; omega⟩ a) := by
  have i0 : win0_2.index t (0 : Fin 2) = t.val / 2 := (place2 t).1
  have i1 : win0_2.index t (1 : Fin 2) = 0 := (place2 t).2
  refine Eq.trans ?_ (congrFun (V_main_arg2 m c) _)
  show ((cfg0.win 2).blk t).view.read (Elt Ideal) (V m c main_arg2) (ix2 u a) = _
  generalize V m c main_arg2 = X
  blk_ext [i0, i1]

theorem blk3 (t : Fin cfg0.N) (r : Fin 1024) (a : Fin 128) :
    (iblk m c 3 t : Vec Ideal S1024x128 .bf16) (ix2 r a) = (arg[main_arg1] : Vec Ideal S4096x128 .bf16) (ix2 (rowOf t r) a) := by
  have i0 : win0_3.index t (0 : Fin 2) = t.val := (place3 t).1
  have i1 : win0_3.index t (1 : Fin 2) = 0 := (place3 t).2
  refine Eq.trans ?_ (congrFun (V_main_arg1 m c) _)
  show ((cfg0.win 3).blk t).view.read (Elt Ideal) (V m c main_arg1) (ix2 r a) = _
  generalize V m c main_arg1 = X
  blk_ext [i0, i1, rowOf]

theorem blk4 (t : Fin cfg0.N) (r : Fin 1024) (a : Fin 128) :
    (iblk m c 4 t : Vec Ideal S1024x128 .bf16) (ix2 r a) = (arg[main_arg3] : Vec Ideal S4096x128 .bf16) (ix2 (rowOf t r) a) := by
  have i0 : win0_4.index t (0 : Fin 2) = t.val := (place4 t).1
  have i1 : win0_4.index t (1 : Fin 2) = 0 := (place4 t).2
  refine Eq.trans ?_ (congrFun (V_main_arg3 m c) _)
  show ((cfg0.win 4).blk t).view.read (Elt Ideal) (V m c main_arg3) (ix2 r a) = _
  generalize V m c main_arg3 = X
  blk_ext [i0, i1, rowOf]

theorem blk5 (t : Fin cfg0.N) (e : Fin 8) (r : Fin 1024) :
    (iblk m c 5 t : Vec Ideal S8x1024 .f32) (ix2 e r) = (arg[main_arg4] : Vec Ideal S8x4096 .f32) (ix2 e (rowOf t r)) := by
  have i0 : win0_5.index t (0 : Fin 2) = 0 := (place5 t).1
  have i1 : win0_5.index t (1 : Fin 2) = t.val := (place5 t).2
  refine Eq.trans ?_ (congrFun (V_main_arg4 m c) _)
  show ((cfg0.win 5).blk t).view.read (Elt Ideal) (V m c main_arg4) (ix2 e r) = _
  generalize V m c main_arg4 = X
  blk_ext [i0, i1, rowOf]

theorem blk6 (t : Fin cfg0.N) (a : Fin 128) (j : Fin 1024) :
    (iblk m c 6 t : Vec Ideal S128x1024 .bf16) (ix2 a j) = (arg[main_arg5] : Vec Ideal S128x1024 .bf16) (ix2 a j) := by
  have i0 : win0_6.index t (0 : Fin 2) = 0 := (place6 t).1
  have i1 : win0_6.index t (1 : Fin 2) = 0 := (place6 t).2
  refine Eq.trans ?_ (congrFun (V_main_arg5 m c) _)
  show ((cfg0.win 6).blk t).view.read (Elt Ideal) (V m c main_arg5) (ix2 a j) = _
  generalize V m c main_arg5 = X
  blk_ext [i0, i1]

theorem blk7 (t : Fin cfg0.N) (k : Fin 1024) (o : Fin 128) :
    (iblk m c 7 t : Vec Ideal S1024x128 .bf16) (ix2 k o) = (arg[main_arg6] : Vec Ideal S1024x128 .bf16) (ix2 k o) := by
  have i0 : win0_7.index t (0 : Fin 2) = 0 := (place7 t).1
  have i1 : win0_7.index t (1 : Fin 2) = 0 := (place7 t).2
  refine Eq.trans ?_ (congrFun (V_main_arg6 m c) _)
  show ((cfg0.win 7).blk t).view.read (Elt Ideal) (V m c main_arg6) (ix2 k o) = _
  generalize V m c main_arg6 = X
  blk_ext [i0, i1]

theorem blk8 (t : Fin cfg0.N) (k : Fin 1024) (o : Fin 128) :
    (iblk m c 8 t : Vec Ideal S1024x128 .bf16) (ix2 k o) = (arg[main_arg7] : Vec Ideal S1024x128 .bf16) (ix2 k o) := by
  have i0 : win0_8.index t (0 : Fin 2) = 0 := (place8 t).1
  have i1 : win0_8.index t (1 : Fin 2) = 0 := (place8 t).2
  refine Eq.trans ?_ (congrFun (V_main_arg7 m c) _)
  show ((cfg0.win 8).blk t).view.read (Elt Ideal) (V m c main_arg7) (ix2 k o) = _
  generalize V m c main_arg7 = X
  blk_ext [i0, i1]

theorem blk9 (t : Fin cfg0.N) (e : Fin 8) (o : Fin 128) :
    (iblk m c 9 t : Vec Ideal S1x1024 .f32) (ix2 0 (at8 e o)) = (arg[main_arg8] : Vec Ideal S8x128 .f32) (ix2 e o) := by
  have i0 : win0_9.index t (0 : Fin 2) = 0 := (place9 t).1
  have i1 : win0_9.index t (1 : Fin 2) = 0 := (place9 t).2
  refine Eq.trans ?_ ((congrFun (entry_v0 m c) _).trans (cast_heads _ e o))
  show ((cfg0.win 9).blk t).view.read (Elt Ideal) (V m c main_v0) (ix2 0 (at8 e o)) = _
  generalize V m c main_v0 = X
  blk_ext [i0, i1]

theorem blk10 (t : Fin cfg0.N) (e : Fin 8) (o : Fin 128) :
    (iblk m c 10 t : Vec Ideal S1x1024 .f32) (ix2 0 (at8 e o)) = (arg[main_arg9] : Vec Ideal S8x128 .f32) (ix2 e o) := by
  have i0 : win0_10.index t (0 : Fin 2) = 0 := (place10 t).1
  have i1 : win0_10.index t (1 : Fin 2) = 0 := (place10 t).2
  refine Eq.trans ?_ ((congrFun (entry_v1 m c) _).trans (cast_heads _ e o))
  show ((cfg0.win 10).blk t).view.read (Elt Ideal) (V m c main_v1) (ix2 0 (at8 e o)) = _
  generalize V m c main_v1 = X
  blk_ext [i0, i1]

theorem mate_rowOf (t : Fin cfg0.N) (r : Fin 1024) (u : Fin 2048) :
    Ref.mate (rowOf t r) u = ⟨t.val / 2 * 2048 + u.val, by have := lt_four t; omega⟩ := by
  refine Fin.ext ?_
  show (t.val * 1024 + r.val) / 2048 * 2048 + u.val = t.val / 2 * 2048 + u.val
  have := lt_four t
  omega

/-! ## The array after the run -/

theorem into12 (t : Fin cfg0.N) (r k : Fin 1024) :
    ((cfg0.win 12).blk t).view.emb (ix2 r k : (⟨2, ![1024, 1024]⟩ : Shape).Idx) = (ix2 (rowOf t r) k : (⟨2, ![4096, 1024]⟩ : Shape).Idx) := by
  have i0 : win0_12.index t (0 : Fin 2) = t.val := (place12 t).1
  have i1 : win0_12.index t (1 : Fin 2) = 0 := (place12 t).2
  funext a; apply Fin.ext
  match a with
  | ⟨0, _⟩ => show win0_12.index t (0 : Fin 2) * 1024 + 1 * r.val = t.val * 1024 + r.val; omega
  | ⟨1, _⟩ => show win0_12.index t (1 : Fin 2) * 1024 + 1 * k.val = k.val; omega

section Finite

/-- The reference's result of the arguments in the memory. -/
def endOf : Vec Ideal S4096x1024 .f32 :=
  Ref.outArr (arg[main_arg0]) (arg[main_arg1]) (arg[main_arg2]) (arg[main_arg3]) (arg[main_arg4]) (arg[main_arg5]) (arg[main_arg6]) (arg[main_arg7])
    (arg[main_arg8]) (arg[main_arg9])

/-- The fourth and the sixth argument have finite entries only. -/
def Plain : Prop :=
  (Finite fun (i : Fin 4096) (a : Fin 128) => (arg[main_arg3] : Vec Ideal S4096x128 .bf16) (ix2 i a))
    ∧ Finite fun (a : Fin 128) (j : Fin 1024) => (arg[main_arg5] : Vec Ideal S128x1024 .bf16) (ix2 a j)

variable (h : Plain m c)

include h

theorem body_at (t : Fin cfg0.N) (r k : Fin 1024) :
    body (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r k) = endOf m c (ix2 (rowOf t r) k) := by
  rw [body_apply _ _ _ _ _ _ _ _ _ _ _ (fun r a => (h.1 _ a).imp fun _ e => (blk4 m c t r a).trans e) (fun a j => (h.2 a j).imp fun _ e => (blk6 m c t a j).trans e)]
  unfold endOf
  rw [Ref.outArr_apply]
  simp only [blk0, blk1, blk2, blk3, blk4, blk5, blk6, blk7, blk8, blk9, blk10, mate_rowOf]

theorem wrote12 (t : Fin cfg0.N) : (dats m 0 c).flushed 12 t = ((cfg0.win 12).blk t).view.read (Elt Ideal) (endOf m c) := by
  rw [stored]
  funext j
  obtain ⟨r, k, rfl⟩ : ∃ (r : Fin 1024) (k : Fin 1024), j = ix2 r k := ⟨j 0, j 1, Ref.eq_ix2 j⟩
  exact (body_at m c h t r k).trans (congrArg (endOf m c) (into12 t r k)).symm

theorem end12 : (dats m 0 c).arrAt 12 cfg0.N = endOf m c := by
  refine (dats m 0 c).arrAt_eq_of_cover 12 (endOf m c) (fun t _ => wrote12 m c h t) fun i => ?_
  obtain ⟨p, k, rfl⟩ : ∃ (p : Fin 4096) (k : Fin 1024), i = ix2 p k := ⟨i 0, i 1, Ref.eq_ix2 i⟩
  have e := (into12 (⟨p.val / 1024, by show p.val / 1024 < 4; omega⟩ : Fin cfg0.N) ⟨p.val % 1024, Nat.mod_lt _ (by norm_num)⟩ k).trans
    (congrArg (fun p => (ix2 p k : (⟨2, ![4096, 1024]⟩ : Shape).Idx)) (Fin.ext (Nat.div_add_mod' p.val 1024)))
  exact ⟨_, flush0_12 _, Eq.subst (motive := fun i => i ∈ ((cfg0.win 12).blk _).view.set) e (((cfg0.win 12).blk _).view.emb_mem_set _)⟩

end Finite

end Cert.Proof.Last

end
-- ==== Proof.LastPre.lean ====
/-
  What the last call's precondition says over the extended reals: every entry of the two arrays that it names is a real number.
-/
module

public import proofs.«01_k».proof.Defs
public import proofs.«01_k».proof.Proof.LastEnd
public import Idealize.ShloMosaic.Lib.ReduceAll
public import Idealize.ShloMosaic.Lib.Affine

@[expose] public section

noncomputable section

namespace Cert.Proof.Last

open Idealize.ShloMosaic Idealize.ShloMosaic.TcCoe Idealize.SL.Sem

/-- The shapes that the precondition's operations take fit each other. -/
theorem fits : Cert.Pre_finite.Facts where
  bitsLt_bf16_f32 := by decide
  bcast_S_S4096x128 := by decide
  reducesTo_S4096x128_S_d0_1 := by decide
  h_S_ := by decide
  bcast_S_S128x1024 := by decide
  reducesTo_S128x1024_S_d0_1 := by decide

/-- A number whose absolute value is below +∞ is real. -/
theorem real_of_below (x : EReal) (h : Ideal.cmp .olt (max x (-x)) (Ideal.ofBits .f32 0x7F800000#32) = 1#1) : ∃ v : ℝ, x = v := by
  have top : Ideal.ofBits .f32 0x7F800000#32 = ⊤ := by simp [Ideal.ofBits, Ideal.ieee]
  rw [top] at h
  have below : max x (-x) < ⊤ := by
    by_contra hn
    simp [Ideal.cmp, hn] at h
  induction x using EReal.rec with
  | bot => simp at below
  | top => simp at below
  | coe v => exact ⟨v, rfl⟩

/-- A scalar array has one index. -/
instance : Subsingleton Cert.Pre_finite.S_.Idx := inferInstanceAs (Subsingleton ((i : Fin 0) → _))

open Cert.LastIdeal in
/-- The precondition gives what the call's value takes. -/
theorem plain [Cert.Pre_finite.Facts] (m : (ℓ : Loc nD τ sig) → Buf (Elt Ideal) ℓ) (h : Cert.Pre_LastIdeal_finite m) (c : Dev nD) :
    Plain m c := by
  have e := congrFun (h c) (fun i => i.elim0)
  dsimp only [Cert.Pre_finite.fn] at e
  obtain ⟨e1, e2⟩ := IntOp.andi_eq_one.1 e
  exact ⟨fun i a => real_of_below _ (Host.reduce_andi_all _ _ _ _ _ e1 (ix2 i a)),
    fun a j => real_of_below _ (Host.reduce_andi_all _ _ _ _ _ e2 (ix2 a j))⟩

end Cert.Proof.Last

end
-- ==== Proof.lean ====
/-
  The claims: both frames of the kernel from its one run (Proof/Run.lean), the reference's from its own (Proof/RefRun.lean),
  and the value from the two ends and their equation (Proof/Value.lean). Of the shared expert's call, the frames are the
  generated ones, and the values those of Proof/SharedEnd.lean (the call) and Proof/SharedRef.lean (the reference); of the last call likewise,
  with Proof/LastEnd.lean and Proof/LastRef.lean, and its precondition read in Proof/LastPre.lean.
-/
module

public import proofs.«01_k».proof.Defs
public import proofs.«01_k».proof.Proof.Run
public import proofs.«01_k».proof.Proof.RefRun
public import proofs.«01_k».proof.Proof.Value
public import proofs.«01_k».proof.Proof.SharedRef
public import proofs.«01_k».proof.Proof.SharedEnd
public import proofs.«01_k».proof.Proof.LastRef
public import proofs.«01_k».proof.Proof.LastEnd
public import proofs.«01_k».proof.Proof.LastPre
public import proofs.«01_k».proof.Proof.Gen.Kernel
public import proofs.«01_k».proof.Proof.Gen.KernelIdeal
public import proofs.«01_k».proof.Proof.Gen.ReferenceIdeal
public import proofs.«01_k».proof.Proof.Gen.Shared
public import proofs.«01_k».proof.Proof.Gen.SharedIdeal
public import proofs.«01_k».proof.Proof.Gen.SharedIdeal.Value
public import proofs.«01_k».proof.Proof.Gen.SharedReferenceIdeal
public import proofs.«01_k».proof.Proof.Gen.SharedReferenceIdeal.Run
public import proofs.«01_k».proof.Proof.Gen.Last
public import proofs.«01_k».proof.Proof.Gen.LastIdeal
public import proofs.«01_k».proof.Proof.Gen.LastIdeal.Value
public import proofs.«01_k».proof.Proof.Gen.LastReferenceIdeal
public import proofs.«01_k».proof.Proof.Gen.LastReferenceIdeal.Run

@[expose] public section

noncomputable section

namespace Cert.Proof

open Idealize.ShloMosaic Idealize.ShloMosaic.TcCoe Idealize.SL.Sem

/-- The arguments of the kernel over float words. -/
def wordArgs : List (Ref Cert.Kernel.sig .tc) :=
  [Cert.Kernel.main_arg0, Cert.Kernel.main_arg1, Cert.Kernel.main_arg2, Cert.Kernel.main_arg3, Cert.Kernel.main_arg4, Cert.Kernel.main_arg5, Cert.Kernel.main_arg6, Cert.Kernel.main_arg7, Cert.Kernel.main_arg8, Cert.Kernel.main_arg9, Cert.Kernel.main_arg10, Cert.Kernel.main_arg11, Cert.Kernel.main_arg12, Cert.Kernel.main_arg13, Cert.Kernel.main_arg14, Cert.Kernel.main_arg15, Cert.Kernel.main_arg16, Cert.Kernel.main_arg17, Cert.Kernel.main_arg18, Cert.Kernel.main_arg19, Cert.Kernel.main_arg20, Cert.Kernel.main_arg21, Cert.Kernel.main_arg22]

/-- What the frame says of the kernel over float words, and the same of the program printed for the extended reals, read
    over float words: one statement, as the two programs have one text. -/
theorem same_frame :
    (∀ (m : (ℓ : Loc Cert.Kernel.nD Cert.Kernel.τ Cert.Kernel.sig) → Buf (Elt Bits) ℓ) (ρ : Dev Cert.Kernel.nD → PrngReg),
      θ_run (Cert.Kernel.defs (F := Bits)) (Cert.Kernel.threads (F := Bits)) ⟨m, fun _ => 0, ρ⟩ fun r =>
        (∀ c : Dev Cert.Kernel.nD, ∀ a ∈ wordArgs, r.2.mem (c, Proc.devRef .tc a) = m (c, Proc.devRef .tc a)) ∧ r.2.sem = fun _ => 0)
    = (∀ (m : (ℓ : Loc Cert.KernelIdeal.nD Cert.KernelIdeal.τ Cert.KernelIdeal.sig) → Buf (Elt Bits) ℓ) (ρ : Dev Cert.KernelIdeal.nD → PrngReg),
      θ_run (Cert.KernelIdeal.defs (F := Bits)) (Cert.KernelIdeal.threads (F := Bits)) ⟨m, fun _ => 0, ρ⟩ fun r =>
        (∀ c : Dev Cert.KernelIdeal.nD, ∀ a ∈ args, r.2.mem (c, Proc.devRef .tc a) = m (c, Proc.devRef .tc a)) ∧ r.2.sem = fun _ => 0) := by
  chain_rfl

/-- The whole kernel over float words: it ends, keeps its arguments and leaves every semaphore at zero. -/
theorem frame_kernel : Cert.quiescent_Kernel := fun m ρ _ =>
  (θ_run Cert.Kernel.defs _ _).mono (fun _ h => ⟨fun c => by and_intros <;> exact h.1 c _ (by decide), h.2⟩)
    (same_frame.mpr (fun m ρ => (θ_run Cert.KernelIdeal.defs _ _).mono (fun _ h => ⟨fun c => (h.1 c).1, h.2⟩) (run_main (F := Bits) m ρ)) m ρ)

/-- The whole kernel over the extended reals. -/
theorem frame_ideal : Cert.quiescent_KernelIdeal := fun m ρ _ =>
  (θ_run Cert.KernelIdeal.defs _ _).mono (fun _ h => ⟨fun c => by and_intros <;> exact (h.1 c).1 _ (by decide), h.2⟩) (run_main (F := Ideal) m ρ)

/-- The reference, which declares no semaphore. -/
theorem frame_reference : Cert.quiescent_ReferenceIdeal := fun m ρ _ =>
  (θ_run Cert.ReferenceIdeal.defs _ _).mono
    (fun r h => ⟨fun c => by and_intros <;> exact (h c).1 _ (by decide), sem_eq_zero_of_no_sems (by decide) r.2⟩) (Ref.run (F := Ideal) m ρ)

/-- Kernel and reference end with the same router loss. -/
theorem algebraic : Cert.algebraic_KernelIdeal_ReferenceIdeal := by
  intro m ρ m' ρ' _ hagree
  refine ⟨fun c => lossOf (F := Ideal) m c, ?_, ?_⟩
  · refine (θ_run Cert.KernelIdeal.defs _ _).mono (fun _ h c => ⟨(h.1 c).2, ?_⟩) (run_main (F := Ideal) m ρ)
    and_intros <;> exact (h.1 c).1 _ (by decide)
  · refine (θ_run Cert.ReferenceIdeal.defs _ _).mono (fun r h c => ⟨(h c).2.trans ?val, ?args⟩) (Ref.run (F := Ideal) m' ρ')
    case val =>
      obtain ⟨h0, h1, h2, h3, h4, -⟩ := hagree c
      refine .trans ?_ (lossOf_eq m c).symm
      exact congr (congr (congr (congr (congrArg Ref.result h0) h1) h2) h3) h4
    case args => and_intros <;> exact (h c).1 _ (by decide)

/-- The frame of the shared expert's call over float words, and of the program printed for the extended reals, read over
    float words. -/
theorem same_shared :
    (∀ (m : (ℓ : Loc Cert.Shared.nD Cert.Shared.τ Cert.Shared.sig) → Buf (Elt Bits) ℓ) (ρ : Dev Cert.Shared.nD → PrngReg),
      θ_run (Cert.Shared.defs (F := Bits)) (onTc (τ := Cert.Shared.τ) (Cert.Shared.main (F := Bits))) ⟨m, fun _ => 0, ρ⟩ fun r =>
        (∀ c : Dev Cert.Shared.nD, r.2.mem ((c : Thread Cert.Shared.nD Cert.Shared.τ).loc Cert.Shared.main_arg0) = m ((c : Thread Cert.Shared.nD Cert.Shared.τ).loc Cert.Shared.main_arg0)
          ∧ r.2.mem ((c : Thread Cert.Shared.nD Cert.Shared.τ).loc Cert.Shared.main_arg1) = m ((c : Thread Cert.Shared.nD Cert.Shared.τ).loc Cert.Shared.main_arg1)
          ∧ r.2.mem ((c : Thread Cert.Shared.nD Cert.Shared.τ).loc Cert.Shared.main_arg2) = m ((c : Thread Cert.Shared.nD Cert.Shared.τ).loc Cert.Shared.main_arg2)
          ∧ r.2.mem ((c : Thread Cert.Shared.nD Cert.Shared.τ).loc Cert.Shared.main_arg3) = m ((c : Thread Cert.Shared.nD Cert.Shared.τ).loc Cert.Shared.main_arg3)
          ∧ r.2.mem ((c : Thread Cert.Shared.nD Cert.Shared.τ).loc Cert.Shared.main_arg4) = m ((c : Thread Cert.Shared.nD Cert.Shared.τ).loc Cert.Shared.main_arg4)
          ∧ r.2.mem ((c : Thread Cert.Shared.nD Cert.Shared.τ).loc Cert.Shared.main_arg5) = m ((c : Thread Cert.Shared.nD Cert.Shared.τ).loc Cert.Shared.main_arg5)
          ∧ r.2.mem ((c : Thread Cert.Shared.nD Cert.Shared.τ).loc Cert.Shared.main_arg6) = m ((c : Thread Cert.Shared.nD Cert.Shared.τ).loc Cert.Shared.main_arg6)
          ∧ r.2.mem ((c : Thread Cert.Shared.nD Cert.Shared.τ).loc Cert.Shared.main_arg7) = m ((c : Thread Cert.Shared.nD Cert.Shared.τ).loc Cert.Shared.main_arg7)
          ∧ r.2.mem ((c : Thread Cert.Shared.nD Cert.Shared.τ).loc Cert.Shared.main_arg8) = m ((c : Thread Cert.Shared.nD Cert.Shared.τ).loc Cert.Shared.main_arg8)
          ∧ r.2.mem ((c : Thread Cert.Shared.nD Cert.Shared.τ).loc Cert.Shared.main_arg9) = m ((c : Thread Cert.Shared.nD Cert.Shared.τ).loc Cert.Shared.main_arg9)
          ∧ r.2.mem ((c : Thread Cert.Shared.nD Cert.Shared.τ).loc Cert.Shared.main_arg10) = m ((c : Thread Cert.Shared.nD Cert.Shared.τ).loc Cert.Shared.main_arg10)
          ∧ r.2.mem ((c : Thread Cert.Shared.nD Cert.Shared.τ).loc Cert.Shared.main_arg11) = m ((c : Thread Cert.Shared.nD Cert.Shared.τ).loc Cert.Shared.main_arg11)
          ∧ r.2.mem ((c : Thread Cert.Shared.nD Cert.Shared.τ).loc Cert.Shared.main_arg12) = m ((c : Thread Cert.Shared.nD Cert.Shared.τ).loc Cert.Shared.main_arg12)) ∧ r.2.sem = fun _ => 0)
    = (∀ (m : (ℓ : Loc Cert.SharedIdeal.nD Cert.SharedIdeal.τ Cert.SharedIdeal.sig) → Buf (Elt Bits) ℓ) (ρ : Dev Cert.SharedIdeal.nD → PrngReg),
      θ_run (Cert.SharedIdeal.defs (F := Bits)) (onTc (τ := Cert.SharedIdeal.τ) (Cert.SharedIdeal.main (F := Bits))) ⟨m, fun _ => 0, ρ⟩ fun r =>
        (∀ c : Dev Cert.SharedIdeal.nD, r.2.mem ((c : Thread Cert.SharedIdeal.nD Cert.SharedIdeal.τ).loc Cert.SharedIdeal.main_arg0) = m ((c : Thread Cert.SharedIdeal.nD Cert.SharedIdeal.τ).loc Cert.SharedIdeal.main_arg0)
          ∧ r.2.mem ((c : Thread Cert.SharedIdeal.nD Cert.SharedIdeal.τ).loc Cert.SharedIdeal.main_arg1) = m ((c : Thread Cert.SharedIdeal.nD Cert.SharedIdeal.τ).loc Cert.SharedIdeal.main_arg1)
          ∧ r.2.mem ((c : Thread Cert.SharedIdeal.nD Cert.SharedIdeal.τ).loc Cert.SharedIdeal.main_arg2) = m ((c : Thread Cert.SharedIdeal.nD Cert.SharedIdeal.τ).loc Cert.SharedIdeal.main_arg2)
          ∧ r.2.mem ((c : Thread Cert.SharedIdeal.nD Cert.SharedIdeal.τ).loc Cert.SharedIdeal.main_arg3) = m ((c : Thread Cert.SharedIdeal.nD Cert.SharedIdeal.τ).loc Cert.SharedIdeal.main_arg3)
          ∧ r.2.mem ((c : Thread Cert.SharedIdeal.nD Cert.SharedIdeal.τ).loc Cert.SharedIdeal.main_arg4) = m ((c : Thread Cert.SharedIdeal.nD Cert.SharedIdeal.τ).loc Cert.SharedIdeal.main_arg4)
          ∧ r.2.mem ((c : Thread Cert.SharedIdeal.nD Cert.SharedIdeal.τ).loc Cert.SharedIdeal.main_arg5) = m ((c : Thread Cert.SharedIdeal.nD Cert.SharedIdeal.τ).loc Cert.SharedIdeal.main_arg5)
          ∧ r.2.mem ((c : Thread Cert.SharedIdeal.nD Cert.SharedIdeal.τ).loc Cert.SharedIdeal.main_arg6) = m ((c : Thread Cert.SharedIdeal.nD Cert.SharedIdeal.τ).loc Cert.SharedIdeal.main_arg6)
          ∧ r.2.mem ((c : Thread Cert.SharedIdeal.nD Cert.SharedIdeal.τ).loc Cert.SharedIdeal.main_arg7) = m ((c : Thread Cert.SharedIdeal.nD Cert.SharedIdeal.τ).loc Cert.SharedIdeal.main_arg7)
          ∧ r.2.mem ((c : Thread Cert.SharedIdeal.nD Cert.SharedIdeal.τ).loc Cert.SharedIdeal.main_arg8) = m ((c : Thread Cert.SharedIdeal.nD Cert.SharedIdeal.τ).loc Cert.SharedIdeal.main_arg8)
          ∧ r.2.mem ((c : Thread Cert.SharedIdeal.nD Cert.SharedIdeal.τ).loc Cert.SharedIdeal.main_arg9) = m ((c : Thread Cert.SharedIdeal.nD Cert.SharedIdeal.τ).loc Cert.SharedIdeal.main_arg9)
          ∧ r.2.mem ((c : Thread Cert.SharedIdeal.nD Cert.SharedIdeal.τ).loc Cert.SharedIdeal.main_arg10) = m ((c : Thread Cert.SharedIdeal.nD Cert.SharedIdeal.τ).loc Cert.SharedIdeal.main_arg10)
          ∧ r.2.mem ((c : Thread Cert.SharedIdeal.nD Cert.SharedIdeal.τ).loc Cert.SharedIdeal.main_arg11) = m ((c : Thread Cert.SharedIdeal.nD Cert.SharedIdeal.τ).loc Cert.SharedIdeal.main_arg11)
          ∧ r.2.mem ((c : Thread Cert.SharedIdeal.nD Cert.SharedIdeal.τ).loc Cert.SharedIdeal.main_arg12) = m ((c : Thread Cert.SharedIdeal.nD Cert.SharedIdeal.τ).loc Cert.SharedIdeal.main_arg12)) ∧ r.2.sem = fun _ => 0) := by
  chain_rfl

/-- The shared expert's call over float words: the proof for any number type, at float words. -/
theorem frame_shared : Cert.quiescent_Shared := fun m ρ _ =>
  same_shared.mpr (fun m ρ => Cert.SharedIdeal.Gen.frame (F := Bits) m ρ) m ρ

/-- The shared expert's call over the extended reals. -/
theorem frame_shared_ideal : Cert.quiescent_SharedIdeal := fun m ρ _ => Cert.SharedIdeal.Gen.frame (F := Ideal) m ρ

/-- Its reference, which declares no semaphore. -/
theorem frame_shared_reference : Cert.quiescent_SharedReferenceIdeal := fun m ρ _ =>
  (θ_run Cert.SharedReferenceIdeal.defs _ _).mono
    (fun r h => ⟨fun c => by and_intros <;> exact (h c).2 _ (by decide), sem_eq_zero_of_no_sems (by decide) r.2⟩) (Expert.Ref.run m ρ)

/-- The shared expert's call and its reference end with the same four arrays. -/
theorem algebraic_shared : Cert.algebraic_SharedIdeal_SharedReferenceIdeal := by
  intro m ρ m' ρ' _ hagree
  refine ⟨fun c => Expert.Ref.outArr (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg5)) (m ((c.tc : Thread Cert.SharedIdeal.nD Cert.SharedIdeal.τ).loc Cert.SharedIdeal.main_arg6)) (m ((c.tc : Thread Cert.SharedIdeal.nD Cert.SharedIdeal.τ).loc Cert.SharedIdeal.main_arg7)) (m ((c.tc : Thread Cert.SharedIdeal.nD Cert.SharedIdeal.τ).loc Cert.SharedIdeal.main_arg12)),
    fun c => Expert.Ref.inArr (m ((c.tc : Thread Cert.SharedIdeal.nD Cert.SharedIdeal.τ).loc Cert.SharedIdeal.main_arg0)) (m ((c.tc : Thread Cert.SharedIdeal.nD Cert.SharedIdeal.τ).loc Cert.SharedIdeal.main_arg3)) (m ((c.tc : Thread Cert.SharedIdeal.nD Cert.SharedIdeal.τ).loc Cert.SharedIdeal.main_arg8)) (m ((c.tc : Thread Cert.SharedIdeal.nD Cert.SharedIdeal.τ).loc Cert.SharedIdeal.main_arg10)) (m ((c.tc : Thread Cert.SharedIdeal.nD Cert.SharedIdeal.τ).loc Cert.SharedIdeal.main_arg11)),
    fun c => Expert.Ref.hidArr (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg4)) (m ((c.tc : Thread Cert.SharedIdeal.nD Cert.SharedIdeal.τ).loc Cert.SharedIdeal.main_arg6)) (m ((c.tc : Thread Cert.SharedIdeal.nD Cert.SharedIdeal.τ).loc Cert.SharedIdeal.main_arg7)) (m ((c.tc : Thread Cert.SharedIdeal.nD Cert.SharedIdeal.τ).loc Cert.SharedIdeal.main_arg9)) (m ((c.tc : Thread Cert.SharedIdeal.nD Cert.SharedIdeal.τ).loc Cert.SharedIdeal.main_arg10)) (m ((c.tc : Thread Cert.SharedIdeal.nD Cert.SharedIdeal.τ).loc Cert.SharedIdeal.main_arg11)),
    fun c => Expert.Ref.lowArr (m ((c.tc : Thread Cert.SharedIdeal.nD Cert.SharedIdeal.τ).loc Cert.SharedIdeal.main_arg0)) (m ((c.tc : Thread Cert.SharedIdeal.nD Cert.SharedIdeal.τ).loc Cert.SharedIdeal.main_arg3)) (m ((c.tc : Thread Cert.SharedIdeal.nD Cert.SharedIdeal.τ).loc Cert.SharedIdeal.main_arg10)) (m ((c.tc : Thread Cert.SharedIdeal.nD Cert.SharedIdeal.τ).loc Cert.SharedIdeal.main_arg11)), ?_, ?_⟩
  · refine (θ_run Cert.SharedIdeal.defs _ _).mono (fun r h c => ?_) (Cert.SharedIdeal.Value.run_blocks (F := Ideal) m ρ)
    obtain ⟨h0, h1, h2, h3, hk⟩ := h c
    exact ⟨h0.trans (Expert.end13 m c), h1.trans (Expert.end14 m c), h2.trans (Expert.end15 m c), h3.trans (Expert.end16 m c), hk⟩
  · refine (θ_run Cert.SharedReferenceIdeal.defs _ _).mono (fun r h c => ?_) (Expert.Ref.run m' ρ')
    obtain ⟨⟨h0, h1, h2, h3⟩, hk⟩ := h c
    obtain ⟨a0, a1, a2, a3, a4, a5, a6, a7, a8, a9, a10, a11, a12⟩ := hagree c
    refine ⟨h0.trans ?_, h1.trans ?_, h2.trans ?_, h3.trans ?_, ?_⟩
    · exact congr (congr (congr (congr (congr (congr (congrArg Expert.Ref.outArr a0) a1) a2) a5) a6) a7) a12
    · exact congr (congr (congr (congr (congrArg Expert.Ref.inArr a0) a3) a8) a10) a11
    · exact congr (congr (congr (congr (congr (congr (congr (congr (congrArg Expert.Ref.hidArr a0) a1) a2) a4) a6) a7) a9) a10) a11
    · exact congr (congr (congr (congrArg Expert.Ref.lowArr a0) a3) a10) a11
    · and_intros <;> exact hk _ (by decide)

/-- The frame of the last call over float words, and of the program printed for the extended reals, read over float words. -/
theorem same_last :
    (∀ (m : (ℓ : Loc Cert.Last.nD Cert.Last.τ Cert.Last.sig) → Buf (Elt Bits) ℓ) (ρ : Dev Cert.Last.nD → PrngReg),
      θ_run (Cert.Last.defs (F := Bits)) (onTc (τ := Cert.Last.τ) (Cert.Last.main (F := Bits))) ⟨m, fun _ => 0, ρ⟩ fun r =>
        (∀ c : Dev Cert.Last.nD, r.2.mem ((c : Thread Cert.Last.nD Cert.Last.τ).loc Cert.Last.main_arg0) = m ((c : Thread Cert.Last.nD Cert.Last.τ).loc Cert.Last.main_arg0)
          ∧ r.2.mem ((c : Thread Cert.Last.nD Cert.Last.τ).loc Cert.Last.main_arg1) = m ((c : Thread Cert.Last.nD Cert.Last.τ).loc Cert.Last.main_arg1)
          ∧ r.2.mem ((c : Thread Cert.Last.nD Cert.Last.τ).loc Cert.Last.main_arg2) = m ((c : Thread Cert.Last.nD Cert.Last.τ).loc Cert.Last.main_arg2)
          ∧ r.2.mem ((c : Thread Cert.Last.nD Cert.Last.τ).loc Cert.Last.main_arg3) = m ((c : Thread Cert.Last.nD Cert.Last.τ).loc Cert.Last.main_arg3)
          ∧ r.2.mem ((c : Thread Cert.Last.nD Cert.Last.τ).loc Cert.Last.main_arg4) = m ((c : Thread Cert.Last.nD Cert.Last.τ).loc Cert.Last.main_arg4)
          ∧ r.2.mem ((c : Thread Cert.Last.nD Cert.Last.τ).loc Cert.Last.main_arg5) = m ((c : Thread Cert.Last.nD Cert.Last.τ).loc Cert.Last.main_arg5)
          ∧ r.2.mem ((c : Thread Cert.Last.nD Cert.Last.τ).loc Cert.Last.main_arg6) = m ((c : Thread Cert.Last.nD Cert.Last.τ).loc Cert.Last.main_arg6)
          ∧ r.2.mem ((c : Thread Cert.Last.nD Cert.Last.τ).loc Cert.Last.main_arg7) = m ((c : Thread Cert.Last.nD Cert.Last.τ).loc Cert.Last.main_arg7)
          ∧ r.2.mem ((c : Thread Cert.Last.nD Cert.Last.τ).loc Cert.Last.main_arg8) = m ((c : Thread Cert.Last.nD Cert.Last.τ).loc Cert.Last.main_arg8)
          ∧ r.2.mem ((c : Thread Cert.Last.nD Cert.Last.τ).loc Cert.Last.main_arg9) = m ((c : Thread Cert.Last.nD Cert.Last.τ).loc Cert.Last.main_arg9)
          ∧ r.2.mem ((c : Thread Cert.Last.nD Cert.Last.τ).loc Cert.Last.main_arg10) = m ((c : Thread Cert.Last.nD Cert.Last.τ).loc Cert.Last.main_arg10)) ∧ r.2.sem = fun _ => 0)
    = (∀ (m : (ℓ : Loc Cert.LastIdeal.nD Cert.LastIdeal.τ Cert.LastIdeal.sig) → Buf (Elt Bits) ℓ) (ρ : Dev Cert.LastIdeal.nD → PrngReg),
      θ_run (Cert.LastIdeal.defs (F := Bits)) (onTc (τ := Cert.LastIdeal.τ) (Cert.LastIdeal.main (F := Bits))) ⟨m, fun _ => 0, ρ⟩ fun r =>
        (∀ c : Dev Cert.LastIdeal.nD, r.2.mem ((c : Thread Cert.LastIdeal.nD Cert.LastIdeal.τ).loc Cert.LastIdeal.main_arg0) = m ((c : Thread Cert.LastIdeal.nD Cert.LastIdeal.τ).loc Cert.LastIdeal.main_arg0)
          ∧ r.2.mem ((c : Thread Cert.LastIdeal.nD Cert.LastIdeal.τ).loc Cert.LastIdeal.main_arg1) = m ((c : Thread Cert.LastIdeal.nD Cert.LastIdeal.τ).loc Cert.LastIdeal.main_arg1)
          ∧ r.2.mem ((c : Thread Cert.LastIdeal.nD Cert.LastIdeal.τ).loc Cert.LastIdeal.main_arg2) = m ((c : Thread Cert.LastIdeal.nD Cert.LastIdeal.τ).loc Cert.LastIdeal.main_arg2)
          ∧ r.2.mem ((c : Thread Cert.LastIdeal.nD Cert.LastIdeal.τ).loc Cert.LastIdeal.main_arg3) = m ((c : Thread Cert.LastIdeal.nD Cert.LastIdeal.τ).loc Cert.LastIdeal.main_arg3)
          ∧ r.2.mem ((c : Thread Cert.LastIdeal.nD Cert.LastIdeal.τ).loc Cert.LastIdeal.main_arg4) = m ((c : Thread Cert.LastIdeal.nD Cert.LastIdeal.τ).loc Cert.LastIdeal.main_arg4)
          ∧ r.2.mem ((c : Thread Cert.LastIdeal.nD Cert.LastIdeal.τ).loc Cert.LastIdeal.main_arg5) = m ((c : Thread Cert.LastIdeal.nD Cert.LastIdeal.τ).loc Cert.LastIdeal.main_arg5)
          ∧ r.2.mem ((c : Thread Cert.LastIdeal.nD Cert.LastIdeal.τ).loc Cert.LastIdeal.main_arg6) = m ((c : Thread Cert.LastIdeal.nD Cert.LastIdeal.τ).loc Cert.LastIdeal.main_arg6)
          ∧ r.2.mem ((c : Thread Cert.LastIdeal.nD Cert.LastIdeal.τ).loc Cert.LastIdeal.main_arg7) = m ((c : Thread Cert.LastIdeal.nD Cert.LastIdeal.τ).loc Cert.LastIdeal.main_arg7)
          ∧ r.2.mem ((c : Thread Cert.LastIdeal.nD Cert.LastIdeal.τ).loc Cert.LastIdeal.main_arg8) = m ((c : Thread Cert.LastIdeal.nD Cert.LastIdeal.τ).loc Cert.LastIdeal.main_arg8)
          ∧ r.2.mem ((c : Thread Cert.LastIdeal.nD Cert.LastIdeal.τ).loc Cert.LastIdeal.main_arg9) = m ((c : Thread Cert.LastIdeal.nD Cert.LastIdeal.τ).loc Cert.LastIdeal.main_arg9)
          ∧ r.2.mem ((c : Thread Cert.LastIdeal.nD Cert.LastIdeal.τ).loc Cert.LastIdeal.main_arg10) = m ((c : Thread Cert.LastIdeal.nD Cert.LastIdeal.τ).loc Cert.LastIdeal.main_arg10)) ∧ r.2.sem = fun _ => 0) := by
  chain_rfl

/-- The last call over float words: the proof for any number type, at float words. -/
theorem frame_last : Cert.quiescent_Last := fun m ρ _ =>
  same_last.mpr (fun m ρ => Cert.LastIdeal.Gen.frame (F := Bits) m ρ) m ρ

/-- The last call over the extended reals. -/
theorem frame_last_ideal : Cert.quiescent_LastIdeal := fun m ρ _ => Cert.LastIdeal.Gen.frame (F := Ideal) m ρ

/-- Its reference, which declares no semaphore. -/
theorem frame_last_reference : Cert.quiescent_LastReferenceIdeal := fun m ρ _ =>
  (θ_run Cert.LastReferenceIdeal.defs _ _).mono
    (fun r h => ⟨fun c => by and_intros <;> exact (h c).2 _ (by decide), sem_eq_zero_of_no_sems (by decide) r.2⟩) (Last.Ref.run m ρ)

/-- The last call and its reference end with the same y where the normed tokens and the experts' weights are real. -/
theorem algebraic_last [Cert.Pre_finite.Facts] : Cert.algebraic_LastIdeal_LastReferenceIdeal_pre_finite := by
  intro m ρ m' ρ' hpre hagree
  refine ⟨fun c => Last.endOf m c, ?_, ?_⟩
  · refine (θ_run Cert.LastIdeal.defs _ _).mono (fun r h c => ?_) (Cert.LastIdeal.Value.run_blocks (F := Ideal) m ρ)
    obtain ⟨h0, -, -, hk⟩ := h c
    exact ⟨h0.trans (Last.end12 m c (Last.plain m hpre c)), hk⟩
  · refine (θ_run Cert.LastReferenceIdeal.defs _ _).mono (fun r h c => ?_) (Last.Ref.run m' ρ')
    obtain ⟨h0, hk⟩ := h c
    obtain ⟨a0, a1, a2, a3, a4, a5, a6, a7, a8, a9, -⟩ := hagree c
    refine ⟨h0.trans ?_, ?_⟩
    · exact congr (congr (congr (congr (congr (congr (congr (congr (congr (congrArg Last.Ref.outArr a0) a1) a2) a3) a4) a5) a6) a7) a8) a9
    · and_intros <;> exact hk _ (by decide)

theorem claim : Cert.Claim :=
  ⟨Cert.Kernel.Gen.facts, Cert.KernelIdeal.Gen.facts, Cert.ReferenceIdeal.Gen.facts, Cert.Shared.Gen.facts, Cert.SharedIdeal.Gen.facts,
    Cert.SharedReferenceIdeal.Gen.facts, Cert.Last.Gen.facts, Cert.LastIdeal.Gen.facts, Cert.LastReferenceIdeal.Gen.facts, Last.fits,
    frame_kernel, frame_ideal, frame_reference, frame_shared, frame_shared_ideal, frame_shared_reference, frame_last,
    frame_last_ideal, fun m ρ _ => frame_last_ideal m ρ trivial, frame_last_reference, fun m ρ _ => frame_last_reference m ρ trivial,
    trivial, algebraic, trivial, algebraic_shared, trivial, @algebraic_last Last.fits⟩

end Cert.Proof

end
